-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 8192]⟩ ⟨2, ![2048, 8192]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2048x1024 : Shape := ⟨2, ![2048, 1024]⟩
abbrev S1024x1024 : Shape := ⟨2, ![1024, 1024]⟩
abbrev S2 : Shape := ⟨1, ![2]⟩
abbrev S4 : Shape := ⟨1, ![4]⟩
abbrev S4x2 : Shape := ⟨2, ![4, 2]⟩
abbrev S3x2 : Shape := ⟨2, ![3, 2]⟩
abbrev S_ : Shape := ⟨0, ![]⟩
abbrev S1 : Shape := ⟨1, ![1]⟩
abbrev S2048x512 : Shape := ⟨2, ![2048, 512]⟩
abbrev S2048x256 : Shape := ⟨2, ![2048, 256]⟩
abbrev S1024x256 : Shape := ⟨2, ![1024, 256]⟩
abbrev S1024x512 : Shape := ⟨2, ![1024, 512]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .f32⟩
  | .local _ .vmem, ⟨0, _⟩ => ⟨S2048x2048, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_9 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_8 : BitVec 32 := 8#32
  let v18 : BitVec 32 := Scalar.muli v13 c8_i32_8
  let v19 : BitVec 32 := Scalar.addi c0_i32_9 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_10 : BitVec 32 := 4#32
  let v20 : BitVec 32 := Scalar.muli v5 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v22 : BitVec 32 := Scalar.muli v8 c1_i32_11
  let v23 : BitVec 32 := Scalar.addi v21 v22
  v23.toNat
def k0_dev2 (d0 : Dev nD) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v24 : BitVec 32 := Scalar.muli v2 c8_i32_13
  let v25 : BitVec 32 := Scalar.addi c0_i32_14 v24
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_4 v5
  let c4_i32_15 : BitVec 32 := 4#32
  let v26 : BitVec 32 := Scalar.muli v14 c4_i32_15
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v28 : BitVec 32 := Scalar.muli v8 c1_i32_16
  let v29 : BitVec 32 := Scalar.addi v27 v28
  v29.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let v30 : BitVec 32 := Scalar.extui v11
  let c0_i32_17 : BitVec 32 := 0#32
  let v31 : BitVec 1 := Scalar.cmpi .ne v30 c0_i32_17
  v31

def k0_dev3 (d0 : Dev nD) : Nat :=
  let c0_i32_461 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_460 : BitVec 32 := 8#32
  let v519 : BitVec 32 := Scalar.muli v2 c8_i32_460
  let v520 : BitVec 32 := Scalar.addi c0_i32_461 v519
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_462 : BitVec 32 := 4#32
  let v521 : BitVec 32 := Scalar.muli v5 c4_i32_462
  let v522 : BitVec 32 := Scalar.addi v520 v521
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_463 : BitVec 32 := 1#32
  let v523 : BitVec 32 := Scalar.muli v16 c1_i32_463
  let v524 : BitVec 32 := Scalar.addi v522 v523
  v524.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let v32 : BitVec 32 := Scalar.extui v12
  let c0_i32_18 : BitVec 32 := 0#32
  let v33 : BitVec 1 := Scalar.cmpi .ne v32 c0_i32_18
  v33

def k0_dev4 (d0 : Dev nD) : Nat :=
  let c0_i32_461 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_460 : BitVec 32 := 8#32
  let v519 : BitVec 32 := Scalar.muli v2 c8_i32_460
  let v520 : BitVec 32 := Scalar.addi c0_i32_461 v519
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_462 : BitVec 32 := 4#32
  let v521 : BitVec 32 := Scalar.muli v5 c4_i32_462
  let v522 : BitVec 32 := Scalar.addi v520 v521
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_463 : BitVec 32 := 1#32
  let v523 : BitVec 32 := Scalar.muli v15 c1_i32_463
  let v524 : BitVec 32 := Scalar.addi v522 v523
  v524.toNat
def k0_off1 (d0 : Dev nD) (c0_i32_19 : BitVec 32) : Fin 2 → Nat :=
  let c0_i32_24 : BitVec 32 := 0#32
  let c2_i32_2 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.muli c2_i32_2 v8
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.addi v9 v2
  let c1024_i32 : BitVec 32 := 1024#32
  let v34 : BitVec 32 := Scalar.muli v10 c1024_i32
  let v35 : BitVec 32 := Scalar.addi v34 c0_i32_19
  ![0, v35.toNat]
def k0_off2 (d0 : Dev nD) : Fin 2 → Nat :=
  let c0 : Index := 0#32
  let c1_i32_29 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v46 : BitVec 32 := Scalar.subi c1_i32_29 v5
  let c1024_i32_30 : BitVec 32 := 1024#32
  let v47 : BitVec 32 := Scalar.muli v46 c1024_i32_30
  let v53 : Index := Scalar.indexCast v47
  ![0, v53.toNat]
def k0_amt1 (d0 : Dev nD) : BitVec 32 :=
  let c2_i32_40 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let v61 : BitVec 32 := Scalar.extui v11
  let v62 : BitVec 32 := Scalar.addi c2_i32_40 v61
  let c3_i32 : BitVec 32 := 3#32
  let v12 : BitVec 1 := Scalar.cmpi .slt v8 c3_i32
  let v63 : BitVec 32 := Scalar.extui v12
  let v64 : BitVec 32 := Scalar.addi v62 v63
  v64

def k0_dev5 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v65 : BitVec 32 := Scalar.muli v2 c8_i32_43
  let v66 : BitVec 32 := Scalar.addi c0_i32_44 v65
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_4 v5
  let c4_i32_45 : BitVec 32 := 4#32
  let v67 : BitVec 32 := Scalar.muli v14 c4_i32_45
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v69 : BitVec 32 := Scalar.muli v8 c1_i32_46
  let v70 : BitVec 32 := Scalar.addi v68 v69
  v70.toNat
def k0_dev6 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v85 : BitVec 32 := Scalar.muli v2 c8_i32_58
  let v86 : BitVec 32 := Scalar.addi c0_i32_59 v85
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_4 v5
  let c4_i32_60 : BitVec 32 := 4#32
  let v87 : BitVec 32 := Scalar.muli v14 c4_i32_60
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v89 : BitVec 32 := Scalar.muli v8 c1_i32_61
  let v90 : BitVec 32 := Scalar.addi v88 v89
  v90.toNat
def k0_off3 (d0 : Dev nD) : Fin 2 → Nat :=
  let c0_65 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_31 : BitVec 32 := 1024#32
  let v48 : BitVec 32 := Scalar.muli v5 c1024_i32_31
  let v97 : Index := Scalar.indexCast v48
  ![0, v97.toNat]
def k0_off4 (d0 : Dev nD) (c0_i32_113 : BitVec 32) : Fin 2 → Nat :=
  let c0_i32_115 : BitVec 32 := 0#32
  let c2_i32_111 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v139 : BitVec 32 := Scalar.muli c2_i32_111 v8
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v140 : BitVec 32 := Scalar.addi v139 v2
  let c1024_i32_112 : BitVec 32 := 1024#32
  let v141 : BitVec 32 := Scalar.muli v140 c1024_i32_112
  let v142 : BitVec 32 := Scalar.addi v141 c0_i32_113
  ![0, v142.toNat]
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_122 : BitVec 32 := 0#32
  ![v8.toNat, 0]
def k0_dev7 (d0 : Dev nD) : Nat :=
  let c0_i32_124 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_123 : BitVec 32 := 8#32
  let v151 : BitVec 32 := Scalar.muli v13 c8_i32_123
  let v152 : BitVec 32 := Scalar.addi c0_i32_124 v151
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v153 : BitVec 32 := Scalar.muli v5 c4_i32_125
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v155 : BitVec 32 := Scalar.muli v8 c1_i32_126
  let v156 : BitVec 32 := Scalar.addi v154 v155
  v156.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let v163 : BitVec 32 := Scalar.extui v12
  let c0_i32_130 : BitVec 32 := 0#32
  let v164 : BitVec 1 := Scalar.cmpi .ne v163 c0_i32_130
  v164

def k0_off6 (d0 : Dev nD) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v519 : BitVec 32 := Scalar.muli c2_i32_459 v8
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let c0_i32_461 : BitVec 32 := 0#32
  let v522 : BitVec 32 := Scalar.addi v521 c0_i32_461
  ![0, v522.toNat]
def k0_dev8 (d0 : Dev nD) : Nat :=
  let c0_i32_467 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_466 : BitVec 32 := 8#32
  let v523 : BitVec 32 := Scalar.muli v2 c8_i32_466
  let v524 : BitVec 32 := Scalar.addi c0_i32_467 v523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_468 : BitVec 32 := 4#32
  let v525 : BitVec 32 := Scalar.muli v5 c4_i32_468
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_469 : BitVec 32 := 1#32
  let v527 : BitVec 32 := Scalar.muli v15 c1_i32_469
  let v528 : BitVec 32 := Scalar.addi v526 v527
  v528.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let v165 : BitVec 32 := Scalar.extui v11
  let c0_i32_131 : BitVec 32 := 0#32
  let v166 : BitVec 1 := Scalar.cmpi .ne v165 c0_i32_131
  v166

def k0_off7 (d0 : Dev nD) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v519 : BitVec 32 := Scalar.muli c2_i32_459 v8
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let c0_i32_461 : BitVec 32 := 0#32
  let v522 : BitVec 32 := Scalar.addi v521 c0_i32_461
  ![0, v522.toNat]
def k0_dev9 (d0 : Dev nD) : Nat :=
  let c0_i32_467 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_466 : BitVec 32 := 8#32
  let v523 : BitVec 32 := Scalar.muli v2 c8_i32_466
  let v524 : BitVec 32 := Scalar.addi c0_i32_467 v523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_468 : BitVec 32 := 4#32
  let v525 : BitVec 32 := Scalar.muli v5 c4_i32_468
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_469 : BitVec 32 := 1#32
  let v527 : BitVec 32 := Scalar.muli v16 c1_i32_469
  let v528 : BitVec 32 := Scalar.addi v526 v527
  v528.toNat
def k0_dev10 (d0 : Dev nD) : Nat :=
  let c0_i32_144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_143 : BitVec 32 := 8#32
  let v179 : BitVec 32 := Scalar.muli v2 c8_i32_143
  let v180 : BitVec 32 := Scalar.addi c0_i32_144 v179
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_4 v5
  let c4_i32_145 : BitVec 32 := 4#32
  let v181 : BitVec 32 := Scalar.muli v14 c4_i32_145
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v183 : BitVec 32 := Scalar.muli v8 c1_i32_146
  let v184 : BitVec 32 := Scalar.addi v182 v183
  v184.toNat
def k0_dev11 (d0 : Dev nD) : Nat :=
  let c0_i32_159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_158 : BitVec 32 := 8#32
  let v199 : BitVec 32 := Scalar.muli v2 c8_i32_158
  let v200 : BitVec 32 := Scalar.addi c0_i32_159 v199
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_4 v5
  let c4_i32_160 : BitVec 32 := 4#32
  let v201 : BitVec 32 := Scalar.muli v14 c4_i32_160
  let v202 : BitVec 32 := Scalar.addi v200 v201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v203 : BitVec 32 := Scalar.muli v8 c1_i32_161
  let v204 : BitVec 32 := Scalar.addi v202 v203
  v204.toNat
def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  ![v8.toNat, 1]
def k0_dev12 (d0 : Dev nD) : Nat :=
  let c0_i32_224 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_223 : BitVec 32 := 8#32
  let v265 : BitVec 32 := Scalar.muli v13 c8_i32_223
  let v266 : BitVec 32 := Scalar.addi c0_i32_224 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_225 : BitVec 32 := 4#32
  let v267 : BitVec 32 := Scalar.muli v5 c4_i32_225
  let v268 : BitVec 32 := Scalar.addi v266 v267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v269 : BitVec 32 := Scalar.muli v8 c1_i32_226
  let v270 : BitVec 32 := Scalar.addi v268 v269
  v270.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let v277 : BitVec 32 := Scalar.extui v12
  let c0_i32_230 : BitVec 32 := 0#32
  let v278 : BitVec 1 := Scalar.cmpi .ne v277 c0_i32_230
  v278

def k0_off9 (d0 : Dev nD) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v519 : BitVec 32 := Scalar.muli c2_i32_459 v8
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let c512_i32_461 : BitVec 32 := 512#32
  let v522 : BitVec 32 := Scalar.addi v521 c512_i32_461
  ![0, v522.toNat]
def k0_dev13 (d0 : Dev nD) : Nat :=
  let c0_i32_467 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_466 : BitVec 32 := 8#32
  let v523 : BitVec 32 := Scalar.muli v2 c8_i32_466
  let v524 : BitVec 32 := Scalar.addi c0_i32_467 v523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_468 : BitVec 32 := 4#32
  let v525 : BitVec 32 := Scalar.muli v5 c4_i32_468
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_469 : BitVec 32 := 1#32
  let v527 : BitVec 32 := Scalar.muli v15 c1_i32_469
  let v528 : BitVec 32 := Scalar.addi v526 v527
  v528.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let v279 : BitVec 32 := Scalar.extui v11
  let c0_i32_231 : BitVec 32 := 0#32
  let v280 : BitVec 1 := Scalar.cmpi .ne v279 c0_i32_231
  v280

def k0_off10 (d0 : Dev nD) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v519 : BitVec 32 := Scalar.muli c2_i32_459 v8
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let c512_i32_461 : BitVec 32 := 512#32
  let v522 : BitVec 32 := Scalar.addi v521 c512_i32_461
  ![0, v522.toNat]
def k0_dev14 (d0 : Dev nD) : Nat :=
  let c0_i32_467 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_466 : BitVec 32 := 8#32
  let v523 : BitVec 32 := Scalar.muli v2 c8_i32_466
  let v524 : BitVec 32 := Scalar.addi c0_i32_467 v523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_468 : BitVec 32 := 4#32
  let v525 : BitVec 32 := Scalar.muli v5 c4_i32_468
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_469 : BitVec 32 := 1#32
  let v527 : BitVec 32 := Scalar.muli v16 c1_i32_469
  let v528 : BitVec 32 := Scalar.addi v526 v527
  v528.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let c1_i32_232 : BitVec 32 := 1#32
  let v281 : BitVec 32 := Scalar.subi v8 c1_i32_232
  let c0_i32_233 : BitVec 32 := 0#32
  let v282 : BitVec 32 := Scalar.subi v281 c0_i32_233
  let c0_i32_236 : BitVec 32 := 0#32
  let v285 : BitVec 1 := Scalar.cmpi .sge v282 c0_i32_236
  let v286 : BitVec 1 := Scalar.andi v11 v285
  let v287 : BitVec 32 := Scalar.extui v286
  let c0_i32_237 : BitVec 32 := 0#32
  let v288 : BitVec 1 := Scalar.cmpi .ne v287 c0_i32_237
  v288

def k0_off11 (d0 : Dev nD) (c0_i32_461 : BitVec 32) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v281 : BitVec 32 := Scalar.subi v8 c1_i32_232
  let c0_i32_233 : BitVec 32 := 0#32
  let v282 : BitVec 32 := Scalar.subi v281 c0_i32_233
  let v519 : BitVec 32 := Scalar.muli c2_i32_459 v282
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let v522 : BitVec 32 := Scalar.addi v521 c0_i32_461
  ![0, v522.toNat]
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let v537 : BitVec 32 := Scalar.extui v12
  let c0_i32_476 : BitVec 32 := 0#32
  let v538 : BitVec 1 := Scalar.cmpi .ne v537 c0_i32_476
  v538

def k0_off12 (d0 : Dev nD) : Fin 2 → Nat :=
  let c0_i32_519 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v281 : BitVec 32 := Scalar.subi v8 c1_i32_232
  let c0_i32_233 : BitVec 32 := 0#32
  let v282 : BitVec 32 := Scalar.subi v281 c0_i32_233
  let v578 : BitVec 32 := Scalar.muli c2_i32_508 v282
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c0_i32_510 : BitVec 32 := 0#32
  let v581 : BitVec 32 := Scalar.addi v580 c0_i32_510
  ![0, v581.toNat]
def k0_dev15 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v582 : BitVec 32 := Scalar.muli v2 c8_i32_515
  let v583 : BitVec 32 := Scalar.addi c0_i32_516 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v584 : BitVec 32 := Scalar.muli v5 c4_i32_517
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_518 : BitVec 32 := 1#32
  let v586 : BitVec 32 := Scalar.muli v15 c1_i32_518
  let v587 : BitVec 32 := Scalar.addi v585 v586
  v587.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v281 : BitVec 32 := Scalar.subi v8 c1_i32_232
  let c0_i32_233 : BitVec 32 := 0#32
  let v282 : BitVec 32 := Scalar.subi v281 c0_i32_233
  let c0_i32_477 : BitVec 32 := 0#32
  let v539 : BitVec 1 := Scalar.cmpi .ne v282 c0_i32_477
  let v540 : BitVec 32 := Scalar.extui v539
  let c0_i32_478 : BitVec 32 := 0#32
  let v541 : BitVec 1 := Scalar.cmpi .ne v540 c0_i32_478
  v541

def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v281 : BitVec 32 := Scalar.subi v8 c1_i32_232
  let c0_i32_233 : BitVec 32 := 0#32
  let v282 : BitVec 32 := Scalar.subi v281 c0_i32_233
  let c0_i32_512 : BitVec 32 := 0#32
  ![v282.toNat, 0]
def k0_off14 (d0 : Dev nD) : Fin 2 → Nat :=
  let c0_i32_517 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v281 : BitVec 32 := Scalar.subi v8 c1_i32_232
  let c0_i32_233 : BitVec 32 := 0#32
  let v282 : BitVec 32 := Scalar.subi v281 c0_i32_233
  let v578 : BitVec 32 := Scalar.muli c2_i32_508 v282
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c0_i32_510 : BitVec 32 := 0#32
  let v581 : BitVec 32 := Scalar.addi v580 c0_i32_510
  ![0, v581.toNat]
def k0_dev16 (d0 : Dev nD) : Nat :=
  let c0_i32_514 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_513 : BitVec 32 := 8#32
  let v582 : BitVec 32 := Scalar.muli v13 c8_i32_513
  let v583 : BitVec 32 := Scalar.addi c0_i32_514 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_515 : BitVec 32 := 4#32
  let v584 : BitVec 32 := Scalar.muli v5 c4_i32_515
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_516 : BitVec 32 := 1#32
  let v586 : BitVec 32 := Scalar.muli v8 c1_i32_516
  let v587 : BitVec 32 := Scalar.addi v585 v586
  v587.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let v560 : BitVec 32 := Scalar.extui v12
  let c0_i32_496 : BitVec 32 := 0#32
  let v561 : BitVec 1 := Scalar.cmpi .ne v560 c0_i32_496
  v561

def k0_off15 (d0 : Dev nD) : Fin 2 → Nat :=
  let c0_i32_519 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v281 : BitVec 32 := Scalar.subi v8 c1_i32_232
  let c0_i32_233 : BitVec 32 := 0#32
  let v282 : BitVec 32 := Scalar.subi v281 c0_i32_233
  let v578 : BitVec 32 := Scalar.muli c2_i32_508 v282
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c512_i32_510 : BitVec 32 := 512#32
  let v581 : BitVec 32 := Scalar.addi v580 c512_i32_510
  ![0, v581.toNat]
def k0_dev17 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v582 : BitVec 32 := Scalar.muli v2 c8_i32_515
  let v583 : BitVec 32 := Scalar.addi c0_i32_516 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v584 : BitVec 32 := Scalar.muli v5 c4_i32_517
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_518 : BitVec 32 := 1#32
  let v586 : BitVec 32 := Scalar.muli v15 c1_i32_518
  let v587 : BitVec 32 := Scalar.addi v585 v586
  v587.toNat
def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v281 : BitVec 32 := Scalar.subi v8 c1_i32_232
  let c0_i32_233 : BitVec 32 := 0#32
  let v282 : BitVec 32 := Scalar.subi v281 c0_i32_233
  let c1_i32_501 : BitVec 32 := 1#32
  ![v282.toNat, 1]
def k0_dev18 (d0 : Dev nD) : Nat :=
  let c0_i32_503 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_502 : BitVec 32 := 8#32
  let v566 : BitVec 32 := Scalar.muli v13 c8_i32_502
  let v567 : BitVec 32 := Scalar.addi c0_i32_503 v566
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_504 : BitVec 32 := 4#32
  let v568 : BitVec 32 := Scalar.muli v5 c4_i32_504
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v570 : BitVec 32 := Scalar.muli v8 c1_i32_505
  let v571 : BitVec 32 := Scalar.addi v569 v570
  v571.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let c1_i32_234 : BitVec 32 := 1#32
  let v283 : BitVec 32 := Scalar.addi v8 c1_i32_234
  let c0_i32_235 : BitVec 32 := 0#32
  let v284 : BitVec 32 := Scalar.addi v283 c0_i32_235
  let c3_i32_238 : BitVec 32 := 3#32
  let v289 : BitVec 1 := Scalar.cmpi .sle v284 c3_i32_238
  let v290 : BitVec 1 := Scalar.andi v12 v289
  let v291 : BitVec 32 := Scalar.extui v290
  let c0_i32_239 : BitVec 32 := 0#32
  let v292 : BitVec 1 := Scalar.cmpi .ne v291 c0_i32_239
  v292

def k0_off17 (d0 : Dev nD) (c0_i32_461 : BitVec 32) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v283 : BitVec 32 := Scalar.addi v8 c1_i32_234
  let c0_i32_235 : BitVec 32 := 0#32
  let v284 : BitVec 32 := Scalar.addi v283 c0_i32_235
  let v519 : BitVec 32 := Scalar.muli c2_i32_459 v284
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let v522 : BitVec 32 := Scalar.addi v521 c0_i32_461
  ![0, v522.toNat]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let v537 : BitVec 32 := Scalar.extui v11
  let c0_i32_476 : BitVec 32 := 0#32
  let v538 : BitVec 1 := Scalar.cmpi .ne v537 c0_i32_476
  v538

def k0_off18 (d0 : Dev nD) : Fin 2 → Nat :=
  let c0_i32_519 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v283 : BitVec 32 := Scalar.addi v8 c1_i32_234
  let c0_i32_235 : BitVec 32 := 0#32
  let v284 : BitVec 32 := Scalar.addi v283 c0_i32_235
  let v578 : BitVec 32 := Scalar.muli c2_i32_508 v284
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c0_i32_510 : BitVec 32 := 0#32
  let v581 : BitVec 32 := Scalar.addi v580 c0_i32_510
  ![0, v581.toNat]
def k0_dev19 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v582 : BitVec 32 := Scalar.muli v2 c8_i32_515
  let v583 : BitVec 32 := Scalar.addi c0_i32_516 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v584 : BitVec 32 := Scalar.muli v5 c4_i32_517
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_518 : BitVec 32 := 1#32
  let v586 : BitVec 32 := Scalar.muli v16 c1_i32_518
  let v587 : BitVec 32 := Scalar.addi v585 v586
  v587.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v283 : BitVec 32 := Scalar.addi v8 c1_i32_234
  let c0_i32_235 : BitVec 32 := 0#32
  let v284 : BitVec 32 := Scalar.addi v283 c0_i32_235
  let c3_i32_477 : BitVec 32 := 3#32
  let v539 : BitVec 1 := Scalar.cmpi .ne v284 c3_i32_477
  let v540 : BitVec 32 := Scalar.extui v539
  let c0_i32_478 : BitVec 32 := 0#32
  let v541 : BitVec 1 := Scalar.cmpi .ne v540 c0_i32_478
  v541

def k0_off19 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v283 : BitVec 32 := Scalar.addi v8 c1_i32_234
  let c0_i32_235 : BitVec 32 := 0#32
  let v284 : BitVec 32 := Scalar.addi v283 c0_i32_235
  let c0_i32_512 : BitVec 32 := 0#32
  ![v284.toNat, 0]
def k0_off20 (d0 : Dev nD) : Fin 2 → Nat :=
  let c0_i32_517 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v283 : BitVec 32 := Scalar.addi v8 c1_i32_234
  let c0_i32_235 : BitVec 32 := 0#32
  let v284 : BitVec 32 := Scalar.addi v283 c0_i32_235
  let v578 : BitVec 32 := Scalar.muli c2_i32_508 v284
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c0_i32_510 : BitVec 32 := 0#32
  let v581 : BitVec 32 := Scalar.addi v580 c0_i32_510
  ![0, v581.toNat]
def k0_dev20 (d0 : Dev nD) : Nat :=
  let c0_i32_514 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_513 : BitVec 32 := 8#32
  let v582 : BitVec 32 := Scalar.muli v13 c8_i32_513
  let v583 : BitVec 32 := Scalar.addi c0_i32_514 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_515 : BitVec 32 := 4#32
  let v584 : BitVec 32 := Scalar.muli v5 c4_i32_515
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_516 : BitVec 32 := 1#32
  let v586 : BitVec 32 := Scalar.muli v8 c1_i32_516
  let v587 : BitVec 32 := Scalar.addi v585 v586
  v587.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let v560 : BitVec 32 := Scalar.extui v11
  let c0_i32_496 : BitVec 32 := 0#32
  let v561 : BitVec 1 := Scalar.cmpi .ne v560 c0_i32_496
  v561

def k0_off21 (d0 : Dev nD) : Fin 2 → Nat :=
  let c0_i32_519 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v283 : BitVec 32 := Scalar.addi v8 c1_i32_234
  let c0_i32_235 : BitVec 32 := 0#32
  let v284 : BitVec 32 := Scalar.addi v283 c0_i32_235
  let v578 : BitVec 32 := Scalar.muli c2_i32_508 v284
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c512_i32_510 : BitVec 32 := 512#32
  let v581 : BitVec 32 := Scalar.addi v580 c512_i32_510
  ![0, v581.toNat]
def k0_dev21 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v582 : BitVec 32 := Scalar.muli v2 c8_i32_515
  let v583 : BitVec 32 := Scalar.addi c0_i32_516 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v584 : BitVec 32 := Scalar.muli v5 c4_i32_517
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_518 : BitVec 32 := 1#32
  let v586 : BitVec 32 := Scalar.muli v16 c1_i32_518
  let v587 : BitVec 32 := Scalar.addi v585 v586
  v587.toNat
def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v283 : BitVec 32 := Scalar.addi v8 c1_i32_234
  let c0_i32_235 : BitVec 32 := 0#32
  let v284 : BitVec 32 := Scalar.addi v283 c0_i32_235
  let c1_i32_501 : BitVec 32 := 1#32
  ![v284.toNat, 1]
def k0_dev22 (d0 : Dev nD) : Nat :=
  let c0_i32_503 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_502 : BitVec 32 := 8#32
  let v566 : BitVec 32 := Scalar.muli v13 c8_i32_502
  let v567 : BitVec 32 := Scalar.addi c0_i32_503 v566
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_504 : BitVec 32 := 4#32
  let v568 : BitVec 32 := Scalar.muli v5 c4_i32_504
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v570 : BitVec 32 := Scalar.muli v8 c1_i32_505
  let v571 : BitVec 32 := Scalar.addi v569 v570
  v571.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_240 : BitVec 32 := 3#32
  let v293 : BitVec 1 := Scalar.cmpi .eq v8 c3_i32_240
  let v294 : BitVec 32 := Scalar.extui v293
  let c0_i32_241 : BitVec 32 := 0#32
  let v295 : BitVec 1 := Scalar.cmpi .ne v294 c0_i32_241
  v295

def k0_off23 (d0 : Dev nD) : Fin 2 → Nat :=
  let c0_i32_470 : BitVec 32 := 0#32
  let c7_i32_459 : BitVec 32 := 7#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c7_i32_459 v2
  let c1024_i32_460 : BitVec 32 := 1024#32
  let v520 : BitVec 32 := Scalar.muli v519 c1024_i32_460
  let c0_i32_461 : BitVec 32 := 0#32
  let v521 : BitVec 32 := Scalar.addi v520 c0_i32_461
  ![0, v521.toNat]
def k0_off24 (d0 : Dev nD) : Fin 2 → Nat :=
  let c0_i32_479 : BitVec 32 := 0#32
  let c7_i32_473 : BitVec 32 := 7#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v532 : BitVec 32 := Scalar.subi c7_i32_473 v2
  let c1024_i32_474 : BitVec 32 := 1024#32
  let v533 : BitVec 32 := Scalar.muli v532 c1024_i32_474
  ![0, v533.toNat]
def k0_dev23 (d0 : Dev nD) : Nat :=
  let c0_i32_476 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_475 : BitVec 32 := 8#32
  let v534 : BitVec 32 := Scalar.muli v2 c8_i32_475
  let v535 : BitVec 32 := Scalar.addi c0_i32_476 v534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_477 : BitVec 32 := 4#32
  let v536 : BitVec 32 := Scalar.muli v5 c4_i32_477
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_478 : BitVec 32 := 1#32
  let v538 : BitVec 32 := Scalar.muli v16 c1_i32_478
  let v539 : BitVec 32 := Scalar.addi v537 v538
  v539.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_242 : BitVec 32 := 0#32
  let v296 : BitVec 1 := Scalar.cmpi .eq v8 c0_i32_242
  let v297 : BitVec 32 := Scalar.extui v296
  let c0_i32_243 : BitVec 32 := 0#32
  let v298 : BitVec 1 := Scalar.cmpi .ne v297 c0_i32_243
  v298

def k0_off25 (d0 : Dev nD) : Fin 2 → Nat :=
  let c0_i32_470 : BitVec 32 := 0#32
  let c1_i32_459 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c1_i32_459 v2
  let c1024_i32_460 : BitVec 32 := 1024#32
  let v520 : BitVec 32 := Scalar.muli v519 c1024_i32_460
  let c0_i32_461 : BitVec 32 := 0#32
  let v521 : BitVec 32 := Scalar.addi v520 c0_i32_461
  ![0, v521.toNat]
def k0_off26 (d0 : Dev nD) : Fin 2 → Nat :=
  let c0_i32_479 : BitVec 32 := 0#32
  let c1_i32_473 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v532 : BitVec 32 := Scalar.subi c1_i32_473 v2
  let c1024_i32_474 : BitVec 32 := 1024#32
  let v533 : BitVec 32 := Scalar.muli v532 c1024_i32_474
  ![0, v533.toNat]
def k0_dev24 (d0 : Dev nD) : Nat :=
  let c0_i32_476 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_475 : BitVec 32 := 8#32
  let v534 : BitVec 32 := Scalar.muli v2 c8_i32_475
  let v535 : BitVec 32 := Scalar.addi c0_i32_476 v534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_477 : BitVec 32 := 4#32
  let v536 : BitVec 32 := Scalar.muli v5 c4_i32_477
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_478 : BitVec 32 := 1#32
  let v538 : BitVec 32 := Scalar.muli v15 c1_i32_478
  let v539 : BitVec 32 := Scalar.addi v537 v538
  v539.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_244 : BitVec 32 := 2#32
  let v299 : BitVec 1 := Scalar.cmpi .eq v8 c2_i32_244
  let v300 : BitVec 32 := Scalar.extui v299
  let c0_i32_245 : BitVec 32 := 0#32
  let v301 : BitVec 1 := Scalar.cmpi .ne v300 c0_i32_245
  v301

def k0_off27 (d0 : Dev nD) : Fin 2 → Nat :=
  let c0_i32_465 : BitVec 32 := 0#32
  let c7_i32_459 : BitVec 32 := 7#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c7_i32_459 v2
  let c1024_i32_460 : BitVec 32 := 1024#32
  let v520 : BitVec 32 := Scalar.muli v519 c1024_i32_460
  ![0, v520.toNat]
def k0_dev25 (d0 : Dev nD) : Nat :=
  let c0_i32_470 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_469 : BitVec 32 := 8#32
  let v531 : BitVec 32 := Scalar.muli v2 c8_i32_469
  let v532 : BitVec 32 := Scalar.addi c0_i32_470 v531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_471 : BitVec 32 := 4#32
  let v533 : BitVec 32 := Scalar.muli v5 c4_i32_471
  let v534 : BitVec 32 := Scalar.addi v532 v533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_472 : BitVec 32 := 1#32
  let v535 : BitVec 32 := Scalar.muli v16 c1_i32_472
  let v536 : BitVec 32 := Scalar.addi v534 v535
  v536.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v302 : BitVec 1 := Scalar.cmpi .eq v8 c1_i32_246
  let v303 : BitVec 32 := Scalar.extui v302
  let c0_i32_247 : BitVec 32 := 0#32
  let v304 : BitVec 1 := Scalar.cmpi .ne v303 c0_i32_247
  v304

def k0_off28 (d0 : Dev nD) : Fin 2 → Nat :=
  let c0_i32_465 : BitVec 32 := 0#32
  let c1_i32_459 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c1_i32_459 v2
  let c1024_i32_460 : BitVec 32 := 1024#32
  let v520 : BitVec 32 := Scalar.muli v519 c1024_i32_460
  ![0, v520.toNat]
def k0_dev26 (d0 : Dev nD) : Nat :=
  let c0_i32_470 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_469 : BitVec 32 := 8#32
  let v531 : BitVec 32 := Scalar.muli v2 c8_i32_469
  let v532 : BitVec 32 := Scalar.addi c0_i32_470 v531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_471 : BitVec 32 := 4#32
  let v533 : BitVec 32 := Scalar.muli v5 c4_i32_471
  let v534 : BitVec 32 := Scalar.addi v532 v533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_472 : BitVec 32 := 1#32
  let v535 : BitVec 32 := Scalar.muli v15 c1_i32_472
  let v536 : BitVec 32 := Scalar.addi v534 v535
  v536.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let c1_i32_248 : BitVec 32 := 1#32
  let v305 : BitVec 32 := Scalar.subi v8 c1_i32_248
  let c1_i32_249 : BitVec 32 := 1#32
  let v306 : BitVec 32 := Scalar.subi v305 c1_i32_249
  let c0_i32_252 : BitVec 32 := 0#32
  let v309 : BitVec 1 := Scalar.cmpi .sge v306 c0_i32_252
  let v310 : BitVec 1 := Scalar.andi v11 v309
  let v311 : BitVec 32 := Scalar.extui v310
  let c0_i32_253 : BitVec 32 := 0#32
  let v312 : BitVec 1 := Scalar.cmpi .ne v311 c0_i32_253
  v312

def k0_off29 (d0 : Dev nD) (c0_i32_461 : BitVec 32) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v305 : BitVec 32 := Scalar.subi v8 c1_i32_248
  let c1_i32_249 : BitVec 32 := 1#32
  let v306 : BitVec 32 := Scalar.subi v305 c1_i32_249
  let v519 : BitVec 32 := Scalar.muli c2_i32_459 v306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let v522 : BitVec 32 := Scalar.addi v521 c0_i32_461
  ![0, v522.toNat]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let v537 : BitVec 32 := Scalar.extui v12
  let c0_i32_476 : BitVec 32 := 0#32
  let v538 : BitVec 1 := Scalar.cmpi .ne v537 c0_i32_476
  v538

def k0_off30 (d0 : Dev nD) : Fin 2 → Nat :=
  let c0_i32_519 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v305 : BitVec 32 := Scalar.subi v8 c1_i32_248
  let c1_i32_249 : BitVec 32 := 1#32
  let v306 : BitVec 32 := Scalar.subi v305 c1_i32_249
  let v578 : BitVec 32 := Scalar.muli c2_i32_508 v306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c0_i32_510 : BitVec 32 := 0#32
  let v581 : BitVec 32 := Scalar.addi v580 c0_i32_510
  ![0, v581.toNat]
def k0_dev27 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v582 : BitVec 32 := Scalar.muli v2 c8_i32_515
  let v583 : BitVec 32 := Scalar.addi c0_i32_516 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v584 : BitVec 32 := Scalar.muli v5 c4_i32_517
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_518 : BitVec 32 := 1#32
  let v586 : BitVec 32 := Scalar.muli v15 c1_i32_518
  let v587 : BitVec 32 := Scalar.addi v585 v586
  v587.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v305 : BitVec 32 := Scalar.subi v8 c1_i32_248
  let c1_i32_249 : BitVec 32 := 1#32
  let v306 : BitVec 32 := Scalar.subi v305 c1_i32_249
  let c0_i32_477 : BitVec 32 := 0#32
  let v539 : BitVec 1 := Scalar.cmpi .ne v306 c0_i32_477
  let v540 : BitVec 32 := Scalar.extui v539
  let c0_i32_478 : BitVec 32 := 0#32
  let v541 : BitVec 1 := Scalar.cmpi .ne v540 c0_i32_478
  v541

def k0_off31 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v305 : BitVec 32 := Scalar.subi v8 c1_i32_248
  let c1_i32_249 : BitVec 32 := 1#32
  let v306 : BitVec 32 := Scalar.subi v305 c1_i32_249
  let c0_i32_512 : BitVec 32 := 0#32
  ![v306.toNat, 0]
def k0_off32 (d0 : Dev nD) : Fin 2 → Nat :=
  let c0_i32_517 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v305 : BitVec 32 := Scalar.subi v8 c1_i32_248
  let c1_i32_249 : BitVec 32 := 1#32
  let v306 : BitVec 32 := Scalar.subi v305 c1_i32_249
  let v578 : BitVec 32 := Scalar.muli c2_i32_508 v306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c0_i32_510 : BitVec 32 := 0#32
  let v581 : BitVec 32 := Scalar.addi v580 c0_i32_510
  ![0, v581.toNat]
def k0_dev28 (d0 : Dev nD) : Nat :=
  let c0_i32_514 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_513 : BitVec 32 := 8#32
  let v582 : BitVec 32 := Scalar.muli v13 c8_i32_513
  let v583 : BitVec 32 := Scalar.addi c0_i32_514 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_515 : BitVec 32 := 4#32
  let v584 : BitVec 32 := Scalar.muli v5 c4_i32_515
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_516 : BitVec 32 := 1#32
  let v586 : BitVec 32 := Scalar.muli v8 c1_i32_516
  let v587 : BitVec 32 := Scalar.addi v585 v586
  v587.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let v560 : BitVec 32 := Scalar.extui v12
  let c0_i32_496 : BitVec 32 := 0#32
  let v561 : BitVec 1 := Scalar.cmpi .ne v560 c0_i32_496
  v561

def k0_off33 (d0 : Dev nD) : Fin 2 → Nat :=
  let c0_i32_519 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v305 : BitVec 32 := Scalar.subi v8 c1_i32_248
  let c1_i32_249 : BitVec 32 := 1#32
  let v306 : BitVec 32 := Scalar.subi v305 c1_i32_249
  let v578 : BitVec 32 := Scalar.muli c2_i32_508 v306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c512_i32_510 : BitVec 32 := 512#32
  let v581 : BitVec 32 := Scalar.addi v580 c512_i32_510
  ![0, v581.toNat]
def k0_dev29 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v582 : BitVec 32 := Scalar.muli v2 c8_i32_515
  let v583 : BitVec 32 := Scalar.addi c0_i32_516 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v584 : BitVec 32 := Scalar.muli v5 c4_i32_517
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_518 : BitVec 32 := 1#32
  let v586 : BitVec 32 := Scalar.muli v15 c1_i32_518
  let v587 : BitVec 32 := Scalar.addi v585 v586
  v587.toNat
def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v305 : BitVec 32 := Scalar.subi v8 c1_i32_248
  let c1_i32_249 : BitVec 32 := 1#32
  let v306 : BitVec 32 := Scalar.subi v305 c1_i32_249
  let c1_i32_501 : BitVec 32 := 1#32
  ![v306.toNat, 1]
def k0_dev30 (d0 : Dev nD) : Nat :=
  let c0_i32_503 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_502 : BitVec 32 := 8#32
  let v566 : BitVec 32 := Scalar.muli v13 c8_i32_502
  let v567 : BitVec 32 := Scalar.addi c0_i32_503 v566
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_504 : BitVec 32 := 4#32
  let v568 : BitVec 32 := Scalar.muli v5 c4_i32_504
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v570 : BitVec 32 := Scalar.muli v8 c1_i32_505
  let v571 : BitVec 32 := Scalar.addi v569 v570
  v571.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let c1_i32_250 : BitVec 32 := 1#32
  let v307 : BitVec 32 := Scalar.addi v8 c1_i32_250
  let c1_i32_251 : BitVec 32 := 1#32
  let v308 : BitVec 32 := Scalar.addi v307 c1_i32_251
  let c3_i32_254 : BitVec 32 := 3#32
  let v313 : BitVec 1 := Scalar.cmpi .sle v308 c3_i32_254
  let v314 : BitVec 1 := Scalar.andi v12 v313
  let v315 : BitVec 32 := Scalar.extui v314
  let c0_i32_255 : BitVec 32 := 0#32
  let v316 : BitVec 1 := Scalar.cmpi .ne v315 c0_i32_255
  v316

def k0_off35 (d0 : Dev nD) (c0_i32_461 : BitVec 32) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v307 : BitVec 32 := Scalar.addi v8 c1_i32_250
  let c1_i32_251 : BitVec 32 := 1#32
  let v308 : BitVec 32 := Scalar.addi v307 c1_i32_251
  let v519 : BitVec 32 := Scalar.muli c2_i32_459 v308
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let v522 : BitVec 32 := Scalar.addi v521 c0_i32_461
  ![0, v522.toNat]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let v537 : BitVec 32 := Scalar.extui v11
  let c0_i32_476 : BitVec 32 := 0#32
  let v538 : BitVec 1 := Scalar.cmpi .ne v537 c0_i32_476
  v538

def k0_off36 (d0 : Dev nD) : Fin 2 → Nat :=
  let c0_i32_519 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v307 : BitVec 32 := Scalar.addi v8 c1_i32_250
  let c1_i32_251 : BitVec 32 := 1#32
  let v308 : BitVec 32 := Scalar.addi v307 c1_i32_251
  let v578 : BitVec 32 := Scalar.muli c2_i32_508 v308
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c0_i32_510 : BitVec 32 := 0#32
  let v581 : BitVec 32 := Scalar.addi v580 c0_i32_510
  ![0, v581.toNat]
def k0_dev31 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v582 : BitVec 32 := Scalar.muli v2 c8_i32_515
  let v583 : BitVec 32 := Scalar.addi c0_i32_516 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v584 : BitVec 32 := Scalar.muli v5 c4_i32_517
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_518 : BitVec 32 := 1#32
  let v586 : BitVec 32 := Scalar.muli v16 c1_i32_518
  let v587 : BitVec 32 := Scalar.addi v585 v586
  v587.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v307 : BitVec 32 := Scalar.addi v8 c1_i32_250
  let c1_i32_251 : BitVec 32 := 1#32
  let v308 : BitVec 32 := Scalar.addi v307 c1_i32_251
  let c3_i32_477 : BitVec 32 := 3#32
  let v539 : BitVec 1 := Scalar.cmpi .ne v308 c3_i32_477
  let v540 : BitVec 32 := Scalar.extui v539
  let c0_i32_478 : BitVec 32 := 0#32
  let v541 : BitVec 1 := Scalar.cmpi .ne v540 c0_i32_478
  v541

def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v307 : BitVec 32 := Scalar.addi v8 c1_i32_250
  let c1_i32_251 : BitVec 32 := 1#32
  let v308 : BitVec 32 := Scalar.addi v307 c1_i32_251
  let c0_i32_512 : BitVec 32 := 0#32
  ![v308.toNat, 0]
def k0_off38 (d0 : Dev nD) : Fin 2 → Nat :=
  let c0_i32_517 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v307 : BitVec 32 := Scalar.addi v8 c1_i32_250
  let c1_i32_251 : BitVec 32 := 1#32
  let v308 : BitVec 32 := Scalar.addi v307 c1_i32_251
  let v578 : BitVec 32 := Scalar.muli c2_i32_508 v308
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c0_i32_510 : BitVec 32 := 0#32
  let v581 : BitVec 32 := Scalar.addi v580 c0_i32_510
  ![0, v581.toNat]
def k0_dev32 (d0 : Dev nD) : Nat :=
  let c0_i32_514 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_513 : BitVec 32 := 8#32
  let v582 : BitVec 32 := Scalar.muli v13 c8_i32_513
  let v583 : BitVec 32 := Scalar.addi c0_i32_514 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_515 : BitVec 32 := 4#32
  let v584 : BitVec 32 := Scalar.muli v5 c4_i32_515
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_516 : BitVec 32 := 1#32
  let v586 : BitVec 32 := Scalar.muli v8 c1_i32_516
  let v587 : BitVec 32 := Scalar.addi v585 v586
  v587.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let v560 : BitVec 32 := Scalar.extui v11
  let c0_i32_496 : BitVec 32 := 0#32
  let v561 : BitVec 1 := Scalar.cmpi .ne v560 c0_i32_496
  v561

def k0_off39 (d0 : Dev nD) : Fin 2 → Nat :=
  let c0_i32_519 : BitVec 32 := 0#32
  let c2_i32_508 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v307 : BitVec 32 := Scalar.addi v8 c1_i32_250
  let c1_i32_251 : BitVec 32 := 1#32
  let v308 : BitVec 32 := Scalar.addi v307 c1_i32_251
  let v578 : BitVec 32 := Scalar.muli c2_i32_508 v308
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v579 : BitVec 32 := Scalar.addi v578 v2
  let c1024_i32_509 : BitVec 32 := 1024#32
  let v580 : BitVec 32 := Scalar.muli v579 c1024_i32_509
  let c512_i32_510 : BitVec 32 := 512#32
  let v581 : BitVec 32 := Scalar.addi v580 c512_i32_510
  ![0, v581.toNat]
def k0_dev33 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v582 : BitVec 32 := Scalar.muli v2 c8_i32_515
  let v583 : BitVec 32 := Scalar.addi c0_i32_516 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_517 : BitVec 32 := 4#32
  let v584 : BitVec 32 := Scalar.muli v5 c4_i32_517
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_518 : BitVec 32 := 1#32
  let v586 : BitVec 32 := Scalar.muli v16 c1_i32_518
  let v587 : BitVec 32 := Scalar.addi v585 v586
  v587.toNat
def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v307 : BitVec 32 := Scalar.addi v8 c1_i32_250
  let c1_i32_251 : BitVec 32 := 1#32
  let v308 : BitVec 32 := Scalar.addi v307 c1_i32_251
  let c1_i32_501 : BitVec 32 := 1#32
  ![v308.toNat, 1]
def k0_dev34 (d0 : Dev nD) : Nat :=
  let c0_i32_503 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_502 : BitVec 32 := 8#32
  let v566 : BitVec 32 := Scalar.muli v13 c8_i32_502
  let v567 : BitVec 32 := Scalar.addi c0_i32_503 v566
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_504 : BitVec 32 := 4#32
  let v568 : BitVec 32 := Scalar.muli v5 c4_i32_504
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v570 : BitVec 32 := Scalar.muli v8 c1_i32_505
  let v571 : BitVec 32 := Scalar.addi v569 v570
  v571.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v317 : BitVec 1 := Scalar.cmpi .eq v8 c1_i32_256
  let v318 : BitVec 32 := Scalar.extui v317
  let c0_i32_257 : BitVec 32 := 0#32
  let v319 : BitVec 1 := Scalar.cmpi .ne v318 c0_i32_257
  v319

def k0_off41 (d0 : Dev nD) : Fin 2 → Nat :=
  let c0_i32_465 : BitVec 32 := 0#32
  let c7_i32_459 : BitVec 32 := 7#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c7_i32_459 v2
  let c1024_i32_460 : BitVec 32 := 1024#32
  let v520 : BitVec 32 := Scalar.muli v519 c1024_i32_460
  ![0, v520.toNat]
def k0_dev35 (d0 : Dev nD) : Nat :=
  let c0_i32_470 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_469 : BitVec 32 := 8#32
  let v531 : BitVec 32 := Scalar.muli v2 c8_i32_469
  let v532 : BitVec 32 := Scalar.addi c0_i32_470 v531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_471 : BitVec 32 := 4#32
  let v533 : BitVec 32 := Scalar.muli v5 c4_i32_471
  let v534 : BitVec 32 := Scalar.addi v532 v533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c1_i32_472 : BitVec 32 := 1#32
  let v535 : BitVec 32 := Scalar.muli v16 c1_i32_472
  let v536 : BitVec 32 := Scalar.addi v534 v535
  v536.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_258 : BitVec 32 := 2#32
  let v320 : BitVec 1 := Scalar.cmpi .eq v8 c2_i32_258
  let v321 : BitVec 32 := Scalar.extui v320
  let c0_i32_259 : BitVec 32 := 0#32
  let v322 : BitVec 1 := Scalar.cmpi .ne v321 c0_i32_259
  v322

def k0_off42 (d0 : Dev nD) : Fin 2 → Nat :=
  let c0_i32_465 : BitVec 32 := 0#32
  let c1_i32_459 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c1_i32_459 v2
  let c1024_i32_460 : BitVec 32 := 1024#32
  let v520 : BitVec 32 := Scalar.muli v519 c1024_i32_460
  ![0, v520.toNat]
def k0_dev36 (d0 : Dev nD) : Nat :=
  let c0_i32_470 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_469 : BitVec 32 := 8#32
  let v531 : BitVec 32 := Scalar.muli v2 c8_i32_469
  let v532 : BitVec 32 := Scalar.addi c0_i32_470 v531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_471 : BitVec 32 := 4#32
  let v533 : BitVec 32 := Scalar.muli v5 c4_i32_471
  let v534 : BitVec 32 := Scalar.addi v532 v533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c1_i32_472 : BitVec 32 := 1#32
  let v535 : BitVec 32 := Scalar.muli v15 c1_i32_472
  let v536 : BitVec 32 := Scalar.addi v534 v535
  v536.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let c1_i32_260 : BitVec 32 := 1#32
  let v323 : BitVec 32 := Scalar.subi v8 c1_i32_260
  let c2_i32_261 : BitVec 32 := 2#32
  let v324 : BitVec 32 := Scalar.subi v323 c2_i32_261
  let c0_i32_264 : BitVec 32 := 0#32
  let v327 : BitVec 1 := Scalar.cmpi .sge v324 c0_i32_264
  let v328 : BitVec 1 := Scalar.andi v11 v327
  let v329 : BitVec 32 := Scalar.extui v328
  let c0_i32_265 : BitVec 32 := 0#32
  let v330 : BitVec 1 := Scalar.cmpi .ne v329 c0_i32_265
  v330

def k0_off43 (d0 : Dev nD) (c0_i32_461 : BitVec 32) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v323 : BitVec 32 := Scalar.subi v8 c1_i32_260
  let c2_i32_261 : BitVec 32 := 2#32
  let v324 : BitVec 32 := Scalar.subi v323 c2_i32_261
  let v519 : BitVec 32 := Scalar.muli c2_i32_459 v324
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let v522 : BitVec 32 := Scalar.addi v521 c0_i32_461
  ![0, v522.toNat]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v323 : BitVec 32 := Scalar.subi v8 c1_i32_260
  let c2_i32_261 : BitVec 32 := 2#32
  let v324 : BitVec 32 := Scalar.subi v323 c2_i32_261
  let c0_i32_476 : BitVec 32 := 0#32
  let v537 : BitVec 1 := Scalar.cmpi .ne v324 c0_i32_476
  let v538 : BitVec 32 := Scalar.extui v537
  let c0_i32_477 : BitVec 32 := 0#32
  let v539 : BitVec 1 := Scalar.cmpi .ne v538 c0_i32_477
  v539

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v323 : BitVec 32 := Scalar.subi v8 c1_i32_260
  let c2_i32_261 : BitVec 32 := 2#32
  let v324 : BitVec 32 := Scalar.subi v323 c2_i32_261
  let c0_i32_510 : BitVec 32 := 0#32
  ![v324.toNat, 0]
def k0_off45 (d0 : Dev nD) : Fin 2 → Nat :=
  let c0_i32_515 : BitVec 32 := 0#32
  let c2_i32_506 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v323 : BitVec 32 := Scalar.subi v8 c1_i32_260
  let c2_i32_261 : BitVec 32 := 2#32
  let v324 : BitVec 32 := Scalar.subi v323 c2_i32_261
  let v574 : BitVec 32 := Scalar.muli c2_i32_506 v324
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v575 : BitVec 32 := Scalar.addi v574 v2
  let c1024_i32_507 : BitVec 32 := 1024#32
  let v576 : BitVec 32 := Scalar.muli v575 c1024_i32_507
  let c0_i32_508 : BitVec 32 := 0#32
  let v577 : BitVec 32 := Scalar.addi v576 c0_i32_508
  ![0, v577.toNat]
def k0_dev37 (d0 : Dev nD) : Nat :=
  let c0_i32_512 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_511 : BitVec 32 := 8#32
  let v578 : BitVec 32 := Scalar.muli v13 c8_i32_511
  let v579 : BitVec 32 := Scalar.addi c0_i32_512 v578
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_513 : BitVec 32 := 4#32
  let v580 : BitVec 32 := Scalar.muli v5 c4_i32_513
  let v581 : BitVec 32 := Scalar.addi v579 v580
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_514 : BitVec 32 := 1#32
  let v582 : BitVec 32 := Scalar.muli v8 c1_i32_514
  let v583 : BitVec 32 := Scalar.addi v581 v582
  v583.toNat
def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v323 : BitVec 32 := Scalar.subi v8 c1_i32_260
  let c2_i32_261 : BitVec 32 := 2#32
  let v324 : BitVec 32 := Scalar.subi v323 c2_i32_261
  let c1_i32_499 : BitVec 32 := 1#32
  ![v324.toNat, 1]
def k0_dev38 (d0 : Dev nD) : Nat :=
  let c0_i32_501 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_500 : BitVec 32 := 8#32
  let v562 : BitVec 32 := Scalar.muli v13 c8_i32_500
  let v563 : BitVec 32 := Scalar.addi c0_i32_501 v562
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_502 : BitVec 32 := 4#32
  let v564 : BitVec 32 := Scalar.muli v5 c4_i32_502
  let v565 : BitVec 32 := Scalar.addi v563 v564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v566 : BitVec 32 := Scalar.muli v8 c1_i32_503
  let v567 : BitVec 32 := Scalar.addi v565 v566
  v567.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let c1_i32_262 : BitVec 32 := 1#32
  let v325 : BitVec 32 := Scalar.addi v8 c1_i32_262
  let c2_i32_263 : BitVec 32 := 2#32
  let v326 : BitVec 32 := Scalar.addi v325 c2_i32_263
  let c3_i32_266 : BitVec 32 := 3#32
  let v331 : BitVec 1 := Scalar.cmpi .sle v326 c3_i32_266
  let v332 : BitVec 1 := Scalar.andi v12 v331
  let v333 : BitVec 32 := Scalar.extui v332
  let c0_i32_267 : BitVec 32 := 0#32
  let v334 : BitVec 1 := Scalar.cmpi .ne v333 c0_i32_267
  v334

def k0_off47 (d0 : Dev nD) (c0_i32_461 : BitVec 32) : Fin 2 → Nat :=
  let c0_i32_470 : BitVec 32 := 0#32
  let c2_i32_459 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v325 : BitVec 32 := Scalar.addi v8 c1_i32_262
  let c2_i32_263 : BitVec 32 := 2#32
  let v326 : BitVec 32 := Scalar.addi v325 c2_i32_263
  let v519 : BitVec 32 := Scalar.muli c2_i32_459 v326
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v520 : BitVec 32 := Scalar.addi v519 v2
  let c1024_i32_460 : BitVec 32 := 1024#32
  let v521 : BitVec 32 := Scalar.muli v520 c1024_i32_460
  let v522 : BitVec 32 := Scalar.addi v521 c0_i32_461
  ![0, v522.toNat]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v325 : BitVec 32 := Scalar.addi v8 c1_i32_262
  let c2_i32_263 : BitVec 32 := 2#32
  let v326 : BitVec 32 := Scalar.addi v325 c2_i32_263
  let c3_i32_476 : BitVec 32 := 3#32
  let v537 : BitVec 1 := Scalar.cmpi .ne v326 c3_i32_476
  let v538 : BitVec 32 := Scalar.extui v537
  let c0_i32_477 : BitVec 32 := 0#32
  let v539 : BitVec 1 := Scalar.cmpi .ne v538 c0_i32_477
  v539

def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v325 : BitVec 32 := Scalar.addi v8 c1_i32_262
  let c2_i32_263 : BitVec 32 := 2#32
  let v326 : BitVec 32 := Scalar.addi v325 c2_i32_263
  let c0_i32_510 : BitVec 32 := 0#32
  ![v326.toNat, 0]
def k0_off49 (d0 : Dev nD) : Fin 2 → Nat :=
  let c0_i32_515 : BitVec 32 := 0#32
  let c2_i32_506 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v325 : BitVec 32 := Scalar.addi v8 c1_i32_262
  let c2_i32_263 : BitVec 32 := 2#32
  let v326 : BitVec 32 := Scalar.addi v325 c2_i32_263
  let v574 : BitVec 32 := Scalar.muli c2_i32_506 v326
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v575 : BitVec 32 := Scalar.addi v574 v2
  let c1024_i32_507 : BitVec 32 := 1024#32
  let v576 : BitVec 32 := Scalar.muli v575 c1024_i32_507
  let c0_i32_508 : BitVec 32 := 0#32
  let v577 : BitVec 32 := Scalar.addi v576 c0_i32_508
  ![0, v577.toNat]
def k0_dev39 (d0 : Dev nD) : Nat :=
  let c0_i32_512 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_511 : BitVec 32 := 8#32
  let v578 : BitVec 32 := Scalar.muli v13 c8_i32_511
  let v579 : BitVec 32 := Scalar.addi c0_i32_512 v578
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_513 : BitVec 32 := 4#32
  let v580 : BitVec 32 := Scalar.muli v5 c4_i32_513
  let v581 : BitVec 32 := Scalar.addi v579 v580
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_514 : BitVec 32 := 1#32
  let v582 : BitVec 32 := Scalar.muli v8 c1_i32_514
  let v583 : BitVec 32 := Scalar.addi v581 v582
  v583.toNat
def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v325 : BitVec 32 := Scalar.addi v8 c1_i32_262
  let c2_i32_263 : BitVec 32 := 2#32
  let v326 : BitVec 32 := Scalar.addi v325 c2_i32_263
  let c1_i32_499 : BitVec 32 := 1#32
  ![v326.toNat, 1]
def k0_dev40 (d0 : Dev nD) : Nat :=
  let c0_i32_501 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_3 v2
  let c8_i32_500 : BitVec 32 := 8#32
  let v562 : BitVec 32 := Scalar.muli v13 c8_i32_500
  let v563 : BitVec 32 := Scalar.addi c0_i32_501 v562
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_502 : BitVec 32 := 4#32
  let v564 : BitVec 32 := Scalar.muli v5 c4_i32_502
  let v565 : BitVec 32 := Scalar.addi v563 v564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v566 : BitVec 32 := Scalar.muli v8 c1_i32_503
  let v567 : BitVec 32 := Scalar.addi v565 v566
  v567.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_268 : BitVec 32 := 0#32
  let v335 : BitVec 1 := Scalar.cmpi .eq v8 c0_i32_268
  let v336 : BitVec 32 := Scalar.extui v335
  let c0_i32_269 : BitVec 32 := 0#32
  let v337 : BitVec 1 := Scalar.cmpi .ne v336 c0_i32_269
  v337

def k0_off51 (d0 : Dev nD) : Fin 2 → Nat :=
  let c0_i32_465 : BitVec 32 := 0#32
  let c7_i32_459 : BitVec 32 := 7#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c7_i32_459 v2
  let c1024_i32_460 : BitVec 32 := 1024#32
  let v520 : BitVec 32 := Scalar.muli v519 c1024_i32_460
  ![0, v520.toNat]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_270 : BitVec 32 := 3#32
  let v338 : BitVec 1 := Scalar.cmpi .eq v8 c3_i32_270
  let v339 : BitVec 32 := Scalar.extui v338
  let c0_i32_271 : BitVec 32 := 0#32
  let v340 : BitVec 1 := Scalar.cmpi .ne v339 c0_i32_271
  v340

def k0_off52 (d0 : Dev nD) : Fin 2 → Nat :=
  let c0_i32_465 : BitVec 32 := 0#32
  let c1_i32_459 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c1_i32_459 v2
  let c1024_i32_460 : BitVec 32 := 1024#32
  let v520 : BitVec 32 := Scalar.muli v519 c1024_i32_460
  ![0, v520.toNat]
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_286 : BitVec 32 := 0#32
  let v357 : BitVec 1 := Scalar.cmpi .eq v8 c0_i32_286
  let v358 : BitVec 32 := Scalar.extui v357
  let c0_i32_287 : BitVec 32 := 0#32
  let v359 : BitVec 1 := Scalar.cmpi .ne v358 c0_i32_287
  v359

def k0_off53 (d0 : Dev nD) : Fin 2 → Nat :=
  let c0_i32_469 : BitVec 32 := 0#32
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.addi c0_i32_459 v2
  let c1024_i32_460 : BitVec 32 := 1024#32
  let v520 : BitVec 32 := Scalar.muli v519 c1024_i32_460
  let c0_i32_461 : BitVec 32 := 0#32
  let v521 : BitVec 32 := Scalar.addi v520 c0_i32_461
  ![0, v521.toNat]
def k0_off54 (d0 : Dev nD) (c0_i32_288 : BitVec 32) (c512_i32_290 : BitVec 32) : Fin 2 → Nat :=
  let c0_i32_298 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v360 : BitVec 32 := Scalar.addi c0_i32_288 v2
  let c1024_i32_289 : BitVec 32 := 1024#32
  let v361 : BitVec 32 := Scalar.muli v360 c1024_i32_289
  let v362 : BitVec 32 := Scalar.addi v361 c512_i32_290
  ![0, v362.toNat]
def k0_off54_at (r : Fin 6) : BitVec 32 × BitVec 32 :=
  if r.val < 3 then
    if r.val < 1 then
      (0#32, 512#32)
    else
      if r.val < 2 then
        (2#32, 0#32)
      else
        (2#32, 512#32)
  else
    if r.val < 4 then
      (4#32, 0#32)
    else
      if r.val < 5 then
        (4#32, 512#32)
      else
        (6#32, 512#32)
def k0_off55 (d0 : Dev nD) (c1_i32_299 : BitVec 32) (c512_i32_301 : BitVec 32) : Fin 2 → Nat :=
  let c0_i32_310 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v367 : BitVec 32 := Scalar.subi c1_i32_299 v2
  let c1024_i32_300 : BitVec 32 := 1024#32
  let v368 : BitVec 32 := Scalar.muli v367 c1024_i32_300
  let v369 : BitVec 32 := Scalar.addi v368 c512_i32_301
  ![0, v369.toNat]
def k0_off55_at (r : Fin 6) : BitVec 32 × BitVec 32 :=
  if r.val < 3 then
    if r.val < 1 then
      (1#32, 512#32)
    else
      if r.val < 2 then
        (3#32, 0#32)
      else
        (3#32, 512#32)
  else
    if r.val < 4 then
      (5#32, 0#32)
    else
      if r.val < 5 then
        (5#32, 512#32)
      else
        (7#32, 512#32)
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_412 : BitVec 32 := 3#32
  let v460 : BitVec 1 := Scalar.cmpi .eq v8 c3_i32_412
  let v461 : BitVec 32 := Scalar.extui v460
  let c0_i32_413 : BitVec 32 := 0#32
  let v462 : BitVec 1 := Scalar.cmpi .ne v461 c0_i32_413
  v462

def k0_off56 (d0 : Dev nD) : Fin 2 → Nat :=
  let c0_i32_469 : BitVec 32 := 0#32
  let c6_i32_459 : BitVec 32 := 6#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.addi c6_i32_459 v2
  let c1024_i32_460 : BitVec 32 := 1024#32
  let v520 : BitVec 32 := Scalar.muli v519 c1024_i32_460
  let c0_i32_461 : BitVec 32 := 0#32
  let v521 : BitVec 32 := Scalar.addi v520 c0_i32_461
  ![0, v521.toNat]
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v483 : BitVec 1 := Scalar.cmpi .sge v8 c1_i32_437
  let v484 : BitVec 32 := Scalar.extui v483
  let c0_i32_438 : BitVec 32 := 0#32
  let v485 : BitVec 1 := Scalar.cmpi .ne v484 c0_i32_438
  v485

def k0_off57 (d0 : Dev nD) : Fin 2 → Nat :=
  let c0_i32_462 : BitVec 32 := 0#32
  let c7_i32_459 : BitVec 32 := 7#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c7_i32_459 v2
  let c1024_i32_460 : BitVec 32 := 1024#32
  let v520 : BitVec 32 := Scalar.muli v519 c1024_i32_460
  ![0, v520.toNat]
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_439 : BitVec 32 := 2#32
  let v486 : BitVec 1 := Scalar.cmpi .sle v8 c2_i32_439
  let v487 : BitVec 32 := Scalar.extui v486
  let c0_i32_440 : BitVec 32 := 0#32
  let v488 : BitVec 1 := Scalar.cmpi .ne v487 c0_i32_440
  v488

def k0_off58 (d0 : Dev nD) : Fin 2 → Nat :=
  let c0_i32_462 : BitVec 32 := 0#32
  let c1_i32_459 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.subi c1_i32_459 v2
  let c1024_i32_460 : BitVec 32 := 1024#32
  let v520 : BitVec 32 := Scalar.muli v519 c1024_i32_460
  ![0, v520.toNat]
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let c0_i32_441 : BitVec 32 := 0#32
  let v489 : BitVec 32 := Scalar.subi v8 c0_i32_441
  let c0_i32_442 : BitVec 32 := 0#32
  let v490 : BitVec 1 := Scalar.cmpi .sge v489 c0_i32_442
  let v491 : BitVec 1 := Scalar.andi v12 v490
  let v492 : BitVec 32 := Scalar.extui v491
  let c0_i32_443 : BitVec 32 := 0#32
  let v493 : BitVec 1 := Scalar.cmpi .ne v492 c0_i32_443
  v493

def k0_off59 (d0 : Dev nD) (c0_i32_461 : BitVec 32) : Fin 2 → Nat :=
  let c0_i32_469 : BitVec 32 := 0#32
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.addi c0_i32_459 v2
  let c1024_i32_460 : BitVec 32 := 1024#32
  let v520 : BitVec 32 := Scalar.muli v519 c1024_i32_460
  let v521 : BitVec 32 := Scalar.addi v520 c0_i32_461
  ![0, v521.toNat]
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let c0_i32_444 : BitVec 32 := 0#32
  let v494 : BitVec 32 := Scalar.addi v8 c0_i32_444
  let c3_i32_445 : BitVec 32 := 3#32
  let v495 : BitVec 1 := Scalar.cmpi .sle v494 c3_i32_445
  let v496 : BitVec 1 := Scalar.andi v11 v495
  let v497 : BitVec 32 := Scalar.extui v496
  let c0_i32_446 : BitVec 32 := 0#32
  let v498 : BitVec 1 := Scalar.cmpi .ne v497 c0_i32_446
  v498

def k0_off60 (d0 : Dev nD) (c0_i32_461 : BitVec 32) : Fin 2 → Nat :=
  let c0_i32_469 : BitVec 32 := 0#32
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.addi c0_i32_459 v2
  let c1024_i32_460 : BitVec 32 := 1024#32
  let v520 : BitVec 32 := Scalar.muli v519 c1024_i32_460
  let v521 : BitVec 32 := Scalar.addi v520 c0_i32_461
  ![0, v521.toNat]
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let c1_i32_447 : BitVec 32 := 1#32
  let v499 : BitVec 32 := Scalar.subi v8 c1_i32_447
  let c0_i32_448 : BitVec 32 := 0#32
  let v500 : BitVec 1 := Scalar.cmpi .sge v499 c0_i32_448
  let v501 : BitVec 1 := Scalar.andi v12 v500
  let v502 : BitVec 32 := Scalar.extui v501
  let c0_i32_449 : BitVec 32 := 0#32
  let v503 : BitVec 1 := Scalar.cmpi .ne v502 c0_i32_449
  v503

def k0_off61 (d0 : Dev nD) (c0_i32_461 : BitVec 32) : Fin 2 → Nat :=
  let c0_i32_469 : BitVec 32 := 0#32
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.addi c0_i32_459 v2
  let c1024_i32_460 : BitVec 32 := 1024#32
  let v520 : BitVec 32 := Scalar.muli v519 c1024_i32_460
  let v521 : BitVec 32 := Scalar.addi v520 c0_i32_461
  ![0, v521.toNat]
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let c1_i32_450 : BitVec 32 := 1#32
  let v504 : BitVec 32 := Scalar.addi v8 c1_i32_450
  let c3_i32_451 : BitVec 32 := 3#32
  let v505 : BitVec 1 := Scalar.cmpi .sle v504 c3_i32_451
  let v506 : BitVec 1 := Scalar.andi v11 v505
  let v507 : BitVec 32 := Scalar.extui v506
  let c0_i32_452 : BitVec 32 := 0#32
  let v508 : BitVec 1 := Scalar.cmpi .ne v507 c0_i32_452
  v508

def k0_off62 (d0 : Dev nD) (c0_i32_461 : BitVec 32) : Fin 2 → Nat :=
  let c0_i32_469 : BitVec 32 := 0#32
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.addi c0_i32_459 v2
  let c1024_i32_460 : BitVec 32 := 1024#32
  let v520 : BitVec 32 := Scalar.muli v519 c1024_i32_460
  let v521 : BitVec 32 := Scalar.addi v520 c0_i32_461
  ![0, v521.toNat]
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v12 : BitVec 1 := Scalar.cmpi .slt v8 c3_i32
  let c2_i32_453 : BitVec 32 := 2#32
  let v509 : BitVec 32 := Scalar.subi v8 c2_i32_453
  let c0_i32_454 : BitVec 32 := 0#32
  let v510 : BitVec 1 := Scalar.cmpi .sge v509 c0_i32_454
  let v511 : BitVec 1 := Scalar.andi v12 v510
  let v512 : BitVec 32 := Scalar.extui v511
  let c0_i32_455 : BitVec 32 := 0#32
  let v513 : BitVec 1 := Scalar.cmpi .ne v512 c0_i32_455
  v513

def k0_off63 (d0 : Dev nD) (c0_i32_461 : BitVec 32) : Fin 2 → Nat :=
  let c0_i32_469 : BitVec 32 := 0#32
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.addi c0_i32_459 v2
  let c1024_i32_460 : BitVec 32 := 1024#32
  let v520 : BitVec 32 := Scalar.muli v519 c1024_i32_460
  let v521 : BitVec 32 := Scalar.addi v520 c0_i32_461
  ![0, v521.toNat]
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v11 : BitVec 1 := Scalar.cmpi .sgt v8 c0_i32
  let c2_i32_456 : BitVec 32 := 2#32
  let v514 : BitVec 32 := Scalar.addi v8 c2_i32_456
  let c3_i32_457 : BitVec 32 := 3#32
  let v515 : BitVec 1 := Scalar.cmpi .sle v514 c3_i32_457
  let v516 : BitVec 1 := Scalar.andi v11 v515
  let v517 : BitVec 32 := Scalar.extui v516
  let c0_i32_458 : BitVec 32 := 0#32
  let v518 : BitVec 1 := Scalar.cmpi .ne v517 c0_i32_458
  v518

def k0_off64 (d0 : Dev nD) (c0_i32_461 : BitVec 32) : Fin 2 → Nat :=
  let c0_i32_469 : BitVec 32 := 0#32
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v519 : BitVec 32 := Scalar.addi c0_i32_459 v2
  let c1024_i32_460 : BitVec 32 := 1024#32
  let v520 : BitVec 32 := Scalar.muli v519 c1024_i32_460
  let v521 : BitVec 32 := Scalar.addi v520 c0_i32_461
  ![0, v521.toNat]
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
module

public import proofs.«01_k».proof.Proof.Gen.KernelIdeal

/-!
# The mesh, the copies, and who waits for what

The sixteen devices are numbered `8 x + 4 y + z` with `x, y ∈ {0, 1}` and `z ∈ {0, 1, 2, 3}`.  Every remote copy of the
kernel is one of twenty-six named below; this module says for each of them towards which neighbour it goes, on which
devices it happens, which semaphore counts it at either end, and which part of the memory it reads and fills.  Everything
here depends only on the coordinate `z`, so that a whole run of one device can be replayed by the evaluator.
-/

@[expose] public section

namespace Cert.KernelIdeal.Grad

open Cert.KernelIdeal
open Idealize.ShloMosaic

/-! ## Coordinates and neighbours -/

/-- The `x` coordinate of a device. -/
def xc (c : Dev nD) : ℕ := c.val / 8

/-- The `y` coordinate of a device. -/
def yc (c : Dev nD) : ℕ := c.val / 4 % 2

/-- The `z` coordinate of a device. -/
def zc (c : Dev nD) : ℕ := c.val % 4

theorem zc_lt (c : Dev nD) : zc c < 4 := Nat.mod_lt _ (by decide)

/-- The device with the coordinates `x`, `y`, `z` (each taken within its range). -/
def dev (x y z : ℕ) : Dev nD :=
  ⟨8 * (x % 2) + 4 * (y % 2) + z % 4, by show _ < 16; omega⟩

/-- The four directions: across `x` (0), across `y` (1), one step down in `z` (2), one step up in `z` (3).  A step in `z`
    wraps around here; where there is no neighbour nothing is ever sent. -/
def nb (c : Dev nD) (d : Fin 4) : Dev nD :=
  match d with
  | 0 => dev (xc c + 1) (yc c) (zc c)
  | 1 => dev (xc c) (yc c + 1) (zc c)
  | 2 => dev (xc c) (yc c) (zc c + 3)
  | 3 => dev (xc c) (yc c) (zc c + 1)

/-- The opposite direction. -/
def opp (d : Fin 4) : Fin 4 :=
  match d with
  | 0 => 0
  | 1 => 1
  | 2 => 3
  | 3 => 2

theorem nb_opp : ∀ (c : Dev nD) (d : Fin 4), nb (nb c d) (opp d) = c := by decide +kernel

theorem opp_opp : ∀ d : Fin 4, opp (opp d) = d := by decide +kernel

/-- One step in a direction is a permutation of the devices. -/
def nbEquiv (d : Fin 4) : Dev nD ≃ Dev nD where
  toFun c := nb c d
  invFun c := nb c (opp d)
  left_inv c := nb_opp c d
  right_inv c := by have := nb_opp c (opp d); rwa [opp_opp] at this

/-- Whether a device at `z` has a neighbour in a direction. -/
def has (z : ℕ) (d : Fin 4) : Bool :=
  match d with
  | 0 => true
  | 1 => true
  | 2 => decide (0 < z)
  | 3 => decide (z < 3)

/-- The `z` coordinate of the neighbour in a direction. -/
def znb (z : ℕ) (d : Fin 4) : ℕ :=
  match d with
  | 0 => z
  | 1 => z
  | 2 => (z + 3) % 4
  | 3 => (z + 1) % 4

theorem zc_nb : ∀ (c : Dev nD) (d : Fin 4), zc (nb c d) = znb (zc c) d := by decide +kernel

/-! ## The copies -/

/-- The remote copies: the quarters of the partial product across `y`; block `b`, half `s` across `x`; hop `h`, half `s` of
    the ring to the right (up in `z`) and to the left; and the two relays of the corner blocks, to the left and to the
    right. -/
inductive Tr
  | y (q : Fin 4)
  | x (b : Fin 4) (s : Fin 2)
  | zr (h : Fin 3) (s : Fin 2)
  | zl (h : Fin 3) (s : Fin 2)
  | rl
  | rr
  deriving DecidableEq

/-- All copies, in a fixed order. -/
def allTr : List Tr :=
  [.y 0, .y 1, .y 2, .y 3,
   .x 0 0, .x 0 1, .x 1 0, .x 1 1, .x 2 0, .x 2 1, .x 3 0, .x 3 1,
   .zr 0 0, .zr 0 1, .zr 1 0, .zr 1 1, .zr 2 0, .zr 2 1,
   .zl 0 0, .zl 0 1, .zl 1 0, .zl 1 1, .zl 2 0, .zl 2 1, .rl, .rr]

/-- The direction a copy goes. -/
def Tr.dir : Tr → Fin 4
  | .y _ => 1
  | .x _ _ => 0
  | .zr _ _ => 3
  | .zl _ _ => 2
  | .rl => 2
  | .rr => 3

/-- Whether a device at `z` issues the copy. -/
def Tr.act (z : ℕ) : Tr → Bool
  | .y _ => true
  | .x b s => decide (s.val = 1 ∨ (b.val ≠ 0 ∧ b.val ≠ 3) ∨ b.val = z)
  | .zr h _ => decide (z < 3 ∧ h.val ≤ z)
  | .zl h _ => decide (0 < z ∧ z + h.val ≤ 3)
  | .rl => decide (1 ≤ z)
  | .rr => decide (z ≤ 2)

/-- Whether a device at `z` receives the copy. -/
def Tr.inAct (z : ℕ) (t : Tr) : Bool := has z (opp t.dir) && t.act (znb z (opp t.dir))

/-- The device a copy of `c` goes to. -/
def Tr.dst (c : Dev nD) (t : Tr) : Dev nD := nb c t.dir

/-! ## The semaphores -/

/-- What a semaphore counts: nothing (the staging of the input), the barrier, the reading of half `s` of the input block
    `dy`, the storing of half `s` of the own block, the departure of a copy, or its arrival. -/
inductive Role
  | none
  | bar
  | dy (s : Fin 2)
  | st (s : Fin 2)
  | snd (t : Tr)
  | rcv (t : Tr)
  deriving DecidableEq

/-- A number below the bound, as a member of `Fin`. -/
def fm (n : ℕ) [NeZero n] (k : ℕ) : Fin n := Fin.ofNat n k

/-- The role of each semaphore: number 0 stands for the barrier, number `i > 0` for the DMA semaphore `i`. -/
def role (k : Fin 57) : Role :=
  let i := k.val
  if i = 0 then .bar
  else if i < 3 then .dy (fm 2 (i - 1))
  else if i < 5 then .st (fm 2 (i - 3))
  else if i < 9 then .snd (.y (fm 4 (i - 5)))
  else if i < 13 then .rcv (.y (fm 4 (i - 9)))
  else if i < 21 then .snd (.x (fm 4 ((i - 13) / 2)) (fm 2 (i - 13)))
  else if i < 29 then .rcv (.x (fm 4 ((i - 21) / 2)) (fm 2 (i - 21)))
  else if i < 35 then .snd (.zr (fm 3 ((i - 29) / 2)) (fm 2 (i - 29)))
  else if i < 41 then .rcv (.zr (fm 3 ((i - 35) / 2)) (fm 2 (i - 35)))
  else if i < 47 then .snd (.zl (fm 3 ((i - 41) / 2)) (fm 2 (i - 41)))
  else if i < 53 then .rcv (.zl (fm 3 ((i - 47) / 2)) (fm 2 (i - 47)))
  else if i = 53 then .snd .rl
  else if i = 54 then .rcv .rl
  else if i = 55 then .snd .rr
  else .rcv .rr

/-- The semaphore with a given role. -/
def Role.cell : Role → Fin 57
  | .none => 0
  | .bar => 0
  | .dy s => fm 57 (1 + s)
  | .st s => fm 57 (3 + s)
  | .snd (.y q) => fm 57 (5 + q)
  | .rcv (.y q) => fm 57 (9 + q)
  | .snd (.x b s) => fm 57 (13 + 2 * b + s)
  | .rcv (.x b s) => fm 57 (21 + 2 * b + s)
  | .snd (.zr h s) => fm 57 (29 + 2 * h + s)
  | .rcv (.zr h s) => fm 57 (35 + 2 * h + s)
  | .snd (.zl h s) => fm 57 (41 + 2 * h + s)
  | .rcv (.zl h s) => fm 57 (47 + 2 * h + s)
  | .snd .rl => 53
  | .rcv .rl => 54
  | .snd .rr => 55
  | .rcv .rr => 56

/-- The semaphore counting the departure of a copy. -/
abbrev Tr.sk (t : Tr) : Fin 57 := (Role.snd t).cell

/-- The semaphore counting the arrival of a copy. -/
abbrev Tr.rk (t : Tr) : Fin 57 := (Role.rcv t).cell

theorem mem_allTr (t : Tr) : t ∈ allTr := by
  cases t <;> (try rename_i a b; revert a b; decide) <;> (try rename_i a; revert a; decide) <;> decide

/-- A property that holds along the list of all copies holds of every copy. -/
theorem all_tr {p : Tr → Prop} (h : ∀ t ∈ allTr, p t) (t : Tr) : p t := h t (mem_allTr t)

theorem role_sk : ∀ t : Tr, role t.sk = .snd t := all_tr (by decide +kernel)

theorem role_rk : ∀ t : Tr, role t.rk = .rcv t := all_tr (by decide +kernel)

theorem rk_ne_zero : ∀ t : Tr, t.rk ≠ 0 := all_tr (by decide +kernel)

theorem sk_ne_zero : ∀ t : Tr, t.sk ≠ 0 := all_tr (by decide +kernel)

theorem rk_inj : ∀ t t' : Tr, t.rk = t'.rk → t = t' := fun t t' h => by
  have h1 := role_rk t; have h2 := role_rk t'; rw [h] at h1; injection h1.symm.trans h2

theorem role_bar : ∀ k : Fin 57, role k = .bar ↔ k = 0 := by decide +kernel

/-- The semaphore with the role of a semaphore is that semaphore. -/
theorem cell_role : ∀ k : Fin 57, (role k).cell = k := by decide +kernel

theorem act_of_inAct : ∀ z < 4, ∀ t : Tr, t.inAct z = (has z (opp t.dir) && t.act (znb z (opp t.dir))) :=
  fun _ _ _ => rfl

/-- A device that issues a copy has the neighbour it goes to. -/
theorem has_of_act (c : Dev nD) (t : Tr) : t.act (zc c) = true → has (zc c) t.dir = true := by
  have : ∀ z < 4, ∀ t ∈ allTr, t.act z = true → has z t.dir = true := by decide +kernel
  exact this _ (zc_lt c) t (mem_allTr t)

/-- A copy is received exactly where it was issued to. -/
theorem inAct_dst (c : Dev nD) (t : Tr) : t.inAct (zc (t.dst c)) = t.act (zc c) := by
  have : ∀ z < 4, ∀ t ∈ allTr, t.inAct (znb z t.dir) = t.act z := by decide +kernel
  rw [Tr.dst, zc_nb]; exact this _ (zc_lt c) t (mem_allTr t)

theorem has_nb (c : Dev nD) (d : Fin 4) : has (zc (nb c d)) (opp d) = has (zc c) d := by
  have : ∀ z < 4, ∀ d : Fin 4, has (znb z d) (opp d) = has z d := by decide +kernel
  rw [zc_nb]; exact this _ (zc_lt c) d

/-- How many signals the barrier of a device at `z` waits for: one of each neighbour. -/
def nbs (z : ℕ) : List (Fin 4) := [0, 1, 2, 3].filter (has z)

/-- The copies a device at `z` issues towards direction `d`. -/
def outs (z : ℕ) (d : Fin 4) : List Tr := allTr.filter (fun t => t.act z && decide (t.dir = d))

/-- Whether a device at `z` ever waits on its semaphore number `k`. -/
def used (z : ℕ) (k : Fin 57) : Bool :=
  match role k with
  | .none => false
  | .bar => true
  | .dy _ => true
  | .st _ => true
  | .snd t => t.act z
  | .rcv t => t.inAct z

/-! ## The pieces of memory

A piece is a set of whole columns of one buffer of a device, with what it holds (or with any contents). -/

/-- The pieces of memory that change hands.
    `xstg`: the staged block of `x`.  `dyS s`: half `s` of the columns of `dy` that the device needs.  `dvJ s`/`dvF s`: half
    `s` of the copy of these columns, before and after.  `ppJ q`/`ppF q`: quarter `q` of the partial product for the
    neighbour across `y`; `ybF q`: quarter `q` of the one received.  `pmJ s`/`pmP s`/`pmS s k`: half `s` of the own partial
    product with any contents, computed, and after the other half was added (share `k` of four).  `outJ s`/`outO s`: half `s`
    of the own block of the result before and after it was stored.  `outF X b s k`: half `s` of block `b` of the result, for
    the own `x` coordinate (`X = 0`) or the other one (`X = 1`), filled (share `k` of two).  `land t`: where the copy `t`
    arrives at this device, with any contents. -/
inductive Piece
  | xstg
  | dyS (s : Fin 2)
  | dvJ (s : Fin 2)
  | dvF (s : Fin 2)
  | ppJ (q : Fin 4)
  | ppF (q : Fin 4)
  | ybF (q : Fin 4)
  | pmJ (s : Fin 2)
  | pmP (s : Fin 2)
  | pmS (s : Fin 2) (k : Fin 4)
  | outJ (s : Fin 2)
  | outO (s : Fin 2)
  | outF (X : Fin 2) (b : ℕ) (s : Fin 2) (k : Fin 2)
  | land (t : Tr)
  deriving DecidableEq

/-- Where a copy arrives in the result array of a device at `z`: own or other `x`, block, half. -/
def Tr.blk (z : ℕ) : Tr → Fin 2 × ℕ × Fin 2
  | .y _ => (0, 0, 0)
  | .x b s => (1, b, s)
  | .zr h s => (0, z - 1 - h, s)
  | .zl h s => (0, z + 1 + h, s)
  | .rl => (1, 3, 0)
  | .rr => (1, 0, 0)

/-- What the arrival of a copy hands over to the waiting device at `z`. -/
def Tr.got (z : ℕ) (t : Tr) : List Piece :=
  match t with
  | .y q => [.ybF q]
  | t => [.outF (t.blk z).1 (t.blk z).2.1 (t.blk z).2.2 0, .outF (t.blk z).1 (t.blk z).2.1 (t.blk z).2.2 1]

/-- What a copy of a device at `z` reads. -/
def Tr.src (z : ℕ) : Tr → Piece
  | .y q => .ppF q
  | .x b s => if b.val = z then .pmS s 1 else .outF 0 b s 0
  | .zr h s => if h.val = 0 then .pmS s 2 else .outF 0 (z - h) s 1
  | .zl h s => if h.val = 0 then .pmS s 3 else .outF 0 (z + h) s 1
  | .rl => .outF 1 3 0 0
  | .rr => .outF 1 0 0 0

/-- What the wait on a DMA semaphore hands over to a device at `z`. -/
def Role.pay (z : ℕ) : Role → List Piece
  | .none => []
  | .bar => []
  | .dy s => [.dvF s, .dyS s]
  | .st s => [.outO s, .pmS s 0]
  | .snd t => [t.src z]
  | .rcv t => t.got z

/-! ## Levels

A device may wait on a semaphore only while everything it still owes to others lies higher. -/

/-- The level of semaphore `k` of a device at `z`. -/
def lvl (z : ℕ) (k : Fin 57) : ℕ :=
  match role k with
  | .none => 0
  | .bar => 1
  | .dy _ => 0
  | .st _ => 0
  | .snd _ => 0
  | .rcv (.y q) => 2 + q / 2
  | .rcv (.x b s) => if (s.val = 0 ∧ b.val = z ∧ (z = 0 ∨ z = 3)) then 4 else 100
  | .rcv (.zr h s) => 10 * (1 + h) + s
  | .rcv (.zl h s) => 10 * (1 + h) + 2 + s
  | .rcv .rl => 15 + 10 * (2 - z)
  | .rcv .rr => 5 + 10 * z

/-! ## The replayed run -/

/-- What a device can hold: a piece of its own memory; the right to write where its copy `t` arrives; its place at a
    semaphore, before (`pos`) or after (`zero`) the wait; the credit for that wait; the right to credit its own semaphore;
    and the rights to credit the arrival of copy `t` and the barrier of a neighbour. -/
inductive Atom
  | mem (p : Piece)
  | dstp (t : Tr)
  | pos (k : Fin 57)
  | zero (k : Fin 57)
  | crd (k : Fin 57)
  | tok (k : Fin 57)
  | tokR (t : Tr)
  | tokB (d : Fin 4)
  deriving DecidableEq

/-- What a device still owes: a signal to the barrier of a neighbour, or the arrival of a copy. -/
inductive Due
  | bar (d : Fin 4)
  | rcv (t : Tr)
  deriving DecidableEq

/-- The level of what is owed by a device at `z`. -/
def Due.lvl (z : ℕ) : Due → ℕ
  | .bar _ => 1
  | .rcv t => Grad.lvl (znb z t.dir) t.rk

/-- The steps of a device: signal a neighbour; wait on the barrier; start reading half `s` of `dy`; start storing half `s`
    of the own block; start the copy `t`; wait on a DMA semaphore; and the three computations. -/
inductive Op
  | sig (d : Fin 4)
  | bar
  | cin (s : Fin 2)
  | cst (s : Fin 2)
  | send (t : Tr)
  | wait (k : Fin 57)
  | pp (q : Fin 4)
  | pm (s : Fin 2)
  | add (s : Fin 2)
  deriving DecidableEq

/-- Half of the columns that quarter `q` lies in. -/
def half (q : Fin 4) : Fin 2 := fm 2 (q / 2)

/-- What a step of a device at `z` takes. -/
def Op.pre (z : ℕ) : Op → List Atom
  | .sig d => .tokB d :: (outs (znb z d) (opp d)).map (fun t => .mem (.land t))
  | .bar => [.pos 0, .crd 0]
  | .cin s => [.mem (.dyS s), .mem (.dvJ s), .tok (Role.dy s).cell]
  | .cst s => [.mem (.pmS s 0), .mem (.outJ s), .tok (Role.st s).cell]
  | .send t => [.mem (t.src z), .dstp t, .tok t.sk, .tokR t]
  | .wait k => [.pos k, .crd k]
  | .pp q => [.mem .xstg, .mem (.dvF (half q)), .mem (.ppJ q)]
  | .pm s => [.mem .xstg, .mem (.dvF s), .mem (.pmJ s)]
  | .add s => [.mem (.pmP s), .mem (.ybF (fm 4 (2 * s))), .mem (.ybF (fm 4 (2 * s + 1)))]

/-- What a step of a device at `z` gives. -/
def Op.post (z : ℕ) : Op → List Atom
  | .sig d => []
  | .bar => .zero 0 :: (nbs z).flatMap (fun d => (outs z d).map .dstp)
  | .cin s => [.crd (Role.dy s).cell]
  | .cst s => [.crd (Role.st s).cell]
  | .send t => [.crd t.sk]
  | .wait k => .zero k :: ((role k).pay z).map .mem
  | .pp q => [.mem .xstg, .mem (.dvF (half q)), .mem (.ppF q)]
  | .pm s => [.mem .xstg, .mem (.dvF s), .mem (.pmP s)]
  | .add s => [.mem (.pmS s 0), .mem (.pmS s 1), .mem (.pmS s 2), .mem (.pmS s 3), .mem (.ybF (fm 4 (2 * s))),
      .mem (.ybF (fm 4 (2 * s + 1)))]

/-- What a step pays of what is owed. -/
def Op.pays : Op → List Due
  | .sig d => [.bar d]
  | .send t => [.rcv t]
  | _ => []

/-- Whether a step is in order on a device at `z`: a signal goes to a neighbour that exists, a copy is one that is
    issued there, a wait is on a semaphore in use (other than the barrier's own), at a level below all that is owed. -/
def Op.ok (z : ℕ) (D : List Due) : Op → Bool
  | .sig d => has z d
  | .bar => D.all (fun u => decide (1 < u.lvl z))
  | .send t => t.act z
  | .wait k => used z k && decide (k ≠ 0) && D.all (fun u => decide (Grad.lvl z k < u.lvl z))
  | _ => true

/-- Take one element out of a list. -/
def take1 {α : Type} [DecidableEq α] (a : α) : List α → Option (List α)
  | [] => none
  | b :: l => if b = a then some l else (take1 a l).map (b :: ·)

/-- Take a list of elements out of a list. -/
def takes {α : Type} [DecidableEq α] : List α → List α → Option (List α)
  | [], l => some l
  | a :: l', l => (take1 a l).bind (takes l')

/-- What a device holds and what it owes. -/
structure St where
  held : List Atom
  dues : List Due

/-- One step of a device at `z`. -/
def step (z : ℕ) (S : St) (o : Op) : Option St :=
  (takes (o.pre z) S.held).bind fun A => (takes o.pays S.dues).bind fun D =>
    if o.ok z D then some ⟨o.post z ++ A, D⟩ else none

/-- Several steps of a device at `z`. -/
def run (z : ℕ) (S : St) (l : List Op) : Option St := l.foldlM (step z) S

theorem run_cons (z : ℕ) (S : St) (o : Op) (l : List Op) : run z S (o :: l) = (step z S o).bind (run z · l) := rfl

theorem run_append (z : ℕ) (S : St) (l₁ l₂ : List Op) : run z S (l₁ ++ l₂) = (run z S l₁).bind (run z · l₂) := by
  simp [run, List.foldlM_append]

/-! ## What the program does, in its order

The waits name the semaphore by its role. -/

/-- The steps when a condition holds. -/
def iff (P : Prop) [Decidable P] (l : List Op) : List Op := if P then l else []

/-- Wait for the arrival of a copy. -/
abbrev wR (t : Tr) : Op := .wait t.rk
/-- Wait for the departure of a copy. -/
abbrev wS (t : Tr) : Op := .wait t.sk
/-- The copy across `x` of the block that came from `k` steps down (half `s`). -/
def xdn (z k : ℕ) (s : Fin 2) : Tr := .x (fm 4 (z - k)) s
/-- The copy across `x` of the block that came from `k` steps up (half `s`). -/
def xup (z k : ℕ) (s : Fin 2) : Tr := .x (fm 4 (z + k)) s

/-- Hop `h` of the ring to the right for the first half: wait for it, pass it on, and copy it across `x`. -/
def opsR0 (z : ℕ) (h : Fin 3) : List Op :=
  wR (.zr h 0) :: (iff (h.val < 2 ∧ z < 3) [.send (.zr (fm 3 (h + 1)) 0)]
    ++ iff (z - 1 - h ≠ 0 ∧ z - 1 - h ≠ 3) [.send (xdn z (1 + h) 0)])

/-- Hop `h` of the ring to the left for the first half. -/
def opsL0 (z : ℕ) (h : Fin 3) : List Op :=
  wR (.zl h 0) :: (iff (h.val < 2 ∧ 0 < z) [.send (.zl (fm 3 (h + 1)) 0)]
    ++ iff (z + 1 + h ≠ 0 ∧ z + 1 + h ≠ 3) [.send (xup z (1 + h) 0)])

/-- Hop `h` of the ring to the right, both halves. -/
def opsR (z : ℕ) (h : Fin 3) : List Op :=
  iff (0 < z ∧ h.val ≤ z - 1) (opsR0 z h ++ (wR (.zr h 1) ::
    (iff (h.val < 2 ∧ z < 3) [.send (.zr (fm 3 (h + 1)) 1)] ++ [.send (xdn z (1 + h) 1)])))

/-- Hop `h` of the ring to the left, both halves. -/
def opsL (z : ℕ) (h : Fin 3) : List Op :=
  iff (z < 3 ∧ z + 1 + h ≤ 3) (opsL0 z h ++ (wR (.zl h 1) ::
    (iff (h.val < 2 ∧ 0 < z) [.send (.zl (fm 3 (h + 1)) 1)] ++ [.send (xup z (1 + h) 1)])))

/-- The own block, half `s`, to the three neighbours that need it. -/
def opsOwn (z : ℕ) (s : Fin 2) : List Op :=
  .send (.x (fm 4 z) s) :: (iff (z < 3) [.send (.zr 0 s)] ++ iff (0 < z) [.send (.zl 0 s)])

end Cert.KernelIdeal.Grad
-- ==== Proof.Replay.lean ====
module

public import proofs.«01_k».proof.Proof.Mesh

/-!
# The run of one device, replayed

The steps of the program part by part, what a device holds at the start, what it must hold at the end, and the check, for
each `z`, that the steps lead from the one to the other with nothing left owed.
-/

@[expose] public section

namespace Cert.KernelIdeal.Grad

open Cert.KernelIdeal
open Idealize.ShloMosaic

/-- The steps of part 7: the first three signals. -/
def ops7 (z : ℕ) : List Op := .sig 0 :: .sig 1 :: iff (0 < z) [.sig 2]
/-- The steps of part 8. -/
def ops8 (z : ℕ) : List Op := iff (z < 3) [.sig 3] ++ [.cin 0, .cin 1, .wait (Role.dy 0).cell, .pp 0]
/-- The steps of part 9. -/
def ops9 : List Op := [.bar, .send (.y 0), .pp 1]
/-- The steps of part 10. -/
def ops10 : List Op := [.send (.y 1), .pm 0, wS (.y 0), wR (.y 0)]
/-- The steps of part 11. -/
def ops11 : List Op := [wS (.y 1), wR (.y 1), .add 0, .cst 0]
/-- The steps of part 12. -/
def ops12 (z : ℕ) : List Op := .send (.x (fm 4 z) 0) :: (iff (z < 3) [.send (.zr 0 0)] ++ (iff (0 < z) [.send (.zl 0 0)] ++
  [.wait (Role.dy 1).cell, .pp 2]))
/-- The steps of part 13. -/
def ops13 : List Op := [.send (.y 2), .pp 3, .send (.y 3)]
/-- The steps of part 14. -/
def ops14 : List Op := [.pm 1, wS (.y 2), wR (.y 2), wS (.y 3)]
/-- The steps of part 15. -/
def ops15 : List Op := [wR (.y 3), .add 1, .cst 1]
/-- Pass on the corner block of the left relay. -/
def opsRl (P : Prop) [Decidable P] : List Op := iff P [wR .rl, .send .rl]
/-- Pass on the corner block of the right relay. -/
def opsRr (P : Prop) [Decidable P] : List Op := iff P [wR .rr, .send .rr]
/-- The steps of part 16. -/
def ops16 (z : ℕ) : List Op := .send (.x (fm 4 z) 1) :: (iff (z < 3) [.send (.zr 0 1)] ++ (iff (0 < z) [.send (.zl 0 1)] ++
  (opsR z 0 ++ (opsL z 0 ++ iff (z = 3) [wR (.x 3 0), .send .rl]))))
/-- The steps of part 17. -/
def ops17 (z : ℕ) : List Op := iff (z = 0) [wR (.x 0 0), .send .rr] ++ (opsRl (z = 2) ++ (opsRr (z = 1) ++
  (opsR z 1 ++ (opsL z 1 ++ (opsRl (z = 1) ++ opsRr (z = 2))))))
/-- The steps of part 18. -/
def ops18 (z : ℕ) : List Op := opsR z 2 ++ (opsL z 2 ++ (iff (z = 0) [wR .rl] ++ (iff (z = 3) [wR .rr] ++
  (.wait (Role.st 0).cell :: .wait (Role.st 1).cell :: iff (z = 0) [wS (.x 0 0)]))))
/-- The steps of part 19. -/
def ops19 : List Op := [wS (.x 0 1), wR (.x 0 1)]
/-- The steps of part 20. -/
def ops20 : List Op := [wS (.x 1 0), wR (.x 1 0), wS (.x 1 1)]
/-- The steps of part 21. -/
def ops21 : List Op := [wR (.x 1 1), wS (.x 2 0)]
/-- The steps of part 22. -/
def ops22 (z : ℕ) : List Op := wR (.x 2 0) :: wS (.x 2 1) :: wR (.x 2 1) :: iff (z = 3) [wS (.x 3 0)]
/-- The steps of part 23. -/
def ops23 (z : ℕ) : List Op := wS (.x 3 1) :: wR (.x 3 1) :: (iff (0 < z) [wS .rl] ++ iff (z < 3) [wS .rr])
/-- The steps of part 24 but for its calls. -/
def ops24t (z : ℕ) : List Op := iff (z < 3) [wS (.zr 0 0), wS (.zr 0 1)] ++ (iff (0 < z) [wS (.zl 0 0), wS (.zl 0 1)] ++
  (iff (1 ≤ z ∧ z < 3) [wS (.zr 1 0), wS (.zr 1 1)] ++ iff (0 < z ∧ z ≤ 2) [wS (.zl 1 0), wS (.zl 1 1)]))
/-- The steps of part 24, which calls the others. -/
def ops24 (z : ℕ) : List Op := ops7 z ++ (ops8 z ++ (ops9 ++ (ops10 ++ (ops11 ++ (ops12 z ++ (ops13 ++ (ops14 ++ (ops15 ++
  (ops16 z ++ (ops17 z ++ (ops18 z ++ (ops19 ++ (ops20 ++ (ops21 ++ (ops22 z ++ (ops23 z ++ ops24t z))))))))))))))))
/-- All steps of the kernel. -/
def opsAll (z : ℕ) : List Op := ops24 z ++ (iff (2 ≤ z ∧ z < 3) [wS (.zr 2 0), wS (.zr 2 1)] ++
  iff (0 < z ∧ z ≤ 1) [wS (.zl 2 0), wS (.zl 2 1)])

/-- All semaphores. -/
def allK : List (Fin 57) := List.finRange 57

/-- The DMA semaphores that no copy of another device arrives on. -/
def ownK : List (Fin 57) := allK.filter (fun k => decide (k ≠ 0) && !(allTr.map Tr.rk).contains k)

/-- The pieces of memory a device has at the start. -/
def mem₀ (z : ℕ) : List Piece :=
  [.xstg, .dyS 0, .dyS 1, .dvJ 0, .dvJ 1, .ppJ 0, .ppJ 1, .ppJ 2, .ppJ 3, .pmJ 0, .pmJ 1, .outJ 0, .outJ 1]
    ++ (allTr.filter (Tr.inAct z)).map .land

/-- What a device may wait for that others owe to it. -/
def crd₀ (z : ℕ) : List Atom := .crd 0 :: (allTr.filter (Tr.inAct z)).map (fun t => .crd t.rk)

/-- Where a device stands on its semaphores, and the tokens of what it pays. -/
def tok₀ : List Atom := allK.map .pos ++ (ownK.map .tok ++ (allTr.map .tokR ++ [0, 1, 2, 3].map .tokB))

/-- What a device holds at the start. -/
def held₀ (z : ℕ) : List Atom := (mem₀ z).map .mem ++ (crd₀ z ++ tok₀)

/-- What a device owes at the start. -/
def dues₀ (z : ℕ) : List Due := (nbs z).map .bar ++ (allTr.filter (Tr.act z)).map .rcv

/-- The parts of the result array: own and other `x`, four blocks, two halves; the own block apart. -/
def outParts (z : ℕ) : List (Fin 2 × ℕ × Fin 2) :=
  [(0, 0, 0), (0, 0, 1), (0, 1, 0), (0, 1, 1), (0, 2, 0), (0, 2, 1), (0, 3, 0), (0, 3, 1),
   (1, 0, 0), (1, 0, 1), (1, 1, 0), (1, 1, 1), (1, 2, 0), (1, 2, 1), (1, 3, 0), (1, 3, 1)].filter
    (fun p => decide (¬ (p.1 = 0 ∧ p.2.1 = z)))

/-- The pieces of memory a device must have at the end. -/
def mem₁ (z : ℕ) : List Piece :=
  [.xstg, .dvF 0, .dvF 1, .ppF 0, .ppF 1, .ppF 2, .ppF 3, .ybF 0, .ybF 1, .ybF 2, .ybF 3,
   .pmS 0 0, .pmS 0 1, .pmS 0 2, .pmS 0 3, .pmS 1 0, .pmS 1 1, .pmS 1 2, .pmS 1 3, .outO 0, .outO 1]
    ++ (outParts z).flatMap (fun p => [.outF p.1 p.2.1 p.2.2 0, .outF p.1 p.2.1 p.2.2 1])

/-- What a device must hold at the end. -/
def held₁ (z : ℕ) : List Atom :=
  (mem₁ z).map .mem ++ allK.map (fun k => if used z k then .zero k else .pos k)

/-- Whether the run of a device at `z` goes through and ends as it must. -/
def good (z : ℕ) : Bool :=
  match run z ⟨held₀ z, dues₀ z⟩ (opsAll z) with
  | none => false
  | some S => S.dues.isEmpty && (takes (held₁ z) S.held).isSome

theorem good_all : ∀ z < 4, good z = true := by decide +kernel

/-- The run of a device at `z` goes through; at the end nothing is owed and what must be held is held. -/
theorem replay (z : ℕ) (hz : z < 4) : ∃ S, run z ⟨held₀ z, dues₀ z⟩ (opsAll z) = some S ∧ S.dues = [] ∧
    ∃ A, takes (held₁ z) S.held = some A := by
  have h := good_all z hz
  unfold good at h
  split at h
  · cases h
  · next S hS =>
    rw [Bool.and_eq_true] at h
    exact ⟨S, hS, List.isEmpty_iff.mp h.1, Option.isSome_iff_exists.mp h.2⟩

end Cert.KernelIdeal.Grad
-- ==== Proof.Contents.lean ====
module

public import proofs.«01_k».proof.Proof.Mesh
public import proofs.«01_k».proof.Proof.Gen.KernelIdeal.Skeleton

/-!
# What the arrays hold

Blocks of whole columns of a two-dimensional array, and the contents of every array the kernel fills, as functions of the
arguments that the devices hold at the start.
-/

@[expose] public section

noncomputable section

namespace Cert.KernelIdeal.Grad

open Cert.KernelIdeal Cert.KernelIdeal.Gen
open Idealize.ShloMosaic
open Idealize.ShloMosaic.TcCoe

/-! ## Columns -/

/-- The shape with `R` rows and `W` columns. -/
abbrev M2 (R W : ℕ) : Shape := ⟨2, ![R, W]⟩

section Cols

variable {R W : ℕ} [NeZero R] [NeZero W] {α : Type}

/-- The index in row `r` and column `c`. -/
def ix (R W : ℕ) [NeZero R] [NeZero W] (r c : ℕ) : (M2 R W).Idx := fun a =>
  match a with
  | ⟨0, _⟩ => Fin.ofNat R r
  | ⟨1, _⟩ => Fin.ofNat W c

theorem ix_zero (r c : ℕ) (h : r < R) : (ix R W r c 0).val = r := Nat.mod_eq_of_lt h

theorem ix_one (r c : ℕ) (h : c < W) : (ix R W r c 1).val = c := Nat.mod_eq_of_lt h

theorem idx_zero_lt (i : (M2 R W).Idx) : (i 0).val < R := (i 0).isLt

theorem idx_one_lt (i : (M2 R W).Idx) : (i 1).val < W := (i 1).isLt

/-- Two indices with the same row and the same column are the same. -/
theorem idx_ext {i j : (M2 R W).Idx} (h0 : (i 0).val = (j 0).val) (h1 : (i 1).val = (j 1).val) : i = j := by
  funext a
  match a with
  | ⟨0, _⟩ => exact Fin.ext h0
  | ⟨1, _⟩ => exact Fin.ext h1

theorem ix_self (i : (M2 R W).Idx) : ix R W (i 0).val (i 1).val = i :=
  idx_ext (ix_zero _ _ (idx_zero_lt i)) (ix_one _ _ (idx_one_lt i))

/-- The `w` columns of an array from column `lo` on. -/
def cut (w lo : ℕ) (g : (M2 R W).Idx → α) : (M2 R w).Idx → α := fun j => g (ix R W (j 0).val (lo + (j 1).val))

/-- The set of the indices in the `w` columns from column `lo` on. -/
def cols (R W lo w : ℕ) : Finset (M2 R W).Idx := Finset.univ.filter fun i => lo ≤ (i 1).val ∧ (i 1).val < lo + w

theorem mem_cols {lo w : ℕ} {i : (M2 R W).Idx} : i ∈ cols R W lo w ↔ lo ≤ (i 1).val ∧ (i 1).val < lo + w := by
  simp [cols]

/-- A block of all rows and `w` columns is that set of columns. -/
theorem rect_set {lo w : ℕ} {off : Fin 2 → ℕ} (ho : off = ![0, lo]) (inb : ∀ a, off a + (M2 R w).size a ≤ (M2 R W).size a) :
    (Rect.unit (s := M2 R W) off (M2 R w).size inb).set = cols R W lo w := by
  subst ho
  ext i
  rw [Rect.mem_set_unit, mem_cols]
  constructor
  · intro h; exact h 1
  · intro h a
    match a with
    | ⟨0, _⟩ => exact ⟨Nat.zero_le _, by have := idx_zero_lt i; show (i 0).val < 0 + R; omega⟩
    | ⟨1, _⟩ => exact h

/-- Where such a block places its index. -/
theorem rect_emb {lo w : ℕ} {off : Fin 2 → ℕ} (ho : off = ![0, lo])
    (inb : ∀ a, off a + (M2 R w).size a ≤ (M2 R W).size a) (j : (M2 R w).Idx) :
    (Rect.unit (s := M2 R W) off (M2 R w).size inb).emb j = ix R W (j 0).val (lo + (j 1).val) := by
  subst ho
  have hw : lo + w ≤ W := inb 1
  have h1 : (j 1).val < w := (j 1).isLt
  have h0 : (j 0).val < R := (j 0).isLt
  refine idx_ext ?_ ?_
  · rw [ix_zero _ _ h0]; show 0 + 1 * (j 0).val = _; omega
  · rw [ix_one _ _ (by omega)]; show lo + 1 * (j 1).val = _; omega

theorem cols_union {lo w w' : ℕ} (lo' : ℕ) (h : lo' = lo + w) : cols R W lo w ∪ cols R W lo' w' = cols R W lo (w + w') := by
  subst h; ext i; simp only [Finset.mem_union, mem_cols]; omega

theorem cols_disjoint {lo w lo' w' : ℕ} (h : lo + w ≤ lo' ∨ lo' + w' ≤ lo) :
    Disjoint (cols R W lo w) (cols R W lo' w') := by
  rw [Finset.disjoint_left]; intro i h1 h2; rw [mem_cols] at h1 h2; omega

theorem cols_subset {lo w lo' w' : ℕ} (h : lo' ≤ lo) (h' : lo + w ≤ lo' + w') : cols R W lo w ⊆ cols R W lo' w' := by
  intro i hi; rw [mem_cols] at *; omega

theorem cols_univ : cols R W 0 W = Finset.univ := by
  ext i; have := idx_one_lt i; rw [mem_cols]; simp; omega

end Cols

/-! ## The contents -/

variable {F : FTy → Type} [FloatOps F]

variable (m : (ℓ : Loc nD τ sig) → Buf (Elt F) ℓ)

/-- The block of `x` that device `c` holds: the rows of its `y`. -/
def XA (c : Dev nD) : (M2 2048 2048).Idx → Elt F .f32 := m ((c : Thread nD τ).loc main_arg0)

/-- The block of `dy` that device `c` holds: the rows of its `y`. -/
def DYA (c : Dev nD) : (M2 2048 8192).Idx → Elt F .f32 := m ((c : Thread nD τ).loc main_arg1)

/-- Where the columns of the own block of a device start. -/
def own (c : Dev nD) : ℕ := 2048 * zc c + 1024 * xc c

/-- The columns of `x` that the neighbour across `y` needs. -/
def XP (c : Dev nD) : Vec F S2048x1024 .f32 := cut 1024 (1024 - 1024 * yc c) (XA m c)

/-- The columns of `x` that the device itself needs. -/
def XM (c : Dev nD) : Vec F S2048x1024 .f32 := cut 1024 (1024 * yc c) (XA m c)

/-- The columns of `dy` of the own block. -/
def DYV (c : Dev nD) : (M2 2048 1024).Idx → Elt F .f32 := cut 1024 (own c) (DYA m c)

/-- The partial product for the neighbour across `y`. -/
def PPF (c : Dev nD) : (M2 1024 1024).Idx → Elt F .f32 := fun i =>
  k0_pay1 (XP m c) (cut 256 (256 * ((i 1).val / 256)) (DYV m c)) (ix 1024 256 (i 0).val ((i 1).val % 256))

/-- The partial product received from the neighbour across `y`. -/
def YBF (c : Dev nD) : (M2 1024 1024).Idx → Elt F .f32 := PPF m (nb c 1)

/-- The own partial product. -/
def PMP (c : Dev nD) : (M2 1024 1024).Idx → Elt F .f32 := fun i =>
  k0_pay3 (XM m c) (cut 512 (512 * ((i 1).val / 512)) (DYV m c)) (ix 1024 512 (i 0).val ((i 1).val % 512))

/-- The own block of the result: the own partial product and the received one added. -/
def PMF (c : Dev nD) : (M2 1024 1024).Idx → Elt F .f32 := fun i =>
  k0_pay4 (cut 512 (512 * ((i 1).val / 512)) (PMP m c)) (cut 512 (512 * ((i 1).val / 512)) (YBF m c))
    (ix 1024 512 (i 0).val ((i 1).val % 512))

/-- The device of the same `y` whose own block has number `C`. -/
def owner (c : Dev nD) (C : ℕ) : Dev nD := dev C (yc c) (C / 2)

/-- The result array: block `C` of its columns is the own block of the device that owns it. -/
def OUT (c : Dev nD) : (M2 1024 8192).Idx → Elt F .f32 := fun i =>
  PMF m (owner c ((i 1).val / 1024)) (ix 1024 1024 (i 0).val ((i 1).val % 1024))

/-- The result depends on a device only by its `y`. -/
theorem OUT_congr {c c' : Dev nD} (h : yc c = yc c') : OUT m c = OUT m c' := by
  funext i; simp only [OUT, owner, h]

/-- The partial product is computed a quarter at a time. -/
theorem cut_PPF (c : Dev nD) (q : Fin 4) :
    cut 256 (256 * q.val) (PPF m c) = k0_pay1 (XP m c) (cut 256 (256 * q.val) (DYV m c)) := by
  funext j
  have h1 : (j 1).val < 256 := idx_one_lt j
  have h0 : (j 0).val < 1024 := idx_zero_lt j
  have e1 : (256 * q.val + (j 1).val) / 256 = q.val := by omega
  have e2 : (256 * q.val + (j 1).val) % 256 = (j 1).val := by omega
  unfold cut PPF
  rw [ix_one _ _ (by omega), ix_zero _ _ h0, e1, e2]
  exact congrArg _ (ix_self j)

/-- The own partial product is computed a half at a time. -/
theorem cut_PMP (c : Dev nD) (s : Fin 2) :
    cut 512 (512 * s.val) (PMP m c) = k0_pay3 (XM m c) (cut 512 (512 * s.val) (DYV m c)) := by
  funext j
  have h1 : (j 1).val < 512 := idx_one_lt j
  have h0 : (j 0).val < 1024 := idx_zero_lt j
  have e1 : (512 * s.val + (j 1).val) / 512 = s.val := by omega
  have e2 : (512 * s.val + (j 1).val) % 512 = (j 1).val := by omega
  unfold cut PMP
  rw [ix_one _ _ (by omega), ix_zero _ _ h0, e1, e2]
  exact congrArg _ (ix_self j)

/-- The two partial products are added a half at a time. -/
theorem cut_PMF (c : Dev nD) (s : Fin 2) :
    cut 512 (512 * s.val) (PMF m c) = k0_pay4 (cut 512 (512 * s.val) (PMP m c)) (cut 512 (512 * s.val) (YBF m c)) := by
  funext j
  have h1 : (j 1).val < 512 := idx_one_lt j
  have h0 : (j 0).val < 1024 := idx_zero_lt j
  have e1 : (512 * s.val + (j 1).val) / 512 = s.val := by omega
  have e2 : (512 * s.val + (j 1).val) % 512 = (j 1).val := by omega
  conv_lhs => unfold cut PMF
  rw [ix_one _ _ (by omega), ix_zero _ _ h0, e1, e2]
  exact congrArg _ (ix_self j)

theorem owner_own : ∀ c c' : Dev nD, yc c' = yc c → owner c' (2 * zc c + xc c) = c := by decide +kernel

/-- Half `s` of the own block of `c`, in the result of any device of the same `y`. -/
theorem cut_OUT (c c' : Dev nD) (h : yc c' = yc c) (s : Fin 2) :
    cut 512 (own c + 512 * s.val) (OUT m c') = cut 512 (512 * s.val) (PMF m c) := by
  funext j
  have h1 : (j 1).val < 512 := idx_one_lt j
  have h0 : (j 0).val < 1024 := idx_zero_lt j
  have hc := c.isLt
  have hc' : c.val < 16 := hc
  have e1 : (own c + 512 * s.val + (j 1).val) / 1024 = 2 * zc c + xc c := by unfold own; omega
  have e2 : (own c + 512 * s.val + (j 1).val) % 1024 = 512 * s.val + (j 1).val := by unfold own; omega
  have e3 : own c + 512 * s.val + (j 1).val < 8192 := by unfold own zc xc; omega
  have e4 : owner c' (2 * zc c + xc c) = c := owner_own c c' h
  unfold cut OUT
  rw [ix_one _ _ e3, ix_zero _ _ h0, e1, e2, e4]

end Cert.KernelIdeal.Grad

end
-- ==== Proof.Sched.lean ====
module

public import proofs.«01_k».proof.Proof.Replay
public import proofs.«01_k».proof.Proof.Contents
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

/-!
# The schedule of the semaphores

What each piece of memory is, what each signal and each arrival hands over, and in which order of levels the waits lie.
-/

@[expose] public section

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The schedule's own resources: duties are named by the four directions. -/
abbrev UB : Type := URounds (GSem nD τ sig) (Fin 4)
/-- The resources of the pipeline and of the schedule. -/
abbrev UU : Type := UR sig nD τ × UB

local notation "𝕄" => MT nD τ sig Unit (Elt F) ℕ UU ℕ

/-- Where the pipeline's resources lie. -/
abbrev EP : Emb (UR sig nD τ) (MT nD τ sig Unit (Elt F) ℕ UU ℕ) := embL
/-- Where the schedule's resources lie. -/
abbrev ER : Emb UB (MT nD τ sig Unit (Elt F) ℕ UU ℕ) := embR

/-- No variants are used. -/
abbrev 𝒱₀ : Variants := Variants.none

variable (m : (ℓ : Loc nD τ sig) → Buf (Elt F) ℓ)

/-! ## Separating conjunction along a list -/

/-- The separating conjunction of a list of assertions. -/
def sepL {α : Type} (f : α → sProp 𝕄) : List α → sProp 𝕄
  | [] => iprop(emp)
  | a :: l => iprop(f a ∗ sepL f l)

omit [FloatOps F] in
theorem sepL_append {α : Type} (f : α → sProp 𝕄) (l l' : List α) :
    sepL f (l ++ l') ⊣⊢ iprop(sepL f l ∗ sepL f l') := by
  induction l with
  | nil => exact (emp_sep (PROP := sProp 𝕄)).symm
  | cons a l ih =>
    constructor
    · show iprop(f a ∗ sepL f (l ++ l')) ⊢ iprop((f a ∗ sepL f l) ∗ sepL f l')
      iintro ⟨Ha, H⟩
      ihave H := ih.1 $$ H
      icases H with ⟨H1, H2⟩
      isplitl [Ha H1]
      · isplitl [Ha] <;> iassumption
      · iexact H2
    · show iprop((f a ∗ sepL f l) ∗ sepL f l') ⊢ iprop(f a ∗ sepL f (l ++ l'))
      iintro ⟨⟨Ha, H1⟩, H2⟩
      isplitl [Ha]; · iexact Ha
      iapply ih.2
      isplitl [H1] <;> iassumption

omit [FloatOps F] in
theorem sepL_map {α β : Type} (f : β → sProp 𝕄) (g : α → β) (l : List α) : sepL f (l.map g) = sepL (fun a => f (g a)) l := by
  induction l with
  | nil => rfl
  | cons a l ih => show iprop(f (g a) ∗ sepL f (l.map g)) = _; rw [ih]; rfl

omit [FloatOps F] in
theorem sepL_storable {α : Type} (f : α → sProp 𝕄) (h : ∀ a, BI.Storable (upEmb : UEmb _ 𝕄) (f a)) (l : List α) :
    BI.Storable (upEmb : UEmb _ 𝕄) (sepL f l) := by
  induction l with
  | nil => show BI.Storable upEmb iprop(emp); infer_instance
  | cons a l ih =>
    haveI := h a
    show BI.Storable upEmb iprop(f a ∗ sepL f l)
    infer_instance

/-! ## The pieces of memory -/

/-- One of two halves of a share. -/
def sh2 (k : Fin 2) : PosShare TreeShare := match k with
  | 0 => fullShare.left
  | 1 => fullShare.right

/-- One of four quarters of a share. -/
def sh4 (k : Fin 4) : PosShare TreeShare := match k with
  | 0 => fullShare.left.left
  | 1 => fullShare.left.right
  | 2 => fullShare.right.left
  | 3 => fullShare.right.right

/-- Where half `s` of block `b` starts in the result, for the own `x` (`X = 0`) or the other (`X = 1`). -/
def colAt (c : Dev nD) (X b s : ℕ) : ℕ := 2048 * b + 1024 * ((xc c + X) % 2) + 512 * s

/-- What it means that device `c` has a piece of memory. -/
def pieceI (c : Dev nD) : Piece → sProp 𝕄
  | .xstg => (((c : Thread nD τ).loc cc0_stg0_0) ↦{fullShare} (XA m c) : sProp 𝕄)
  | .dyS s => (((c : Thread nD τ).loc main_arg1) ↦[cols 2048 8192 (own c + 512 * s.val) 512]{fullShare.left} (DYA m c) : sProp 𝕄)
  | .dvJ s => iprop(∃ f, ((c : Thread nD τ).loc cc0_scratch0) ↦[cols 2048 1024 (512 * s.val) 512]{fullShare} f)
  | .dvF s => (((c : Thread nD τ).loc cc0_scratch0) ↦[cols 2048 1024 (512 * s.val) 512]{fullShare} (DYV m c) : sProp 𝕄)
  | .ppJ q => iprop(∃ f, ((c : Thread nD τ).loc cc0_scratch1) ↦[cols 1024 1024 (256 * q.val) 256]{fullShare} f)
  | .ppF q => (((c : Thread nD τ).loc cc0_scratch1) ↦[cols 1024 1024 (256 * q.val) 256]{fullShare} (PPF m c) : sProp 𝕄)
  | .ybF q => (((c : Thread nD τ).loc cc0_scratch3) ↦[cols 1024 1024 (256 * q.val) 256]{fullShare} (YBF m c) : sProp 𝕄)
  | .pmJ s => iprop(∃ f, ((c : Thread nD τ).loc cc0_scratch2) ↦[cols 1024 1024 (512 * s.val) 512]{fullShare} f)
  | .pmP s => (((c : Thread nD τ).loc cc0_scratch2) ↦[cols 1024 1024 (512 * s.val) 512]{fullShare} (PMP m c) : sProp 𝕄)
  | .pmS s k => (((c : Thread nD τ).loc cc0_scratch2) ↦[cols 1024 1024 (512 * s.val) 512]{sh4 k} (PMF m c) : sProp 𝕄)
  | .outJ s => iprop(∃ f, ((c : Thread nD τ).loc main_v1) ↦[cols 1024 8192 (own c + 512 * s.val) 512]{fullShare} f)
  | .outO s => (((c : Thread nD τ).loc main_v1) ↦[cols 1024 8192 (own c + 512 * s.val) 512]{fullShare} (OUT m c) : sProp 𝕄)
  | .outF X b s k => (((c : Thread nD τ).loc main_v1) ↦[cols 1024 8192 (colAt c X.val b s.val) 512]{sh2 k} (OUT m c) : sProp 𝕄)
  | .land (.y q) => iprop(∃ f, ((c : Thread nD τ).loc cc0_scratch3) ↦[cols 1024 1024 (256 * q.val) 256]{fullShare} f)
  | .land t => iprop(∃ f, ((c : Thread nD τ).loc main_v1)
      ↦[cols 1024 8192 (colAt c (t.blk (zc c)).1.val (t.blk (zc c)).2.1 (t.blk (zc c)).2.2.val) 512]{fullShare} f)

/-- What it means that device `c` may write where its copy `t` arrives. -/
def dstI (c : Dev nD) (t : Tr) : sProp 𝕄 := pieceI m (t.dst c) (.land t)

omit [FloatOps F] in
instance pieceI_storable [FloatOps F] (c : Dev nD) (p : Piece) : BI.Storable (upEmb : UEmb _ 𝕄) (pieceI m c p) := by
  unfold pieceI
  split <;> infer_instance

instance dstI_storable (c : Dev nD) (t : Tr) : BI.Storable (upEmb : UEmb _ 𝕄) (dstI m c t) := pieceI_storable m _ _

/-! ## The semaphores -/

/-- The barrier semaphore. -/
abbrev barS : Sem sig := (SemArray.scalar (sig.barrier 0 rfl) : Sems sig S_).sem

/-- Semaphore number `k`: the barrier (0) or the DMA semaphore `k`. -/
def csem (k : Fin 57) : SemLoc sig := if k = 0 then .reg barS else .dma k

/-- Semaphore number `k` of device `c`. -/
abbrev kcell (p : Dev nD × Fin 57) : GSem nD τ sig := ((p.1 : Thread nD τ), csem p.2)

theorem csem_zero : csem 0 = .reg barS := rfl

theorem csem_pos {k : Fin 57} (h : k ≠ 0) : csem k = .dma k := if_neg h

/-- The role of a semaphore of the machine. -/
def roleOf : SemLoc sig → Role
  | .reg _ => .bar
  | .dma i => if (i : Fin 57) = 0 then .none else role i

theorem roleOf_csem (k : Fin 57) : roleOf (csem k) = role k := by
  by_cases h : k = 0
  · subst h; rfl
  · rw [csem_pos h]; exact if_neg h

theorem csem_injective : Function.Injective csem := by
  intro a b h
  by_cases ha : a = 0 <;> by_cases hb : b = 0
  · rw [ha, hb]
  · rw [ha, csem_zero, csem_pos hb] at h; cases h
  · rw [hb, csem_zero, csem_pos ha] at h; cases h
  · rw [csem_pos ha, csem_pos hb] at h; injection h

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The units that a quarter of a partial product counts for. -/
def NY : ℕ := ((Memref.whole cc0_scratch3 : Memref sig .tc .vmem S1024x1024 .f32).slice
  (Rect.unit (s := S1024x1024) ![0, 0] S1024x256.size inb_S1024x1024_S1024x256_0_0) (fun _ => rfl)).view.dmaCredit
/-- The units that half a block of the result counts for. -/
def NS : ℕ := ((Memref.whole cc0_scratch2 : Memref sig .tc .vmem S1024x1024 .f32).slice
  (Rect.unit (s := S1024x1024) ![0, 0] S1024x512.size inb_S1024x1024_S1024x512_0_0) (fun _ => rfl)).view.dmaCredit
/-- The units that half of the columns of `dy` counts for. -/
def ND : ℕ := ((Memref.whole cc0_scratch0 : Memref sig .tc .vmem S2048x1024 .f32).slice
  (Rect.unit (s := S2048x1024) ![0, 0] S2048x512.size inb_S2048x1024_S2048x512_0_0) (fun _ => rfl)).view.dmaCredit

theorem NY_pos : 0 < NY := View.dmaCredit_pos _ (by decide +kernel)
theorem NS_pos : 0 < NS := View.dmaCredit_pos _ (by decide +kernel)
theorem ND_pos : 0 < ND := View.dmaCredit_pos _ (by decide +kernel)

/-- The units one copy counts for. -/
def Tr.amt : Tr → ℕ
  | .y _ => NY
  | _ => NS

/-- The units one signal or copy counts for on a semaphore with a role. -/
def Role.amt : Role → ℕ
  | .none => 1
  | .bar => 1
  | .dy _ => ND
  | .st _ => NS
  | .snd t => t.amt
  | .rcv t => t.amt

theorem Tr.amt_pos (t : Tr) : 0 < t.amt := by
  cases t <;> first | exact NY_pos | exact NS_pos

theorem Role.amt_pos (r : Role) : 0 < r.amt := by
  cases r
  · exact Nat.one_pos
  · exact Nat.one_pos
  · exact ND_pos
  · exact NS_pos
  · exact Tr.amt_pos _
  · exact Tr.amt_pos _

/-! ## The schedule -/

/-- The duties on a semaphore with a role at a device at `z`. -/
def Role.duties (z : ℕ) : Role → Finset (Fin 4)
  | .none => ∅
  | .bar => Finset.univ.filter (fun d => has z d = true)
  | .dy _ => {0}
  | .st _ => {0}
  | .snd t => if t.act z = true then {0} else ∅
  | .rcv t => if t.inAct z = true then {0} else ∅

/-- What duty `d` on a semaphore with a role hands to device `c`. -/
def payI (c : Dev nD) (r : Role) (d : Fin 4) : sProp 𝕄 :=
  if r = .bar then sepL (dstI m c) (outs (zc c) d) else sepL (pieceI m c) (r.pay (zc c))

/-- The schedule: each semaphore has one round. -/
def rd : Rounds.Schedule (GSem nD τ sig) (Fin 4) 𝕄 where
  duties g r := if r = 0 ∧ g.1.2 = .tc then (roleOf g.2).duties (zc g.1.1) else ∅
  unitless _ := False
  amount g _ _ := (roleOf g.2).amt
  payload g _ d := payI m g.1.1 (roleOf g.2) d
  amount_pos g _ _ _ := Role.amt_pos _

instance rd_payload_storable (g : GSem nD τ sig) (r : ℕ) (d : Fin 4) :
    BI.Storable (upEmb : UEmb _ 𝕄) ((rd (F := F) m).payload g r d) := by
  show BI.Storable upEmb (payI m g.1.1 (roleOf g.2) d)
  unfold payI
  split
  · exact sepL_storable _ (fun t => dstI_storable m _ t) _
  · exact sepL_storable _ (fun p => pieceI_storable m _ p) _

theorem rd_duties (c : Dev nD) (k : Fin 57) : (rd (F := F) m).duties (kcell (c, k)) 0 = (role k).duties (zc c) := by
  dsimp only [rd]; rw [if_pos ⟨rfl, rfl⟩, roleOf_csem]

theorem rd_duties_later (g : GSem nD τ sig) : ∀ r, 1 ≤ r → (rd (F := F) m).duties g r = ∅ :=
  fun r hr => by dsimp only [rd]; rw [if_neg fun h => by omega]

theorem rd_amount (c : Dev nD) (k : Fin 57) (d : Fin 4) : (rd (F := F) m).amount (kcell (c, k)) 0 d = (role k).amt := by
  dsimp only [rd]; rw [roleOf_csem]

theorem rd_payload (c : Dev nD) (k : Fin 57) (d : Fin 4) :
    (rd (F := F) m).payload (kcell (c, k)) 0 d = payI m c (role k) d := by
  dsimp only [rd]; rw [roleOf_csem]

/-- A semaphore not in use has no duties at all. -/
theorem rd_duties_unused (c : Dev nD) (k : Fin 57) (h : used (zc c) k = false) :
    ∀ r, 0 ≤ r → (rd (F := F) m).duties (kcell (c, k)) r = ∅ := by
  intro r _
  rcases Nat.eq_zero_or_pos r with rfl | hr
  · rw [rd_duties]
    unfold used at h
    unfold Role.duties
    split <;> simp_all
  · exact rd_duties_later m _ r hr

/-- A DMA semaphore in use has the one duty 0. -/
theorem duties_used (z : ℕ) (k : Fin 57) (hk : k ≠ 0) (h : used z k = true) : (role k).duties z = {0} := by
  have hb := role_bar k
  unfold used at h
  unfold Role.duties
  split <;> simp_all

/-- The units a device waits for on a semaphore. -/
def waitAmt (z : ℕ) (k : Fin 57) : ℕ := if k = 0 then (nbs z).length else (role k).amt

theorem rd_expect (c : Dev nD) (k : Fin 57) (hk : k ≠ 0) (h : used (zc c) k = true) :
    (rd (F := F) m).expect (kcell (c, k)) 0 = waitAmt (zc c) k := by
  unfold Schedule.expect Schedule.amountOf waitAmt
  rw [rd_duties, duties_used _ k hk h, Finset.sum_singleton, rd_amount, if_neg hk]

theorem card_nbs : ∀ z < 4, (Finset.univ.filter (fun d : Fin 4 => has z d = true)).card = (nbs z).length := by decide +kernel

theorem rd_expect_bar (c : Dev nD) : (rd (F := F) m).expect (kcell (c, 0)) 0 = waitAmt (zc c) 0 := by
  unfold Schedule.expect Schedule.amountOf waitAmt
  rw [rd_duties, Finset.sum_congr rfl fun d _ => rd_amount m c 0 d, if_pos rfl]
  show ∑ d ∈ Finset.univ.filter (fun d : Fin 4 => has (zc c) d = true), 1 = _
  rw [Finset.sum_const, smul_eq_mul, mul_one, card_nbs _ (zc_lt c)]

/-- What a wait on a DMA semaphore in use hands over. -/
theorem rest_used (c : Dev nD) (k : Fin 57) (hk : k ≠ 0) (h : used (zc c) k = true) :
    bigSep ((rd (F := F) m).duties (kcell (c, k)) 0 \ ∅) (fun d => (rd (F := F) m).payload (kcell (c, k)) 0 d)
      = sepL (pieceI m c) ((role k).pay (zc c)) := by
  rw [Finset.sdiff_empty, rd_duties, duties_used _ k hk h, bigSep_singleton, rd_payload, payI,
    if_neg (fun e => hk ((role_bar k).mp e))]

/-! ## Levels -/

/-- The semaphores that have levels: those of the cores. -/
def L (g : GSem nD τ sig) : Finset Unit := if g.1.2 = .tc then {()} else ∅

/-- The level of a semaphore of the machine. -/
def lv (g : GSem nD τ sig) (_ : Unit) : ℕ := match g.2 with
  | .reg _ => 1
  | .dma i => if (i : Fin 57) = 0 then 0 else lvl (zc g.1.1) i

theorem L_of_ne (g : GSem nD τ sig) (h : g.1.2 ≠ .tc) : L g = ∅ := if_neg h
theorem L_tc (c : Dev nD) (sm : SemLoc sig) : L ((c : Thread nD τ), sm) = {()} := if_pos rfl

theorem lv_kcell (c : Dev nD) (k : Fin 57) (u : Unit) : lv (kcell (c, k)) u = lvl (zc c) k := by
  by_cases h : k = 0
  · subst h; rfl
  · dsimp only [lv]; rw [csem_pos h]; exact if_neg h

/-! ## What is owed -/

/-- The semaphore that a due concerns. -/
def Due.cell (c : Dev nD) : Due → Dev nD × Fin 57
  | .bar d => (nb c d, 0)
  | .rcv t => (t.dst c, t.rk)

/-- The units of a due. -/
def Due.amt : Due → ℕ
  | .bar _ => 1
  | .rcv t => t.amt

/-- A due as a tally. -/
def Due.tally (c : Dev nD) (u : Due) : CellTallies nD τ sig Unit := tallyAt (kcell (u.cell c)) () u.amt

/-- A list of dues as one tally. -/
def owed (c : Dev nD) (D : List Due) : CellTallies nD τ sig Unit := (D.map (Due.tally c)).sum

theorem lv_due (c : Dev nD) (u : Due) (i : Unit) : lv (kcell (u.cell c)) i = u.lvl (zc c) := by
  rw [show kcell (u.cell c) = kcell ((u.cell c).1, (u.cell c).2) from rfl, lv_kcell]
  cases u with
  | bar d => rfl
  | rcv t => show lvl (zc (nb c t.dir)) t.rk = lvl (znb (zc c) t.dir) t.rk; rw [zc_nb]

/-- What is owed at a semaphore comes from one of the dues. -/
theorem owed_pos {c : Dev nD} {D : List Due} {g : GSem nD τ sig} {i : Unit} (h : 0 < owed c D g i) :
    ∃ u ∈ D, g = kcell (u.cell c) := by
  induction D with
  | nil => exact absurd h (Nat.lt_irrefl 0)
  | cons u D ih =>
    unfold owed at h ih
    rw [List.map_cons, List.sum_cons, Pi.add_apply, Finsupp.add_apply] at h
    by_cases hu : g = kcell (u.cell c)
    · exact ⟨u, List.mem_cons_self, hu⟩
    · unfold Due.tally at h
      rw [tallyAt_apply, if_neg (fun h' => hu h'.1), zero_add] at h
      obtain ⟨u', h1, h2⟩ := ih h
      exact ⟨u', List.mem_cons_of_mem _ h1, h2⟩

omit [FloatOps F] in
/-- A device may wait on a semaphore that lies below all it owes. -/
theorem mayWait (c : Dev nD) (sm : SemLoc sig) (n : ℕ) (hn : lv ((c : Thread nD τ), sm) () = n) (D : List Due)
    (h : ∀ u ∈ D, n < u.lvl (zc c)) : (levAts L lv : sProp 𝕄) ⊢ MayWait (c : Thread nD τ) sm () (owed c D) :=
  MayOwe.of_cut (L := L) (lev := lv) n
    (fun p hp => by rw [Finset.mem_singleton.mp hp, L_tc]; exact Finset.mem_singleton_self _)
    (fun g u hg => by obtain ⟨v, _, rfl⟩ := owed_pos hg; exact Finset.mem_singleton_self _)
    (fun p hp => by rw [Finset.mem_singleton.mp hp]; exact hn.le)
    (fun g u hg => by obtain ⟨v, hv, rfl⟩ := owed_pos hg; rw [lv_due]; exact h v hv)

end Cert.KernelIdeal.Grad

end
-- ==== Proof.Sim.lean ====
module

public import proofs.«01_k».proof.Proof.Sched

/-!
# Following the program by the replayed run

A program of device `c` is followed by a list of steps if, whenever the replay of the steps goes through from some
state, the program runs from the assertion of that state to the assertion of the state reached.
-/

@[expose] public section

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## States as assertions -/

/-- What it means that device `c` holds an atom. -/
def atomI (c : Dev nD) : Atom → sProp 𝕄
  | .mem p => pieceI m c p
  | .dstp t => dstI m c t
  | .pos k => atPos ER (kcell (c, k)) 0 ∅ 0
  | .zero k => atPos ER (kcell (c, k)) (0 + 1) ∅ 0
  | .crd k => cred (tallyAt (kcell (c, k)) () (waitAmt (zc c) k))
  | .tok k => dutyTok ER (kcell (c, k)) 0 0
  | .tokR t => dutyTok ER (kcell (t.dst c, t.rk)) 0 0
  | .tokB d => dutyTok ER (kcell (nb c d, 0)) 0 (opp d)

/-- What device `c` owes. -/
def Ow (c : Dev nD) (D : List Due) : sProp 𝕄 := iprop(∃ W, owes (c : Thread nD τ) (owed c D) W)

/-- What all devices know: the invariants of all semaphores, that their one round is open, and the levels. -/
def recs (K : Dev nD × Fin 57 → ℕ) : sProp 𝕄 :=
  iprop(bigSep Finset.univ (fun p : Dev nD × Fin 57 =>
    iprop(cellInv ER (rd m) (K p) (kcell p) ∗ reached ER (kcell p) 0)) ∗ levAts L lv)

instance recs_persistent (K : Dev nD × Fin 57 → ℕ) : BI.Persistent (recs m K) := by unfold recs; infer_instance

variable (K : Dev nD × Fin 57 → ℕ)

theorem recs_pair (p : Dev nD × Fin 57) : bigSep Finset.univ (fun p : Dev nD × Fin 57 =>
    iprop(cellInv ER (rd m) (K p) (kcell p) ∗ reached ER (kcell p) 0))
      ⊢ iprop(cellInv ER (rd m) (K p) (kcell p) ∗ reached ER (kcell p) 0) :=
  bigSep_elim (Finset.mem_univ p)

theorem recs_cell (p : Dev nD × Fin 57) : recs m K ⊢ cellInv ER (rd m) (K p) (kcell p) := by
  unfold recs
  iintro ⟨H, -⟩
  ihave H := (recs_pair m K p) $$ H
  icases H with ⟨H, -⟩
  iexact H

theorem recs_reached (p : Dev nD × Fin 57) : recs m K ⊢ reached ER (kcell p) 0 := by
  unfold recs
  iintro ⟨H, -⟩
  ihave H := (recs_pair m K p) $$ H
  icases H with ⟨-, H⟩
  iexact H

theorem recs_lev : recs m K ⊢ levAts L lv := by
  unfold recs
  iintro ⟨-, H⟩
  iexact H

/-! ## Taking elements out of a list -/

section Takes

variable {α : Type} [DecidableEq α]

omit [FloatOps F] in
theorem sepL_take1 (f : α → sProp 𝕄) (a : α) : ∀ {l l' : List α}, take1 a l = some l' → sepL f l ⊢ iprop(f a ∗ sepL f l')
  | [], l', h => by cases h
  | b :: l, l', h => by
    unfold take1 at h
    split at h
    · next e => cases h; subst e; exact BI.Entails.refl _
    · next e =>
      rw [Option.map_eq_some_iff] at h
      obtain ⟨l'', h1, rfl⟩ := h
      show iprop(f b ∗ sepL f l) ⊢ iprop(f a ∗ (f b ∗ sepL f l''))
      iintro ⟨Hb, H⟩
      ihave H := (sepL_take1 f a h1) $$ H
      icases H with ⟨Ha, H⟩
      isplitl [Ha]; · iexact Ha
      isplitl [Hb] <;> iassumption

omit [FloatOps F] in
theorem sepL_takes (f : α → sProp 𝕄) : ∀ (xs : List α) {l l' : List α}, takes xs l = some l' →
    sepL f l ⊢ iprop(sepL f xs ∗ sepL f l')
  | [], l, l', h => by
    cases h
    show sepL f l ⊢ iprop(emp ∗ sepL f l)
    iintro H; isplitr; · iempintro
    iexact H
  | a :: xs, l, l', h => by
    unfold takes at h
    rw [Option.bind_eq_some_iff] at h
    obtain ⟨l'', h1, h2⟩ := h
    show sepL f l ⊢ iprop((f a ∗ sepL f xs) ∗ sepL f l')
    iintro H
    ihave H := (sepL_take1 f a h1) $$ H
    icases H with ⟨Ha, H⟩
    ihave H := (sepL_takes f xs h2) $$ H
    icases H with ⟨H1, H2⟩
    isplitl [Ha H1]
    · isplitl [Ha] <;> iassumption
    · iexact H2

end Takes

theorem owed_take1 (c : Dev nD) (u : Due) : ∀ {D D' : List Due}, take1 u D = some D' → owed c D = owed c D' + u.tally c
  | [], D', h => by cases h
  | v :: D, D', h => by
    unfold take1 at h
    split at h
    · next e => cases h; subst e; unfold owed; rw [List.map_cons, List.sum_cons, add_comm]
    · next e =>
      rw [Option.map_eq_some_iff] at h
      obtain ⟨D'', h1, rfl⟩ := h
      have ih := owed_take1 c u h1
      unfold owed at ih ⊢
      rw [List.map_cons, List.sum_cons, ih, List.map_cons, List.sum_cons, add_assoc]

theorem takes_single {α : Type} [DecidableEq α] {a : α} {l l' : List α} (h : takes [a] l = some l') : take1 a l = some l' := by
  unfold takes at h
  rw [Option.bind_eq_some_iff] at h
  obtain ⟨l'', h1, h2⟩ := h
  cases h2; exact h1

/-! ## Following -/

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The program `p` of device `c` is followed by the steps `l`, and its value has the property `φ`. -/
def Sim (c : Dev nD) {α : Type} (p : Prog (TpuEff nD τ sig (Elt F) Λ₀ .tc) α) (l : List Op) (φ : α → Prop) : Prop :=
  ∀ S S', run (zc c) S l = some S' → ∀ Q : α → sProp 𝕄,
    iprop(recs m K ∗ sepL (atomI m c) S.held ∗ Ow c S.dues
      ∗ (∀ a, ⌜φ a⌝ -∗ (sepL (atomI m c) S'.held ∗ Ow c S'.dues) -∗ Q a)) ⊢ WP c p Q

variable {m K}
variable {c : Dev nD} {α β : Type}

/-- A value is followed by no steps. -/
theorem sim_pure {a : α} {φ : α → Prop} (h : φ a) : Sim m K c (pure a) [] φ := by
  intro S S' hr Q
  cases hr
  show _ ⊢ WP c (Prog.ret a) Q
  rw [WP, wp_ret]
  iintro ⟨-, H, HO, HQ⟩
  imodintro
  iapply HQ $$ %a %h
  isplitl [H] <;> iassumption

/-- One program after another is followed by their steps one after another. -/
theorem sim_bind {p : Prog (TpuEff nD τ sig (Elt F) Λ₀ .tc) α} {k : α → Prog (TpuEff nD τ sig (Elt F) Λ₀ .tc) β}
    {l₁ l₂ : List Op} {φ : α → Prop} {ψ : β → Prop} (h₁ : Sim m K c p l₁ φ) (h₂ : ∀ a, φ a → Sim m K c (k a) l₂ ψ) :
    Sim m K c (p >>= k) (l₁ ++ l₂) ψ := by
  intro S S' hr Q
  rw [run_append, Option.bind_eq_some_iff] at hr
  obtain ⟨S₁, hr₁, hr₂⟩ := hr
  rw [WP, wp_bind]
  iintro ⟨#HR, H, HO, HQ⟩
  iapply (h₁ S S₁ hr₁)
  isplitr; · iexact HR
  isplitl [H]; · iexact H
  isplitl [HO]; · iexact HO
  iintro %a %ha ⟨H, HO⟩
  iapply (h₂ a ha S₁ S' hr₂)
  isplitr; · iexact HR
  isplitl [H]; · iexact H
  isplitl [HO]; · iexact HO
  iexact HQ

/-- A choice is followed by a choice of steps. -/
theorem sim_dite {C : Prop} [Decidable C] {P : Prop} [Decidable P] (hiff : C ↔ P)
    {A : C → Prog (TpuEff nD τ sig (Elt F) Λ₀ .tc) α} {B : ¬ C → Prog (TpuEff nD τ sig (Elt F) Λ₀ .tc) α}
    {l₁ l₂ : List Op} {φ : α → Prop} (h₁ : ∀ h, Sim m K c (A h) (l₁ ++ l₂) φ) (h₂ : ∀ h, Sim m K c (B h) l₂ φ) :
    Sim m K c (dite C A B) (iff P l₁ ++ l₂) φ := by
  unfold iff
  by_cases h : C
  · rw [dif_pos h, if_pos (hiff.mp h)]; exact h₁ h
  · rw [dif_neg h, if_neg (fun h' => h (hiff.mpr h'))]; exact h₂ h

/-- The value's property may be weakened. -/
theorem sim_mono {p : Prog (TpuEff nD τ sig (Elt F) Λ₀ .tc) α} {l : List Op} {φ ψ : α → Prop} (h : Sim m K c p l φ)
    (hφ : ∀ a, φ a → ψ a) : Sim m K c p l ψ := by
  intro S S' hr Q
  iintro ⟨HR, H, HO, HQ⟩
  iapply (h S S' hr)
  isplitl [HR]; · iexact HR
  isplitl [H]; · iexact H
  isplitl [HO]; · iexact HO
  iintro %a %ha
  have := hφ a ha
  iapply HQ $$ %a %this

/-- A program whose beginning runs from what a step takes to what it gives is followed by that step. -/
theorem sim_step {o : Op} {l : List Op} {p k : Prog (TpuEff nD τ sig (Elt F) Λ₀ .tc) α} {φ : α → Prop}
    (hk : Sim m K c k l φ)
    (h : ∀ D D', takes o.pays D = some D' → o.ok (zc c) D' = true → ∀ Q : α → sProp 𝕄,
      iprop(recs m K ∗ sepL (atomI m c) (o.pre (zc c)) ∗ Ow c D
        ∗ ((sepL (atomI m c) (o.post (zc c)) ∗ Ow c D') -∗ WP c k Q)) ⊢ WP c p Q) :
    Sim m K c p (o :: l) φ := by
  intro S S' hr Q
  rw [run_cons, Option.bind_eq_some_iff] at hr
  obtain ⟨S₁, hs, hr⟩ := hr
  unfold step at hs
  rw [Option.bind_eq_some_iff] at hs
  obtain ⟨A, hA, hs⟩ := hs
  rw [Option.bind_eq_some_iff] at hs
  obtain ⟨D, hD, hs⟩ := hs
  split at hs
  · next hok =>
    cases hs
    iintro ⟨#HR, H, HO, HQ⟩
    ihave H := (sepL_takes (atomI m c) _ hA) $$ H
    icases H with ⟨Hpre, H⟩
    iapply (h S.dues D hD hok)
    isplitr; · iexact HR
    isplitl [Hpre]; · iexact Hpre
    isplitl [HO]; · iexact HO
    iintro ⟨Hpost, HO⟩
    iapply (hk _ S' hr)
    isplitr; · iexact HR
    isplitl [Hpost H]
    · iapply (sepL_append (atomI m c) _ _).2
      isplitl [Hpost] <;> iassumption
    isplitl [HO]; · iexact HO
    iexact HQ
  · cases hs

end Cert.KernelIdeal.Grad

end
-- ==== Proof.Waits.lean ====
module

public import proofs.«01_k».proof.Proof.Sim

/-!
# The waits and the signals

The steps that only concern semaphores.
-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-! ## Lists and sets of assertions -/

section Lists

variable {I : Type} [DecidableEq I]

omit [FloatOps F] in
theorem bigSep_sepL (f : I → sProp 𝕄) : ∀ (l : List I), l.Nodup → bigSep l.toFinset f = sepL f l
  | [], _ => rfl
  | a :: l, h => by
    rw [List.nodup_cons] at h
    rw [List.toFinset_cons, bigSep_insert (by rw [List.mem_toFinset]; exact h.1), bigSep_sepL f l h.2]
    rfl

omit [FloatOps F] in
theorem sepL_flatMap {J : Type} (f : J → sProp 𝕄) (g : I → List J) : ∀ l : List I,
    sepL (fun d => sepL f (g d)) l ⊣⊢ sepL f (l.flatMap g)
  | [] => ⟨BI.Entails.refl _, BI.Entails.refl _⟩
  | a :: l => by
    have ih := sepL_flatMap f g l
    rw [List.flatMap_cons]
    constructor
    · show iprop(sepL f (g a) ∗ sepL (fun d => sepL f (g d)) l) ⊢ _
      iintro ⟨H1, H2⟩
      iapply (sepL_append f _ _).2
      isplitl [H1]; · iexact H1
      iapply ih.1; iexact H2
    · show _ ⊢ iprop(sepL f (g a) ∗ sepL (fun d => sepL f (g d)) l)
      iintro H
      ihave H := (sepL_append f _ _).1 $$ H
      icases H with ⟨H1, H2⟩
      isplitl [H1]; · iexact H1
      iapply ih.2; iexact H2

omit [FloatOps F] [DecidableEq I] in
theorem sepL_congr {f g : I → sProp 𝕄} : ∀ {l : List I}, (∀ a ∈ l, f a = g a) → sepL f l = sepL g l
  | [], _ => rfl
  | a :: l, h => by
    show iprop(f a ∗ sepL f l) = iprop(g a ∗ sepL g l)
    rw [h a List.mem_cons_self, sepL_congr fun b hb => h b (List.mem_cons_of_mem _ hb)]

end Lists

theorem nbs_toFinset : ∀ z < 4, Finset.univ.filter (fun d : Fin 4 => has z d = true) = (nbs z).toFinset := by decide +kernel

theorem nbs_nodup : ∀ z < 4, (nbs z).Nodup := by decide +kernel

/-! ## A wait on a DMA semaphore -/

theorem kcell_dma {k : Fin 57} {sem : DmaSem sig} (hs : sem = (k : Fin 57)) (hk : k ≠ 0) :
    kcell (c, k) = ((c : Thread nD τ), SemLoc.dma sem) := by
  subst hs; rw [kcell, csem_pos hk]

/-- A wait on a DMA semaphore in use hands over what its copy brings. -/
theorem sim_wait {sp sp' : Space} {s s' : Shape} {e e' : EltTy} {sem : DmaSem sig} {src : Memref sig .tc sp' s' e'}
    {dst : Memref sig .tc sp s e} {hsrc : src.view.WordExact} {hdst : dst.view.WordExact} (k : Fin 57)
    (hs : sem = (k : Fin 57)) (ha : dst.view.dmaCredit = (role k).amt)
    {k' : PUnit → Prog (TpuEff nD τ sig (Elt F) Λ₀ .tc) α} {l : List Op} {φ : α → Prop} (hk : Sim m K c (k' ⟨⟩) l φ) :
    Sim m K c (Prog.lift (.waitDma2 sem src dst hsrc hdst) >>= k') (.wait k :: l) φ := by
  refine sim_step hk fun D D' hD hok Q => ?_
  cases hD
  simp only [Op.ok, Bool.and_eq_true, decide_eq_true_eq, List.all_eq_true] at hok
  obtain ⟨⟨hu, h0⟩, hl⟩ := hok
  have hc := kcell_dma (c := c) hs h0
  have hw : waitAmt (zc c) k = dst.view.dmaCredit := by rw [ha]; exact if_neg h0
  show iprop(recs m K ∗ (atPos ER (kcell (c, k)) 0 ∅ 0 ∗ cred (tallyAt (kcell (c, k)) () (waitAmt (zc c) k)) ∗ emp)
    ∗ (∃ W, owes (c : Thread nD τ) (owed c D) W)
    ∗ ((sepL (atomI m c) (.zero k :: ((role k).pay (zc c)).map .mem) ∗ Ow c D) -∗ WP c (k' ⟨⟩) Q))
    ⊢ WP c (.op (.waitDma2 sem src dst hsrc hdst) k') Q
  have hx : (rd (F := F) m).expect (kcell (c, k)) 0 = _ := rd_expect m c k h0 hu
  have hrest := rest_used m c k h0 hu
  have hmay := mayWait (F := F) c (.dma sem) _ (by rw [← hc]; exact lv_kcell c k ()) D hl
  have hmay := (recs_lev m K).trans hmay
  have hrec := recs_cell m K (c, k)
  have hpost : iprop(atPos ER (kcell (c, k)) (0 + 1) ∅ 0 ∗ sepL (pieceI m c) ((role k).pay (zc c)))
      ⊢ sepL (atomI m c) (.zero k :: ((role k).pay (zc c)).map .mem) :=
    sep_mono_right (Entails.of_eq (sepL_map (atomI m c) Atom.mem _).symm)
  rw [hw] at hx
  rw [hw]
  rw [hc] at hx hrest hrec hpost
  rw [hc]
  iintro ⟨#HR, ⟨Hat, Hcr, -⟩, ⟨%W, HO⟩, HQ⟩
  iapply (Rounds.wp_wait_rest_token 𝒱₀ ER (rd m) (c : Thread nD τ) none (κ := K (c, k))
    (wpE_waitDma2_eq 𝒱₀ (c : Thread nD τ) none Set.univ) (Set.mem_univ _) () (O := owed c D) (W := W) (R := 0) (m := 0)
    (T := ∅) (by rw [Nat.zero_add]; exact hx.symm)) $$ [Hcr HO Hat]
  · isplitr; · iapply hrec; iexact HR
    isplitl [Hcr]; · iexact Hcr
    isplitl [HO]; · iexact HO
    isplitr; · iapply hmay; iexact HR
    iexact Hat
  iintro ⟨HO, Hat, -, Hpay⟩
  ihave Hp := (Entails.of_eq hrest) $$ Hpay
  iapply HQ
  isplitl [Hat Hp]
  · iapply hpost
    isplitl [Hat]; · iexact Hat
    iexact Hp
  · unfold Ow; iexists _; iexact HO

/-! ## The barrier -/

theorem kcell_bar (c : Dev nD) : kcell (c, 0) = ((c : Thread nD τ), SemLoc.reg barS) := rfl

theorem k0_amt1_eq : ∀ c : Dev nD, (k0_amt1 c).toInt = (waitAmt (zc c) 0 : ℕ) := by decide +kernel

/-- The wait on the barrier hands over the right to write where the device's copies arrive. -/
theorem sim_bar {sem : Sem sig} (hs : sem = barS) {n : BitVec 32} (hn : n.toInt = (waitAmt (zc c) 0 : ℕ))
    {k' : PUnit → Prog (TpuEff nD τ sig (Elt F) Λ₀ .tc) α} {l : List Op} {φ : α → Prop} (hk : Sim m K c (k' ⟨⟩) l φ) :
    Sim m K c (semWaitWord sem n >>= k') (.bar :: l) φ := by
  subst hs
  refine sim_step hk fun D D' hD hok Q => ?_
  cases hD
  simp only [Op.ok, decide_eq_true_eq, List.all_eq_true] at hok
  show iprop(recs m K ∗ (atPos ER (kcell (c, 0)) 0 ∅ 0 ∗ cred (tallyAt (kcell (c, 0)) () (waitAmt (zc c) 0)) ∗ emp)
    ∗ (∃ W, owes (c : Thread nD τ) (owed c D) W)
    ∗ ((sepL (atomI m c) (.zero 0 :: (nbs (zc c)).flatMap (fun d => (outs (zc c) d).map .dstp)) ∗ Ow c D) -∗ WP c (k' ⟨⟩) Q))
    ⊢ WP c (.op (.semWait barS n.toInt) k') Q
  have hx : (rd (F := F) m).expect (kcell (c, 0)) 0 = _ := rd_expect_bar m c
  have hmay := mayWait (F := F) c (.reg barS) 1 rfl D hok
  have hrest : bigSep ((rd (F := F) m).duties (kcell (c, 0)) 0 \ ∅) (fun d => (rd (F := F) m).payload (kcell (c, 0)) 0 d)
      = sepL (fun d => sepL (dstI m c) (outs (zc c) d)) (nbs (zc c)) := by
    rw [Finset.sdiff_empty, rd_duties, show (role 0).duties (zc c) = _ from nbs_toFinset _ (zc_lt c),
      bigSep_sepL _ _ (nbs_nodup _ (zc_lt c))]
    exact sepL_congr fun d _ => by rw [rd_payload, payI]; exact if_pos rfl
  have hmay := (recs_lev m K).trans hmay
  have hrec := recs_cell m K (c, 0)
  have hpost : iprop(atPos ER (kcell (c, 0)) (0 + 1) ∅ 0 ∗ sepL (fun d => sepL (dstI m c) (outs (zc c) d)) (nbs (zc c)))
      ⊢ sepL (atomI m c) (.zero 0 :: (nbs (zc c)).flatMap (fun d => (outs (zc c) d).map .dstp)) := by
    refine sep_mono_right ((Entails.of_eq ?_).trans (sepL_flatMap (atomI m c) _ _).1)
    exact sepL_congr (fun d _ => (sepL_map (atomI m c) Atom.dstp (outs (zc c) d)).symm)
  rw [hn]
  generalize waitAmt (zc c) 0 = N at hx ⊢
  rw [kcell_bar] at hx hrest hrec hpost ⊢
  iintro ⟨#HR, ⟨Hat, Hcr, -⟩, ⟨%W, HO⟩, HQ⟩
  iapply (Rounds.wp_wait_rest_token 𝒱₀ ER (rd m) (c : Thread nD τ) none (κ := K (c, 0))
    (wpE_semWait_eq 𝒱₀ (c : Thread nD τ) none Set.univ) (Set.mem_univ _) () (O := owed c D) (W := W) (R := 0) (m := 0)
    (T := ∅) (by rw [Nat.zero_add]; exact hx.symm)) $$ [Hcr HO Hat]
  · isplitr; · iapply hrec; iexact HR
    isplitl [Hcr]; · iexact Hcr
    isplitl [HO]; · iexact HO
    isplitr; · iapply hmay; iexact HR
    iexact Hat
  iintro ⟨HO, Hat, -, Hpay⟩
  ihave Hp := (Entails.of_eq hrest) $$ Hpay
  iapply HQ
  isplitl [Hat Hp]
  · iapply hpost
    isplitl [Hat]; · iexact Hat
    iexact Hp
  · unfold Ow; iexists _; iexact HO

/-- The copies of a device towards a neighbour and the places they arrive at. -/
theorem dst_outs {d : Fin 4} {t : Tr} {z : ℕ} (h : t ∈ outs z (opp d)) : t.dst (nb c d) = c := by
  unfold outs at h
  rw [List.mem_filter, Bool.and_eq_true, decide_eq_true_eq] at h
  rw [Tr.dst, h.2.2, nb_opp]

/-- A signal to a neighbour's barrier hands over the places where that neighbour's copies arrive. -/
theorem sim_sig (d : Fin 4) {sem : Sem sig} (hs : sem = barS) {n : Dev nD} (hn : n = nb c d)
    {k' : PUnit → Prog (TpuEff nD τ sig (Elt F) Λ₀ .tc) α} {l : List Op} {φ : α → Prop} (hk : Sim m K c (k' ⟨⟩) l φ) :
    Sim m K c (semSignalWord n sem 1#32 >>= k') (.sig d :: l) φ := by
  subst hs
  subst hn
  refine sim_step hk fun D D' hD hok Q => ?_
  have hO : owed c D = owed c D' + tallyAt (kcell (nb c d, 0)) () ((1#32).toInt.toNat) := owed_take1 c _ (takes_single hD)
  have hd : has (zc c) d = true := hok
  show iprop(recs m K ∗ (dutyTok ER (kcell (nb c d, 0)) 0 (opp d)
      ∗ sepL (atomI m c) ((outs (znb (zc c) d) (opp d)).map (fun t => .mem (.land t))))
    ∗ (∃ W, owes (c : Thread nD τ) (owed c D) W)
    ∗ ((emp ∗ Ow c D') -∗ WP c (k' ⟨⟩) Q))
    ⊢ WP c (.op (.semSignal ((nb c d : Dev nD) : Thread nD τ) barS (1#32).toInt.toNat) k') Q
  have hduty : opp d ∈ (rd (F := F) m).duties (kcell (nb c d, 0)) 0 := by
    rw [rd_duties]
    show opp d ∈ Finset.univ.filter (fun e : Fin 4 => has (zc (nb c d)) e = true)
    rw [Finset.mem_filter, has_nb]
    exact ⟨Finset.mem_univ _, hd⟩
  have hpay : (rd (F := F) m).payload (kcell (nb c d, 0)) 0 (opp d)
      = sepL (atomI m c) ((outs (znb (zc c) d) (opp d)).map (fun t => .mem (.land t))) := by
    rw [rd_payload, payI, if_pos (show role 0 = .bar from rfl), sepL_map, zc_nb]
    refine sepL_congr fun t ht => ?_
    show pieceI m (t.dst (nb c d)) (.land t) = pieceI m c (.land t)
    rw [dst_outs ht]
  have hrec := recs_cell m K (nb c d, 0)
  have hrch := recs_reached m K (nb c d, 0)
  have hamt := rd_amount (F := F) m (nb c d) 0 (opp d)
  rw [kcell_bar] at hduty hpay hrec hrch hamt hO ⊢
  iintro ⟨#HR, ⟨Ht, Hl⟩, ⟨%W, HO⟩, HQ⟩
  iapply (Rounds.wp_signal 𝒱₀ ER (rd m) (c : Thread nD τ) none (dst := (nb c d : Thread nD τ)) (κ := K (nb c d, 0))
    (d := opp d) hduty (hamt.trans rfl) () (owed c D') hO) $$ [HO Ht Hl]
  · isplitr; · iapply hrec; iexact HR
    isplitl [HO]; · iexact HO
    isplitl [Ht]; · iexact Ht
    isplitl [Hl]; · iapply (Entails.of_eq hpay.symm); iexact Hl
    iapply hrch; iexact HR
  iintro HO
  iapply HQ
  isplitr; · iempintro
  unfold Ow; iexists _; iexact HO

end Cert.KernelIdeal.Grad

end
-- ==== Proof.Credit.lean ====
module

public import proofs.«01_k».proof.Proof.Waits

/-!
# What the launch credits

What all devices together owe is what all devices together may wait for, copy by copy and direction by direction.

-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-! ## Sums along lists -/

section Sums

variable {I M : Type} [AddCommMonoid M]

theorem sum_filter_map (p : I → Bool) (f : I → M) : ∀ l : List I,
    ((l.filter p).map f).sum = (l.map fun t => if p t = true then f t else 0).sum
  | [] => rfl
  | a :: l => by
    rw [List.filter_cons, List.map_cons, List.sum_cons, ← sum_filter_map p f l]
    by_cases h : p a = true
    · rw [if_pos h, if_pos h, List.map_cons, List.sum_cons]
    · rw [if_neg h, if_neg h, zero_add]

theorem sum_swap {J : Type} (s : Finset J) (g : J → I → M) : ∀ l : List I,
    ∑ d ∈ s, (l.map (g d)).sum = (l.map fun t => ∑ d ∈ s, g d t).sum
  | [] => Finset.sum_const_zero
  | a :: l => by
    rw [List.map_cons, List.sum_cons, ← sum_swap s g l, ← Finset.sum_add_distrib]
    rfl

theorem sum_congr_list {f g : I → M} {l : List I} (h : ∀ a ∈ l, f a = g a) : (l.map f).sum = (l.map g).sum :=
  congrArg List.sum (List.map_congr_left h)

end Sums

/-! ## What a device may wait for -/

/-- The semaphores on which others owe something to a device at `z`. -/
def credK (z : ℕ) : List (Fin 57) := 0 :: (allTr.filter (Tr.inAct z)).map Tr.rk

/-- What device `c` may wait for, as one tally. -/
def credT (c : Dev nD) : CellTallies nD τ sig Unit :=
  ((credK (zc c)).map fun k => tallyAt (kcell (c, k)) () (waitAmt (zc c) k)).sum

/-- What device `c` owes at the start. -/
def O₀ (c : Dev nD) : CellTallies nD τ sig Unit := owed c (dues₀ (zc c))

theorem sum_rcv : ∑ d : Dev nD, ((allTr.filter (Tr.act (zc d))).map fun t => (Due.rcv t).tally d).sum
    = ∑ d : Dev nD, ((allTr.filter (Tr.inAct (zc d))).map fun t => tallyAt (kcell (d, t.rk)) () (waitAmt (zc d) t.rk)).sum := by
  have hw : ∀ (d : Dev nD) (t : Tr), waitAmt (zc d) t.rk = t.amt := fun d t => by
    unfold waitAmt; rw [if_neg (rk_ne_zero t), role_rk]; rfl
  have hf : ∀ d : Dev nD, ((allTr.filter (fun t => Tr.act (zc d) t)).map fun t => (Due.rcv t).tally d).sum
      = (allTr.map fun t => if t.act (zc d) = true then (Due.rcv t).tally d else 0).sum := fun d =>
    sum_filter_map (fun t => Tr.act (zc d) t) _ _
  have hg : ∀ d : Dev nD, ((allTr.filter (fun t => Tr.inAct (zc d) t)).map fun t =>
      (tallyAt (kcell (d, t.rk)) () (waitAmt (zc d) t.rk) : CellTallies nD τ sig Unit)).sum
      = (allTr.map fun t => if t.inAct (zc d) = true then tallyAt (kcell (d, t.rk)) () (waitAmt (zc d) t.rk) else 0).sum := fun d =>
    sum_filter_map (fun t => Tr.inAct (zc d) t) _ _
  refine (Finset.sum_congr rfl fun d _ => hf d).trans (Eq.trans ?_ (Finset.sum_congr rfl fun d _ => (hg d).symm))
  rw [sum_swap, sum_swap]
  refine sum_congr_list fun t _ => ?_
  refine Eq.trans (Finset.sum_congr rfl fun d _ => ?_) (Equiv.sum_comp (nbEquiv t.dir) fun d : Dev nD =>
    if t.inAct (zc d) = true then (tallyAt (kcell (d, t.rk)) () (waitAmt (zc d) t.rk) : CellTallies nD τ sig Unit) else 0)
  show _ = if t.inAct (zc (t.dst d)) = true then (tallyAt (kcell (t.dst d, t.rk)) () (waitAmt (zc (t.dst d)) t.rk) : CellTallies nD τ sig Unit) else 0
  rw [inAct_dst, hw]
  rfl

theorem tally_ones (g : GSem nD τ sig) : ∀ l : List (Fin 4),
    (tallyAt g () l.length : CellTallies nD τ sig Unit) = (l.map fun _ => tallyAt g () 1).sum
  | [] => tallyAt_zero _ _
  | a :: l => by rw [List.map_cons, List.sum_cons, ← tally_ones g l, tallyAt_add, List.length_cons, Nat.add_comm]

theorem opp_perm : ([0, 1, 2, 3].map opp).Perm [0, 1, 2, 3] := by decide +kernel

theorem sum_bar : ∑ d : Dev nD, ((nbs (zc d)).map fun e => (Due.bar e).tally d).sum
    = ∑ d : Dev nD, (tallyAt (kcell (d, 0)) () (waitAmt (zc d) 0) : CellTallies nD τ sig Unit) := by
  have hf : ∀ d : Dev nD, ((nbs (zc d)).map fun e => (Due.bar e).tally d).sum
      = ([0, 1, 2, 3].map fun e => if has (zc d) e = true then (Due.bar e).tally d else 0).sum := fun d =>
    sum_filter_map (has (zc d)) _ _
  have hg : ∀ d : Dev nD, (tallyAt (kcell (d, 0)) () (waitAmt (zc d) 0) : CellTallies nD τ sig Unit)
      = ([0, 1, 2, 3].map fun e => if has (zc d) e = true then (tallyAt (kcell (d, 0)) () 1 : CellTallies nD τ sig Unit) else 0).sum := fun d => by
    unfold waitAmt; rw [if_pos rfl, tally_ones]; exact sum_filter_map (has (zc d)) _ _
  refine (Finset.sum_congr rfl fun d _ => hf d).trans (Eq.trans ?_ (Finset.sum_congr rfl fun d _ => (hg d).symm))
  rw [sum_swap, sum_swap]
  refine Eq.trans ?_ (opp_perm.map _).sum_eq
  rw [List.map_map]
  refine sum_congr_list fun e _ => ?_
  refine Eq.trans ?_ (Finset.sum_congr rfl fun d _ => ?_ : ∑ d : Dev nD,
    (if has (zc d) (opp e) = true then (tallyAt (kcell (d, 0)) () 1 : CellTallies nD τ sig Unit) else 0) = _)
  · refine Eq.trans (Finset.sum_congr rfl fun d _ => ?_) (Equiv.sum_comp (nbEquiv e) fun d : Dev nD =>
      if has (zc d) (opp e) = true then (tallyAt (kcell (d, 0)) () 1 : CellTallies nD τ sig Unit) else 0)
    show _ = if has (zc (nb d e)) (opp e) = true then (tallyAt (kcell (nb d e, 0)) () 1 : CellTallies nD τ sig Unit) else 0
    rw [has_nb]
    rfl
  · rfl

/-- What all owe is what all may wait for. -/
theorem sum_owed : ∑ d : Dev nD, O₀ d = ∑ d : Dev nD, credT d := by
  have hO : ∀ d : Dev nD, O₀ d = ((nbs (zc d)).map fun e => (Due.bar e).tally d).sum
      + ((allTr.filter (Tr.act (zc d))).map fun t => (Due.rcv t).tally d).sum := fun d => by
    unfold O₀ owed dues₀
    rw [List.map_append, List.sum_append, List.map_map, List.map_map]
    rfl
  have hT : ∀ d : Dev nD, credT d = tallyAt (kcell (d, 0)) () (waitAmt (zc d) 0)
      + ((allTr.filter (Tr.inAct (zc d))).map fun t => tallyAt (kcell (d, t.rk)) () (waitAmt (zc d) t.rk)).sum := fun d => by
    unfold credT credK
    rw [List.map_cons, List.sum_cons, List.map_map]
    rfl
  rw [Finset.sum_congr rfl fun d _ => hO d, Finset.sum_congr rfl fun d _ => hT d, Finset.sum_add_distrib,
    Finset.sum_add_distrib, sum_bar, sum_rcv]

theorem tally_elsewhere (d : Dev nD) (g : GSem nD τ sig) (h : g.1 ≠ (d : Thread nD τ)) (n : Fin 57 → ℕ) : ∀ l : List (Fin 57),
    (l.map fun k => (tallyAt (kcell (d, k)) () (n k) : CellTallies nD τ sig Unit)).sum g = 0
  | [] => rfl
  | k :: l => by
    rw [List.map_cons, List.sum_cons, Pi.add_apply, tally_elsewhere d g h n l,
      tallyAt_ne_cell (fun e : g = kcell (d, k) => h (congrArg Prod.fst e)), add_zero]

omit [FloatOps F] in
theorem cred_list {I : Type} (f : I → CellTallies nD τ sig Unit) : ∀ l : List I,
    (cred (l.map f).sum : sProp 𝕄) ⊢ sepL (fun i => cred (f i)) l
  | [] => Entails.of_eq cred_zero
  | a :: l => by
    have ih := cred_list f l
    have h := (cred_add (f a) (l.map f).sum (Val := Elt F) (Name := ℕ) (U := UU) (Lvl := ℕ)).1
    rw [List.map_cons, List.sum_cons]
    show _ ⊢ iprop(cred (f a) ∗ sepL (fun i => cred (f i)) l)
    iintro H
    ihave H := h $$ H
    icases H with ⟨H1, H2⟩
    isplitl [H1]; · iexact H1
    iapply ih; iexact H2

/-- What the launch credits to device `c`. -/
theorem creds (m : (ℓ : Loc nD τ sig) → Buf (Elt F) ℓ) (c : Dev nD) :
    (Pipeline.launchCred O₀ c : sProp 𝕄) ⊢ sepL (atomI m c) (crd₀ (zc c)) := by
  have h : (crd₀ (zc c)) = (credK (zc c)).map .crd := by
    unfold crd₀ credK; rw [List.map_cons, List.map_map]; rfl
  rw [Pipeline.launchCred_of_sum O₀ credT sum_owed (fun d g hg => by
    by_contra hc; exact hg (tally_elsewhere d g hc _ _)) c, h, sepL_map]
  exact cred_list _ _

end Cert.KernelIdeal.Grad

end
-- ==== Proof.Deal.lean ====
module

public import proofs.«01_k».proof.Proof.Credit

/-!
# Dealing out the tokens and the invariants

The launch makes the tokens of all semaphores; each device gets the tokens of what it pays.

-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-! ## Lists of assertions -/

section Lists

variable {I : Type}

omit [FloatOps F] in
theorem sepL_mono {f g : I → sProp 𝕄} : ∀ {l : List I}, (∀ a ∈ l, f a ⊢ g a) → sepL f l ⊢ sepL g l
  | [], _ => BI.Entails.refl _
  | a :: l, h => by
    have h1 := h a List.mem_cons_self
    have h2 := sepL_mono fun b hb => h b (List.mem_cons_of_mem _ hb)
    show iprop(f a ∗ sepL f l) ⊢ iprop(g a ∗ sepL g l)
    exact BI.sep_mono h1 h2

omit [FloatOps F] in
theorem sepL_perm (f : I → sProp 𝕄) {l l' : List I} (h : l.Perm l') : sepL f l ⊢ sepL f l' := by
  induction h with
  | nil => exact BI.Entails.refl _
  | @cons a l l' _ ih =>
    show iprop(f a ∗ sepL f l) ⊢ iprop(f a ∗ sepL f l')
    exact BI.sep_mono (BI.Entails.refl _) ih
  | swap a b l =>
    show iprop(f b ∗ (f a ∗ sepL f l)) ⊢ iprop(f a ∗ (f b ∗ sepL f l))
    iintro ⟨H1, H2, H3⟩
    isplitl [H2]; · iexact H2
    isplitl [H1] <;> iassumption
  | trans _ _ h1 h2 => exact h1.trans h2

omit [FloatOps F] in
theorem sepL_swap {J : Type} (s : Finset J) (g : J → I → sProp 𝕄) : ∀ l : List I,
    bigSep s (fun c => sepL (g c) l) = sepL (fun t => bigSep s fun c => g c t) l
  | [] => bigSep_emp_const s
  | a :: l => by
    show bigSep s (fun c => iprop(g c a ∗ sepL (g c) l)) = iprop((bigSep s fun c => g c a) ∗ sepL (fun t => bigSep s fun c => g c t) l)
    rw [bigSep_sep', sepL_swap s g l]

omit [FloatOps F] in
theorem sepL_of_all [DecidableEq I] [Fintype I] (f : I → sProp 𝕄) (l : List I) (h : l.Nodup) : bigSep Finset.univ f ⊢ sepL f l :=
  (bigSep_subset (Finset.subset_univ l.toFinset)).trans (Entails.of_eq (bigSep_sepL f l h))

end Lists

theorem allK_nodup : allK.Nodup := List.nodup_finRange 57

theorem allK_univ : allK.toFinset = Finset.univ := by decide +kernel

omit [FloatOps F] in
theorem allK_sep (f : Fin 57 → sProp 𝕄) : bigSep Finset.univ f = sepL f allK := by
  rw [← allK_univ]; exact bigSep_sepL f allK allK_nodup

/-! ## The tokens -/

/-- The token of duty `i.2` on semaphore `i.1` of device `c`. -/
def tk (c : Dev nD) (i : Fin 57 × Fin 4) : sProp 𝕄 := dutyTok ER (kcell (c, i.1)) 0 i.2

/-- The tokens that are dealt out, of each device's semaphores. -/
def dealt : List (Fin 57 × Fin 4) :=
  ownK.map (fun k => (k, 0)) ++ (allTr.map (fun t => (t.rk, 0)) ++ [0, 1, 2, 3].map (fun d => (0, opp d)))

theorem dealt_nodup : dealt.Nodup := by decide +kernel

/-- The tokens of what device `c` pays. -/
def payToks : List Atom := ownK.map .tok ++ (allTr.map .tokR ++ [0, 1, 2, 3].map .tokB)

omit [FloatOps F] in
theorem deal_split (c : Dev nD) : bigSep Finset.univ (fun i => (tk c i : sProp 𝕄)) ⊢
    iprop(sepL (fun k => tk c (k, 0)) ownK ∗ sepL (fun t : Tr => tk c (t.rk, 0)) allTr
      ∗ sepL (fun d => tk c (0, opp d)) [0, 1, 2, 3]) := by
  iintro H
  ihave H := (sepL_of_all (fun i => (tk c i : sProp 𝕄)) dealt dealt_nodup) $$ H
  unfold dealt
  ihave H := (sepL_append (fun i => (tk c i : sProp 𝕄)) _ _).1 $$ H
  icases H with ⟨H1, H⟩
  ihave H := (sepL_append (fun i => (tk c i : sProp 𝕄)) _ _).1 $$ H
  icases H with ⟨H2, H3⟩
  ihave H1 := (Entails.of_eq (sepL_map (fun i => (tk c i : sProp 𝕄)) _ _)) $$ H1
  ihave H2 := (Entails.of_eq (sepL_map (fun i => (tk c i : sProp 𝕄)) _ _)) $$ H2
  ihave H3 := (Entails.of_eq (sepL_map (fun i => (tk c i : sProp 𝕄)) _ _)) $$ H3
  isplitl [H1]; · iexact H1
  isplitl [H2]; · iexact H2
  iexact H3

theorem deal_join (c : Dev nD) :
    iprop(sepL (fun k => tk c (k, 0)) ownK ∗ sepL (fun t : Tr => tk (t.dst c) (t.rk, 0)) allTr
      ∗ sepL (fun d => tk (nb c d) (0, opp d)) [0, 1, 2, 3]) ⊢ sepL (atomI m c) payToks := by
  unfold payToks
  iintro ⟨H1, H2, H3⟩
  iapply (sepL_append (atomI m c) _ _).2
  isplitl [H1]
  · iapply (Entails.of_eq (sepL_map (atomI m c) Atom.tok ownK).symm); iexact H1
  iapply (sepL_append (atomI m c) _ _).2
  isplitl [H2]
  · iapply (Entails.of_eq (sepL_map (atomI m c) Atom.tokR allTr).symm); iexact H2
  · iapply (Entails.of_eq (sepL_map (atomI m c) Atom.tokB [0, 1, 2, 3]).symm); iexact H3

/-- Every device gets the tokens of what it pays. -/
theorem deal : bigSep Finset.univ (fun c : Dev nD => bigSep Finset.univ (fun i => (tk c i : sProp 𝕄)))
    ⊢ bigSep Finset.univ (fun c : Dev nD => sepL (atomI m c) payToks) := by
  have e2 : bigSep Finset.univ (fun c : Dev nD => sepL (fun t : Tr => (tk c (t.rk, 0) : sProp 𝕄)) allTr)
      = bigSep Finset.univ (fun c : Dev nD => sepL (fun t : Tr => tk (t.dst c) (t.rk, 0)) allTr) := by
    rw [sepL_swap, sepL_swap]
    exact sepL_congr fun t _ => bigSep_univ_equiv (nbEquiv t.dir) (fun c : Dev nD => (tk c (t.rk, 0) : sProp 𝕄))
  have e3 : bigSep Finset.univ (fun c : Dev nD => sepL (fun d => (tk c (0, opp d) : sProp 𝕄)) [0, 1, 2, 3])
      = bigSep Finset.univ (fun c : Dev nD => sepL (fun d => tk (nb c d) (0, opp d)) [0, 1, 2, 3]) := by
    rw [sepL_swap, sepL_swap]
    exact sepL_congr fun d _ => bigSep_univ_equiv (nbEquiv d) (fun c : Dev nD => (tk c (0, opp d) : sProp 𝕄))
  refine (bigSep_mono fun c _ => deal_split c).trans (BI.Entails.trans ?_ (bigSep_mono fun c _ => deal_join (m := m) c))
  rw [bigSep_sep', bigSep_sep', bigSep_sep', bigSep_sep', e2, e3]
  exact BI.Entails.refl _

/-! ## The element the launch starts from -/

/-- All semaphores of all devices. -/
def gridCells : Finset (GSem nD τ sig) := Finset.univ.map ⟨kcell, kcell_injective⟩

/-- A token's name. -/
def tokOf (p : Dev nD × (Fin 57 × Fin 4)) : GSem nD τ sig × ℕ × Fin 4 := (kcell (p.1, p.2.1), 0, p.2.2)

theorem tokOf_injective : Function.Injective tokOf := by
  rintro ⟨c, k, d⟩ ⟨c', k', d'⟩ h
  have h1 := kcell_injective (congrArg Prod.fst h : kcell (c, k) = kcell (c', k'))
  have h2 : d = d' := congrArg (fun x : GSem nD τ sig × ℕ × Fin 4 => x.2.2) h
  have h3 : c = c' := congrArg Prod.fst h1
  have h4 : k = k' := congrArg Prod.snd h1
  rw [h2, h3, h4]

/-- All tokens. -/
def gridToks : Finset (GSem nD τ sig × ℕ × Fin 4) := Finset.univ.map ⟨tokOf, tokOf_injective⟩

/-- The element the launch starts from. -/
def u₀ : UU := (initOf (Pipeline.cells cfgs cellOf_inj) (Pipeline.launchToks cfgs cellOf_inj), initOf gridCells gridToks)

/-- What the launch deals to device `c`: the states of its semaphores, its positions on them, and their tokens. -/
def G (m : (ℓ : Loc nD τ sig) → Buf (Elt F) ℓ) (c : Dev nD) : sProp 𝕄 :=
  iprop((bigSep Finset.univ fun k : Fin 57 => roundState ER (rd m) (kcell (c, k)) 0)
    ∗ (bigSep Finset.univ fun k : Fin 57 => iprop(atPos ER (kcell (c, k)) 0 ∅ 0 ∗ reached ER (kcell (c, k)) 0))
    ∗ bigSep Finset.univ (fun i => tk c i))

theorem fund_grid : BI.own (ER (initOf gridCells gridToks)) ⊢ (|==> bigSep Finset.univ (G m) : sProp 𝕄) := by
  have hX (Φ : GSem nD τ sig → sProp 𝕄) : bigSep gridCells Φ = bigSep Finset.univ fun c : Dev nD => bigSep Finset.univ fun k : Fin 57 => Φ (kcell (c, k)) := by
    unfold gridCells; rw [bigSep_map, bigSep_univ_prod]; rfl
  have hT : bigSep gridToks (fun x => (dutyTok ER x.1 x.2.1 x.2.2 : sProp 𝕄)) = bigSep Finset.univ fun c : Dev nD => bigSep Finset.univ (fun i => tk c i) := by
    unfold gridToks; rw [bigSep_map, bigSep_univ_prod]; rfl
  iintro HX
  imod (Rounds.fund ER (rd m) gridCells gridToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The DMA semaphores of the kernel itself: all but the staging buffer's. -/
def osem (k : Fin 56) : SemLoc sig := csem k.succ

omit [FloatOps F] in
theorem fin57_split (f : Fin 57 → sProp 𝕄) : bigSep Finset.univ f = iprop(f 0 ∗ bigSep Finset.univ fun k : Fin 56 => f k.succ) := by
  have h1 : allK = 0 :: (List.finRange 56).map Fin.succ := List.finRange_succ
  have h2 : bigSep Finset.univ (fun k : Fin 56 => f k.succ) = sepL (fun k : Fin 56 => f k.succ) (List.finRange 56) := by
    rw [← bigSep_sepL _ _ (List.nodup_finRange 56)]
    congr 1
  rw [allK_sep, h1, h2]
  show iprop(f 0 ∗ sepL f ((List.finRange 56).map Fin.succ)) = _
  rw [sepL_map]

omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide +kernel) (by decide +kernel)]; rfl

omit [FloatOps F] in
/-- All counters of a device at zero. -/
theorem sems0_eq (c : Dev nD) : (bigSep Finset.univ fun k : Fin 57 => semVal (kcell (c, k)) 0 : sProp 𝕄)
    = iprop(unscopedSems0 c ∗ Pipeline.ownSems0 (Ix := Unit) (Name := ℕ) (U := UU) (Lvl := ℕ) (Val := Elt F) (τ := τ) osem c) := by
  rw [fin57_split, unscopedSems0_eq]
  rfl

/-! ## The invariants -/

/-- What device `c` starts from but for memory, credit and levels. -/
def linear (m : (ℓ : Loc nD τ sig) → Buf (Elt F) ℓ) (c : Dev nD) : sProp 𝕄 := sepL (atomI m c) tok₀

/-- The invariants of all semaphores, and that their one round is open. -/
def records (m : (ℓ : Loc nD τ sig) → Buf (Elt F) ℓ) (K : Dev nD × Fin 57 → ℕ) : sProp 𝕄 :=
  bigSep Finset.univ (fun p : Dev nD × Fin 57 => iprop(cellInv ER (rd m) (K p) (kcell p) ∗ reached ER (kcell p) 0))

instance records_persistent (m : (ℓ : Loc nD τ sig) → Buf (Elt F) ℓ) (K : Dev nD × Fin 57 → ℕ) : BI.Persistent (records m K) := by
  unfold records; infer_instance

/-- What the launch makes of it for device `c`. -/
def G' (m : (ℓ : Loc nD τ sig) → Buf (Elt F) ℓ) (c : Dev nD) : sProp 𝕄 := iprop(∃ K, records m K ∗ linear m c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0))
          ∗ bigSep Finset.univ (fun i => tk c i)) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 57 => semVal (kcell (c, k)) 0) ∗ bigSep Finset.univ fun k : Fin 57 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) :
    iprop((bigSep Finset.univ fun k : Fin 57 => atPos ER (kcell (c, k)) 0 ∅ 0) ∗ sepL (atomI m c) payToks) ⊢ linear m c := by
  unfold linear tok₀
  iintro ⟨H1, H2⟩
  iapply (sepL_append (atomI m c) _ _).2
  isplitl [H1]
  · iapply (Entails.of_eq ((allK_sep (fun k : Fin 57 => (atPos ER (kcell (c, k)) 0 ∅ 0 : sProp 𝕄))).trans
      (sepL_map (atomI m c) Atom.pos allK).symm)); iexact H1
  · iexact H2

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0))
          ∗ bigSep Finset.univ (fun i => tk c i)) : sProp 𝕄)
      ⊢ bigSep Finset.univ (G' m) := by
  rw [bigSep_sep', bigSep_sep', ← bigSep_univ_prod (fun ck : Dev nD × Fin 57 => iprop(∃ κ : ℕ, cellInv ER (rd m) κ (kcell ck))),
    bigSep_congr (s := Finset.univ) (fun (c : Dev nD) _ => bigSep_sep' Finset.univ (fun k : Fin 57 => (atPos ER (kcell (c, k)) 0 ∅ 0 : sProp 𝕄)) (fun k => reached ER (kcell (c, k)) 0)),
    bigSep_sep', ← bigSep_univ_prod (fun ck : Dev nD × Fin 57 => (reached ER (kcell ck) 0 : sProp 𝕄))]
  iintro ⟨HI, ⟨Hat, #HR⟩, Htok⟩
  ihave HK := (BI.bigSep_exists_pi Finset.univ (fun (ck : Dev nD × Fin 57) (κ : ℕ) => (cellInv ER (rd m) κ (kcell ck) : sProp 𝕄))) $$ HI
  icases HK with ⟨%K, #HI⟩
  ihave Htk := (deal (m := m)) $$ Htok
  have hg : ∀ c : Dev nD, iprop(records m K ∗ linear m c) ⊢ G' m c := fun c => by
    unfold G'; iintro H; iexists K; iexact H
  iapply (bigSep_with (R := records m K) fun c _ => hg c)
  isplitr
  · unfold records
    iapply (Entails.of_eq (bigSep_sep' Finset.univ _ _).symm)
    isplitl; · iexact HI
    iexact HR
  · iapply ((Entails.of_eq (bigSep_sep' Finset.univ (fun c : Dev nD => bigSep Finset.univ fun k : Fin 57 => (atPos ER (kcell (c, k)) 0 ∅ 0 : sProp 𝕄))
      (fun c => sepL (atomI m c) payToks)).symm).trans (bigSep_mono fun c _ => linear_intro c))
    isplitl [Hat]; · iexact Hat
    iexact Htk

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc c).trans (bigSep_fupd _ _)).trans (BI.fupd_mono regroup)

end Cert.KernelIdeal.Grad

end
-- ==== Proof.Columns.lean ====
module

public import proofs.«01_k».proof.Proof.Waits

/-!
# Reading and writing columns

What the columns of each buffer read as, and what it holds after columns were written.
-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {w lo : ℕ} {off : Fin 2 → ℕ}

/-- An index in a block of columns is one of its indices. -/
theorem of_mem_cols {R W : ℕ} [NeZero R] [NeZero W] (ho : off = ![0, lo])
    (inb : ∀ a, off a + (M2 R w).size a ≤ (M2 R W).size a) {i : (M2 R W).Idx} (hi : i ∈ cols R W lo w) :
    ∃ j, (Rect.unit (s := M2 R W) off (M2 R w).size inb).emb j = i := by
  rw [← rect_set ho inb, ← Rect.map_emb_univ, Finset.mem_map] at hi
  obtain ⟨j, -, h⟩ := hi
  exact ⟨j, h⟩

/-- The columns of `cc0_stg0_0`, as they are read. -/
theorem read_xst (ho : off = ![0, lo]) (inb : ∀ a, off a + (M2 2048 w).size a ≤ (M2 2048 2048).size a)
    (f : (M2 2048 2048).Idx → Elt F .f32) :
    ((Memref.whole cc0_stg0_0).view.slice (Rect.unit (s := M2 2048 2048) off (M2 2048 w).size inb)).read (Elt F) f = cut w lo f :=
  funext fun j => congrArg f (rect_emb ho inb j)

/-- The columns of `main_arg1`, as they are read. -/
theorem read_dy (ho : off = ![0, lo]) (inb : ∀ a, off a + (M2 2048 w).size a ≤ (M2 2048 8192).size a)
    (f : (M2 2048 8192).Idx → Elt F .f32) :
    ((Memref.whole main_arg1).view.slice (Rect.unit (s := M2 2048 8192) off (M2 2048 w).size inb)).read (Elt F) f = cut w lo f :=
  funext fun j => congrArg f (rect_emb ho inb j)

/-- The columns of `cc0_scratch0`, as they are read. -/
theorem read_dv (ho : off = ![0, lo]) (inb : ∀ a, off a + (M2 2048 w).size a ≤ (M2 2048 1024).size a)
    (f : (M2 2048 1024).Idx → Elt F .f32) :
    ((Memref.whole cc0_scratch0).view.slice (Rect.unit (s := M2 2048 1024) off (M2 2048 w).size inb)).read (Elt F) f = cut w lo f :=
  funext fun j => congrArg f (rect_emb ho inb j)

/-- The columns of `cc0_scratch0`, after they were written. -/
theorem write_dv (ho : off = ![0, lo]) (inb : ∀ a, off a + (M2 2048 w).size a ≤ (M2 2048 1024).size a)
    (f G : (M2 2048 1024).Idx → Elt F .f32) {v : (M2 2048 w).Idx → Elt F .f32} (hv : v = cut w lo G) :
    ∀ i ∈ cols 2048 1024 lo w, ((Memref.whole cc0_scratch0).view.slice
      (Rect.unit (s := M2 2048 1024) off (M2 2048 w).size inb)).write (Elt F) f v Finset.univ i = G i := by
  intro i hi
  obtain ⟨j, rfl⟩ := of_mem_cols ho inb hi
  refine (View.write_emb_of_mem (v := (Memref.whole cc0_scratch0).view.slice
    (Rect.unit (s := M2 2048 1024) off (M2 2048 w).size inb)) f v (Finset.mem_univ j)).trans ?_
  subst hv
  exact congrArg G (rect_emb ho inb j).symm

/-- The columns of `cc0_scratch1`, as they are read. -/
theorem read_pp (ho : off = ![0, lo]) (inb : ∀ a, off a + (M2 1024 w).size a ≤ (M2 1024 1024).size a)
    (f : (M2 1024 1024).Idx → Elt F .f32) :
    ((Memref.whole cc0_scratch1).view.slice (Rect.unit (s := M2 1024 1024) off (M2 1024 w).size inb)).read (Elt F) f = cut w lo f :=
  funext fun j => congrArg f (rect_emb ho inb j)

/-- The columns of `cc0_scratch1`, after they were written. -/
theorem write_pp (ho : off = ![0, lo]) (inb : ∀ a, off a + (M2 1024 w).size a ≤ (M2 1024 1024).size a)
    (f G : (M2 1024 1024).Idx → Elt F .f32) {v : (M2 1024 w).Idx → Elt F .f32} (hv : v = cut w lo G) :
    ∀ i ∈ cols 1024 1024 lo w, ((Memref.whole cc0_scratch1).view.slice
      (Rect.unit (s := M2 1024 1024) off (M2 1024 w).size inb)).write (Elt F) f v Finset.univ i = G i := by
  intro i hi
  obtain ⟨j, rfl⟩ := of_mem_cols ho inb hi
  refine (View.write_emb_of_mem (v := (Memref.whole cc0_scratch1).view.slice
    (Rect.unit (s := M2 1024 1024) off (M2 1024 w).size inb)) f v (Finset.mem_univ j)).trans ?_
  subst hv
  exact congrArg G (rect_emb ho inb j).symm

/-- The columns of `cc0_scratch2`, as they are read. -/
theorem read_pm (ho : off = ![0, lo]) (inb : ∀ a, off a + (M2 1024 w).size a ≤ (M2 1024 1024).size a)
    (f : (M2 1024 1024).Idx → Elt F .f32) :
    ((Memref.whole cc0_scratch2).view.slice (Rect.unit (s := M2 1024 1024) off (M2 1024 w).size inb)).read (Elt F) f = cut w lo f :=
  funext fun j => congrArg f (rect_emb ho inb j)

/-- The columns of `cc0_scratch2`, after they were written. -/
theorem write_pm (ho : off = ![0, lo]) (inb : ∀ a, off a + (M2 1024 w).size a ≤ (M2 1024 1024).size a)
    (f G : (M2 1024 1024).Idx → Elt F .f32) {v : (M2 1024 w).Idx → Elt F .f32} (hv : v = cut w lo G) :
    ∀ i ∈ cols 1024 1024 lo w, ((Memref.whole cc0_scratch2).view.slice
      (Rect.unit (s := M2 1024 1024) off (M2 1024 w).size inb)).write (Elt F) f v Finset.univ i = G i := by
  intro i hi
  obtain ⟨j, rfl⟩ := of_mem_cols ho inb hi
  refine (View.write_emb_of_mem (v := (Memref.whole cc0_scratch2).view.slice
    (Rect.unit (s := M2 1024 1024) off (M2 1024 w).size inb)) f v (Finset.mem_univ j)).trans ?_
  subst hv
  exact congrArg G (rect_emb ho inb j).symm

/-- The columns of `cc0_scratch3`, as they are read. -/
theorem read_yb (ho : off = ![0, lo]) (inb : ∀ a, off a + (M2 1024 w).size a ≤ (M2 1024 1024).size a)
    (f : (M2 1024 1024).Idx → Elt F .f32) :
    ((Memref.whole cc0_scratch3).view.slice (Rect.unit (s := M2 1024 1024) off (M2 1024 w).size inb)).read (Elt F) f = cut w lo f :=
  funext fun j => congrArg f (rect_emb ho inb j)

/-- The columns of `cc0_scratch3`, after they were written. -/
theorem write_yb (ho : off = ![0, lo]) (inb : ∀ a, off a + (M2 1024 w).size a ≤ (M2 1024 1024).size a)
    (f G : (M2 1024 1024).Idx → Elt F .f32) {v : (M2 1024 w).Idx → Elt F .f32} (hv : v = cut w lo G) :
    ∀ i ∈ cols 1024 1024 lo w, ((Memref.whole cc0_scratch3).view.slice
      (Rect.unit (s := M2 1024 1024) off (M2 1024 w).size inb)).write (Elt F) f v Finset.univ i = G i := by
  intro i hi
  obtain ⟨j, rfl⟩ := of_mem_cols ho inb hi
  refine (View.write_emb_of_mem (v := (Memref.whole cc0_scratch3).view.slice
    (Rect.unit (s := M2 1024 1024) off (M2 1024 w).size inb)) f v (Finset.mem_univ j)).trans ?_
  subst hv
  exact congrArg G (rect_emb ho inb j).symm

/-- The columns of `main_v1`, as they are read. -/
theorem read_out (ho : off = ![0, lo]) (inb : ∀ a, off a + (M2 1024 w).size a ≤ (M2 1024 8192).size a)
    (f : (M2 1024 8192).Idx → Elt F .f32) :
    ((Memref.whole main_v1).view.slice (Rect.unit (s := M2 1024 8192) off (M2 1024 w).size inb)).read (Elt F) f = cut w lo f :=
  funext fun j => congrArg f (rect_emb ho inb j)

/-- The columns of `main_v1`, after they were written. -/
theorem write_out (ho : off = ![0, lo]) (inb : ∀ a, off a + (M2 1024 w).size a ≤ (M2 1024 8192).size a)
    (f G : (M2 1024 8192).Idx → Elt F .f32) {v : (M2 1024 w).Idx → Elt F .f32} (hv : v = cut w lo G) :
    ∀ i ∈ cols 1024 8192 lo w, ((Memref.whole main_v1).view.slice
      (Rect.unit (s := M2 1024 8192) off (M2 1024 w).size inb)).write (Elt F) f v Finset.univ i = G i := by
  intro i hi
  obtain ⟨j, rfl⟩ := of_mem_cols ho inb hi
  refine (View.write_emb_of_mem (v := (Memref.whole main_v1).view.slice
    (Rect.unit (s := M2 1024 8192) off (M2 1024 w).size inb)) f v (Finset.mem_univ j)).trans ?_
  subst hv
  exact congrArg G (rect_emb ho inb j).symm

end Cert.KernelIdeal.Grad

end
-- ==== Proof.Copies.lean ====
module

public import proofs.«01_k».proof.Proof.Columns

/-!
# The copies

What a copy needs of its two ends, and the steps that start copies.
-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

omit [FloatOps F] in
/-- The same elements of a buffer, named by another set and holding the same there. -/
theorem pts_eq {ℓ : Loc nD τ sig} {I J : Finset (Idx ℓ)} (h : I = J) {q : PosShare TreeShare} {f g : Buf (Elt F) ℓ}
    (hfg : ∀ i ∈ J, f i = g i) : (ℓ ↦[I]{q} f : sProp 𝕄) = ℓ ↦[J]{q} g := by
  subst h; exact pointsTo_congr hfg

/-! ## A remote copy -/

/-- The two ends of copy `t` of device `c` are what the schedule says: the source is the piece the copy reads, the
    destination is where it arrives, and with the source's contents there it is what the arrival hands over. -/
def SendOK (m : (ℓ : Loc nD τ sig) → Buf (Elt F) ℓ) (c : Dev nD) (t : Tr) {sp sp' : Space} {s : Shape} {e : EltTy}
    (src : Memref sig .tc sp s e) (dst : Memref sig .tc sp' s e) : Prop :=
  t.act (zc c) = true → ∃ (q : PosShare TreeShare) (fs : Buf (Elt F) (src.view.loc (c : Thread nD τ))),
    (pieceI m c (t.src (zc c)) = (src.view.loc (c : Thread nD τ) ↦[src.view.set]{q} fs)) ∧
    (dstI m c t ⊢ iprop(∃ fd, dst.view.loc (t.dst c : Thread nD τ) ↦[dst.view.set]{fullShare} fd)) ∧
    (∀ fd, (dst.view.loc (t.dst c : Thread nD τ) ↦[dst.view.set]{fullShare}
      (dst.view.write (Elt F) fd (src.view.read (Elt F) fs) Finset.univ))
        ⊢ sepL (pieceI m (t.dst c)) (t.got (zc (t.dst c)))) ∧
    dst.view.dmaCredit = t.amt

/-- A remote copy takes its source and the right to write its destination. -/
theorem sim_send (t : Tr) {n : Dev nD} {sp sp' : Space} {s : Shape} {e : EltTy}
    {src : Memref sig .tc sp s e} {dst : Memref sig .tc sp' s e} {sS sR : DmaSem sig}
    {hsc : dst.view.ref.isScScratch = false} {hsrc : src.view.WordExact} {hdst : dst.view.WordExact}
    {hsem : DmaTarget.Typed sp (.dma sR) (.remote (n : Thread nD τ) dst (.dma sS) hsc)}
    (hn : n = t.dst c) (hS : sS = (t.sk : Fin 57)) (hR : sR = (t.rk : Fin 57)) (hok : SendOK m c t src dst)
    {k' : PUnit → Prog (TpuEff nD τ sig (Elt F) Λ₀ .tc) α} {l : List Op} {φ : α → Prop} (hk : Sim m K c (k' ⟨⟩) l φ) :
    Sim m K c (Prog.lift (.enqueueDma src (.remote (n : Thread nD τ) dst (.dma sS) hsc) (.dma sR) hsrc hdst hsem) >>= k')
      (.send t :: l) φ := by
  subst hn
  refine sim_step hk fun D D' hD hact Q => ?_
  obtain ⟨q, fs, hps, hpd, hpl, hN⟩ := hok hact
  have hact : t.act (zc c) = true := hact
  have hcS := kcell_dma (c := c) hS (sk_ne_zero t)
  have hcR := kcell_dma (c := t.dst c) hR (rk_ne_zero t)
  have hO : owed c D = owed c D' + tallyAt (kcell (t.dst c, t.rk)) () t.amt := owed_take1 c _ (takes_single hD)
  have hw : waitAmt (zc c) t.sk = t.amt := by unfold waitAmt; rw [if_neg (sk_ne_zero t), role_sk]; rfl
  have hd₁ : (0 : Fin 4) ∈ (rd (F := F) m).duties (kcell (c, t.sk)) 0 := by
    rw [rd_duties, role_sk]; show 0 ∈ (if t.act (zc c) = true then {0} else ∅ : Finset (Fin 4)); rw [if_pos hact]; decide
  have hd₂ : (0 : Fin 4) ∈ (rd (F := F) m).duties (kcell (t.dst c, t.rk)) 0 := by
    rw [rd_duties, role_rk]; show 0 ∈ (if t.inAct (zc (t.dst c)) = true then {0} else ∅ : Finset (Fin 4))
    rw [inAct_dst, if_pos hact]; decide
  have hk₁ : (rd (F := F) m).amount (kcell (c, t.sk)) 0 0 = t.amt := by rw [rd_amount, role_sk]; rfl
  have hk₂ : (rd (F := F) m).amount (kcell (t.dst c, t.rk)) 0 0 = t.amt := by rw [rd_amount, role_rk]; rfl
  have hp₁ : (rd (F := F) m).payload (kcell (c, t.sk)) 0 0 = iprop(pieceI m c (t.src (zc c)) ∗ emp) := by
    rw [rd_payload, role_sk, payI, if_neg (by intro h; cases h)]; rfl
  have hp₂ : (rd (F := F) m).payload (kcell (t.dst c, t.rk)) 0 0 = sepL (pieceI m (t.dst c)) (t.got (zc (t.dst c))) := by
    rw [rd_payload, role_rk, payI, if_neg (by intro h; cases h)]; rfl
  have hi₁ := recs_cell m K (c, t.sk)
  have hi₂ := recs_cell m K (t.dst c, t.rk)
  have hr₁ := recs_reached m K (c, t.sk)
  have hr₂ := recs_reached m K (t.dst c, t.rk)
  show iprop(recs m K ∗ (pieceI m c (t.src (zc c)) ∗ dstI m c t ∗ dutyTok ER (kcell (c, t.sk)) 0 0
      ∗ dutyTok ER (kcell (t.dst c, t.rk)) 0 0 ∗ emp)
    ∗ (∃ W, owes (c : Thread nD τ) (owed c D) W)
    ∗ (((cred (tallyAt (kcell (c, t.sk)) () (waitAmt (zc c) t.sk)) ∗ emp) ∗ Ow c D') -∗ WP c (k' ⟨⟩) Q))
    ⊢ WP c (.op (.enqueueDma src (.remote (t.dst c : Thread nD τ) dst (.dma sS) hsc) (.dma sR) hsrc hdst hsem) k') Q
  rw [hw, hps]
  rw [hps] at hp₁
  rw [hcS] at hd₁ hk₁ hp₁ hi₁ hr₁ ⊢
  rw [hcR] at hd₂ hk₂ hp₂ hi₂ hr₂ hO ⊢
  iintro ⟨#HR, ⟨Hs, Hd, Ht₁, Ht₂, -⟩, ⟨%W, HO⟩, HQ⟩
  ihave Hd := hpd $$ Hd
  icases Hd with ⟨%fd, Hd⟩
  iapply (Rounds.wp_send_pointsTo 𝒱₀ ER (rd m) (c : Thread nD τ) none (κ₁ := K (c, t.sk)) (κ₂ := K (t.dst c, t.rk))
    (r₁ := 0) (r₂ := 0) (d₁ := 0) (d₂ := 0) (fd := fd) hd₁ hd₂ () () t.amt hN hk₁ hk₂ (owed c D') hO (W := W)
    ((sep_emp (PROP := sProp 𝕄)).2.trans (Entails.of_eq hp₁.symm)) ((hpl fd).trans (Entails.of_eq hp₂.symm)))
    $$ [Hs Hd HO Ht₁ Ht₂]
  · isplitr; · iapply hi₁; iexact HR
    isplitr; · iapply hi₂; iexact HR
    isplitl [Hs]; · iexact Hs
    isplitl [Hd]; · iexact Hd
    isplitl [HO]; · iexact HO
    isplitl [Ht₁]; · iexact Ht₁
    isplitr; · iapply hr₁; iexact HR
    isplitl [Ht₂]; · iexact Ht₂
    iapply hr₂; iexact HR
  iintro ⟨Hc, HO⟩
  iapply HQ
  isplitl [Hc]
  · isplitl [Hc]; · iexact Hc
    iempintro
  · unfold Ow; iexists _; iexact HO

/-! ## Where the copies arrive -/

/-- The first column of the result that copy `t` of device `c` writes at its destination. -/
def Tr.lo (c : Dev nD) (t : Tr) : ℕ :=
  colAt (t.dst c) (t.blk (zc (t.dst c))).1.val (t.blk (zc (t.dst c))).2.1 (t.blk (zc (t.dst c))).2.2.val

/-- Whether the source of a copy lies where the copy arrives: half of the own block, or a half of the result. -/
def srcAt (c : Dev nD) (t : Tr) : Bool :=
  match t.src (zc c) with
  | .pmS s _ => decide (t.lo c = own c + 512 * s.val)
  | .outF X b s _ => decide (t.lo c = colAt c X.val b s.val)
  | _ => true

theorem srcAt_act (c : Dev nD) (t : Tr) (h : t.act (zc c) = true) : srcAt c t = true := by
  have : ∀ c : Dev nD, ∀ t ∈ allTr, t.act (zc c) = true → srcAt c t = true := by decide +kernel
  exact this c t (mem_allTr t) h

/-- A copy other than across `y` stays within the devices of the same `y`. -/
theorem yc_dst (c : Dev nD) (t : Tr) (h : t.dir ≠ 1) : yc (t.dst c) = yc c := by
  have : ∀ (c : Dev nD) (d : Fin 4), d ≠ 1 → yc (nb c d) = yc c := by decide +kernel
  exact this c t.dir h

theorem dir_ne_y (t : Tr) (h : ∀ q, t ≠ .y q) : t.dir ≠ 1 := by
  cases t with
  | y q => exact absurd rfl (h q)
  | x b s => exact (by decide : (0 : Fin 4) ≠ 1)
  | zr h s => exact (by decide : (3 : Fin 4) ≠ 1)
  | zl h s => exact (by decide : (2 : Fin 4) ≠ 1)
  | rl => exact (by decide : (2 : Fin 4) ≠ 1)
  | rr => exact (by decide : (3 : Fin 4) ≠ 1)

/-- The place where a copy other than across `y` arrives. -/
theorem dstI_out (m : (ℓ : Loc nD τ sig) → Buf (Elt F) ℓ) (t : Tr) (h : ∀ q, t ≠ .y q) : dstI m c t
    = iprop(∃ f, ((t.dst c : Thread nD τ).loc main_v1) ↦[cols 1024 8192 (t.lo c) 512]{fullShare} f) := by
  cases t with
  | y q => exact absurd rfl (h q)
  | x b s => rfl
  | zr h s => rfl
  | zl h s => rfl
  | rl => rfl
  | rr => rfl

/-- What the arrival of a copy other than across `y` hands over: that part of the result, filled. -/
theorem got_out (m : (ℓ : Loc nD τ sig) → Buf (Elt F) ℓ) (t : Tr) (h : ∀ q, t ≠ .y q) :
    (((t.dst c : Thread nD τ).loc main_v1) ↦[cols 1024 8192 (t.lo c) 512]{fullShare} (OUT m (t.dst c)) : sProp 𝕄)
      ⊢ sepL (pieceI m (t.dst c)) (t.got (zc (t.dst c))) := by
  have e : t.got (zc (t.dst c)) = [.outF (t.blk (zc (t.dst c))).1 (t.blk (zc (t.dst c))).2.1 (t.blk (zc (t.dst c))).2.2 0,
      .outF (t.blk (zc (t.dst c))).1 (t.blk (zc (t.dst c))).2.1 (t.blk (zc (t.dst c))).2.2 1] := by
    cases t with
    | y q => exact absurd rfl (h q)
    | x b s => rfl
    | zr h s => rfl
    | zl h s => rfl
    | rl => rfl
    | rr => rfl
  rw [e]
  show _ ⊢ iprop((((t.dst c : Thread nD τ).loc main_v1) ↦[cols 1024 8192 (t.lo c) 512]{fullShare.left} (OUT m (t.dst c)))
    ∗ (((t.dst c : Thread nD τ).loc main_v1) ↦[cols 1024 8192 (t.lo c) 512]{fullShare.right} (OUT m (t.dst c))) ∗ emp)
  iintro H
  ihave H := (pointsTo_share (PosShare.mem_left_op_right fullShare)).1 $$ H
  icases H with ⟨H1, H2⟩
  isplitl [H1]; · iexact H1
  isplitl [H2]; · iexact H2
  iempintro

theorem amt_out (t : Tr) (h : ∀ q, t ≠ .y q) : t.amt = NS := by
  cases t with
  | y q => exact absurd rfl (h q)
  | x b s => rfl
  | zr h s => rfl
  | zl h s => rfl
  | rl => rfl
  | rr => rfl

/-- What lands in the result, if the source held what the result is to hold there. -/
theorem land_out (t : Tr) (h : ∀ q, t ≠ .y q) {off : Fin 2 → ℕ} (ho : off = ![0, t.lo c])
    (inb : ∀ a, off a + S1024x512.size a ≤ S1024x8192.size a) (hst)
    {v : (M2 1024 512).Idx → Elt F .f32} (hv : v = cut 512 (t.lo c) (OUT m (t.dst c))) (fd) :
    ((((Memref.whole main_v1 : Memref sig .tc .hbm S1024x8192 .f32).slice (Rect.unit (s := S1024x8192) off S1024x512.size inb)
      hst).view.loc (t.dst c : Thread nD τ)) ↦[((Memref.whole main_v1 : Memref sig .tc .hbm S1024x8192 .f32).slice
        (Rect.unit (s := S1024x8192) off S1024x512.size inb) hst).view.set]{fullShare}
      (((Memref.whole main_v1 : Memref sig .tc .hbm S1024x8192 .f32).slice (Rect.unit (s := S1024x8192) off S1024x512.size inb)
        hst).view.write (Elt F) fd v Finset.univ) : sProp 𝕄)
      ⊢ sepL (pieceI m (t.dst c)) (t.got (zc (t.dst c))) :=
  (Entails.of_eq (pts_eq (ℓ := (t.dst c : Thread nD τ).loc main_v1) ((View.set_slice_whole main_v1 _).trans (rect_set ho inb))
    (write_out ho inb fd (OUT m (t.dst c)) hv))).trans (got_out m t h)

/-- A copy out of the own block into the result of another device. -/
theorem sendOK_pm (t : Tr) (s : Fin 2) (k : Fin 4) (hsk : t.act (zc c) = true → t.src (zc c) = .pmS s k) {offS offD : Fin 2 → ℕ}
    (hoS : offS = ![0, 512 * s.val]) (inbS : ∀ a, offS a + S1024x512.size a ≤ S1024x1024.size a) (hstS)
    (hoD : t.act (zc c) = true → offD = ![0, t.lo c]) (inbD : ∀ a, offD a + S1024x512.size a ≤ S1024x8192.size a) (hstD) :
    SendOK m c t ((Memref.whole cc0_scratch2 : Memref sig .tc .vmem S1024x1024 .f32).slice
        (Rect.unit (s := S1024x1024) offS S1024x512.size inbS) hstS)
      ((Memref.whole main_v1 : Memref sig .tc .hbm S1024x8192 .f32).slice
        (Rect.unit (s := S1024x8192) offD S1024x512.size inbD) hstD) := by
  intro hact
  have hsk := hsk hact
  have hoD := hoD hact
  have hy : ∀ q, t ≠ .y q := by rintro q rfl; cases hsk
  have hlo : t.lo c = own c + 512 * s.val := by
    have := srcAt_act c t hact; unfold srcAt at this; rw [hsk] at this; exact of_decide_eq_true this
  refine ⟨sh4 k, PMF m c, ?_, ?_, fun fd => ?_, (amt_out t hy).symm ▸ rfl⟩
  · rw [hsk]
    exact (pts_eq (ℓ := (c : Thread nD τ).loc cc0_scratch2) ((View.set_slice_whole cc0_scratch2 _).trans (rect_set hoS inbS))
      (fun _ _ => rfl)).symm
  · rw [dstI_out m t hy]
    iintro ⟨%f, H⟩
    iexists f
    iapply (Entails.of_eq (pts_eq (ℓ := (t.dst c : Thread nD τ).loc main_v1)
      ((View.set_slice_whole main_v1 _).trans (rect_set hoD inbD)) (fun _ _ => rfl)).symm)
    iexact H
  · refine land_out t hy hoD inbD hstD ?_ fd
    refine (read_pm hoS inbS (PMF m c)).trans ?_
    rw [hlo]
    exact (cut_OUT m c (t.dst c) (yc_dst c t (dir_ne_y t hy)) s).symm

/-- A copy of a part of the result into the same part of the result of another device. -/
theorem sendOK_out (t : Tr) (X : Fin 2) (b : ℕ) (s k : Fin 2) (hsk : t.act (zc c) = true → t.src (zc c) = .outF X b s k)
    {offS offD : Fin 2 → ℕ}
    (hoS : t.act (zc c) = true → offS = ![0, t.lo c]) (inbS : ∀ a, offS a + S1024x512.size a ≤ S1024x8192.size a) (hstS)
    (hoD : t.act (zc c) = true → offD = ![0, t.lo c]) (inbD : ∀ a, offD a + S1024x512.size a ≤ S1024x8192.size a) (hstD) :
    SendOK m c t ((Memref.whole main_v1 : Memref sig .tc .hbm S1024x8192 .f32).slice
        (Rect.unit (s := S1024x8192) offS S1024x512.size inbS) hstS)
      ((Memref.whole main_v1 : Memref sig .tc .hbm S1024x8192 .f32).slice
        (Rect.unit (s := S1024x8192) offD S1024x512.size inbD) hstD) := by
  intro hact
  have hsk := hsk hact
  have hoS := hoS hact
  have hoD := hoD hact
  have hy : ∀ q, t ≠ .y q := by rintro q rfl; cases hsk
  have hlo : t.lo c = colAt c X.val b s.val := by
    have := srcAt_act c t hact; unfold srcAt at this; rw [hsk] at this; exact of_decide_eq_true this
  refine ⟨sh2 k, OUT m c, ?_, ?_, fun fd => ?_, (amt_out t hy).symm ▸ rfl⟩
  · rw [hsk]
    exact (pts_eq (ℓ := (c : Thread nD τ).loc main_v1)
      ((View.set_slice_whole main_v1 _).trans ((rect_set hoS inbS).trans (by rw [hlo]))) (fun _ _ => rfl)).symm
  · rw [dstI_out m t hy]
    iintro ⟨%f, H⟩
    iexists f
    iapply (Entails.of_eq (pts_eq (ℓ := (t.dst c : Thread nD τ).loc main_v1)
      ((View.set_slice_whole main_v1 _).trans (rect_set hoD inbD)) (fun _ _ => rfl)).symm)
    iexact H
  · refine land_out t hy hoD inbD hstD ?_ fd
    refine (read_out hoS inbS (OUT m c)).trans ?_
    rw [OUT_congr m (yc_dst c t (dir_ne_y t hy)).symm]

/-- A quarter of the partial product, to the neighbour across `y`. -/
theorem sendOK_y (q : Fin 4) {offS offD : Fin 2 → ℕ}
    (hoS : offS = ![0, 256 * q.val]) (inbS : ∀ a, offS a + S1024x256.size a ≤ S1024x1024.size a) (hstS)
    (hoD : offD = ![0, 256 * q.val]) (inbD : ∀ a, offD a + S1024x256.size a ≤ S1024x1024.size a) (hstD) :
    SendOK m c (.y q) ((Memref.whole cc0_scratch1 : Memref sig .tc .vmem S1024x1024 .f32).slice
        (Rect.unit (s := S1024x1024) offS S1024x256.size inbS) hstS)
      ((Memref.whole cc0_scratch3 : Memref sig .tc .vmem S1024x1024 .f32).slice
        (Rect.unit (s := S1024x1024) offD S1024x256.size inbD) hstD) := by
  intro hact
  refine ⟨fullShare, PPF m c, ?_, ?_, fun fd => ?_, rfl⟩
  · exact (pts_eq (ℓ := (c : Thread nD τ).loc cc0_scratch1) ((View.set_slice_whole cc0_scratch1 _).trans (rect_set hoS inbS))
      (fun _ _ => rfl)).symm
  · show iprop(∃ f, ((nb c 1 : Thread nD τ).loc cc0_scratch3) ↦[cols 1024 1024 (256 * q.val) 256]{fullShare} f) ⊢ _
    iintro ⟨%f, H⟩
    iexists f
    iapply (Entails.of_eq (pts_eq (ℓ := (nb c 1 : Thread nD τ).loc cc0_scratch3)
      ((View.set_slice_whole cc0_scratch3 _).trans (rect_set hoD inbD)) (fun _ _ => rfl)).symm)
    iexact H
  · have e : YBF m (nb c 1) = PPF m c := congrArg (PPF m) (nb_opp c 1)
    refine (Entails.of_eq (pts_eq (ℓ := (nb c 1 : Thread nD τ).loc cc0_scratch3) (g := YBF m (nb c 1))
      ((View.set_slice_whole cc0_scratch3 _).trans (rect_set hoD inbD))
      (write_yb hoD inbD fd (YBF m (nb c 1)) ?_))).trans (sep_emp (PROP := sProp 𝕄)).2
    exact (read_pp hoS inbS (PPF m c)).trans (by rw [e])

/-! ## The local copies -/

/-- A local copy pays its one duty on a semaphore of the device. -/
theorem sim_copy (o : Op) (k : Fin 57) {sp sp' : Space} {s : Shape} {e : EltTy}
    {src : Memref sig .tc sp s e} {dst : Memref sig .tc sp' s e} {sem : DmaSem sig}
    {hsrc : src.view.WordExact} {hdst : dst.view.WordExact}
    {hsem : DmaTarget.Typed sp (.dma sem) (DmaTarget.here dst : DmaTarget nD τ sig .tc sp' s e)}
    (hs : sem = (k : Fin 57)) (hk0 : k ≠ 0) (hu : ∀ z, used z k = true) (ha : dst.view.dmaCredit = (role k).amt)
    {A B : Piece} (hpre : ∀ z, o.pre z = [.mem A, .mem B, .tok k]) (hpost : ∀ z, o.post z = [.crd k]) (hpays : o.pays = [])
    {q : PosShare TreeShare} {fs : Buf (Elt F) (src.view.loc (c : Thread nD τ))}
    (hA : pieceI m c A = (src.view.loc (c : Thread nD τ) ↦[src.view.set]{q} fs))
    (hB : pieceI m c B ⊢ iprop(∃ fd, dst.view.loc (c : Thread nD τ) ↦[dst.view.set]{fullShare} fd))
    (hland : ∀ fd, iprop((dst.view.loc (c : Thread nD τ) ↦[dst.view.set]{fullShare}
      (dst.view.write (Elt F) fd (src.view.read (Elt F) fs) Finset.univ)) ∗ pieceI m c A)
        ⊢ sepL (pieceI m c) ((role k).pay (zc c)))
    {k' : PUnit → Prog (TpuEff nD τ sig (Elt F) Λ₀ .tc) α} {l : List Op} {φ : α → Prop} (hk : Sim m K c (k' ⟨⟩) l φ) :
    Sim m K c (Prog.lift (.enqueueDma src (.here dst) (.dma sem) hsrc hdst hsem) >>= k') (o :: l) φ := by
  refine sim_step hk fun D D' hD _ Q => ?_
  rw [hpays] at hD
  cases hD
  rw [hpre, hpost]
  have hc := kcell_dma (c := c) hs hk0
  have hw : waitAmt (zc c) k = (role k).amt := if_neg hk0
  have hd : (0 : Fin 4) ∈ (rd (F := F) m).duties (kcell (c, k)) 0 := by
    rw [rd_duties, duties_used _ k hk0 (hu _)]; decide
  have hka := rd_amount (F := F) m c k 0
  have hp : (rd (F := F) m).payload (kcell (c, k)) 0 0 = sepL (pieceI m c) ((role k).pay (zc c)) := by
    rw [rd_payload, payI, if_neg (fun e => hk0 ((role_bar k).mp e))]
  have hi := recs_cell m K (c, k)
  have hr := recs_reached m K (c, k)
  show iprop(recs m K ∗ (pieceI m c A ∗ pieceI m c B ∗ dutyTok ER (kcell (c, k)) 0 0 ∗ emp)
    ∗ Ow c D ∗ (((cred (tallyAt (kcell (c, k)) () (waitAmt (zc c) k)) ∗ emp) ∗ Ow c D) -∗ WP c (k' ⟨⟩) Q))
    ⊢ WP c (.op (.enqueueDma src (.here dst) (.dma sem) hsrc hdst hsem) k') Q
  rw [hw, hA]
  rw [hA] at hland
  rw [hc] at hd hka hp hi hr ⊢
  iintro ⟨#HR, ⟨Hs, Hd, Ht, -⟩, HO, HQ⟩
  ihave Hd := hB $$ Hd
  icases Hd with ⟨%fd, Hd⟩
  iapply (Rounds.wp_copy_pointsTo 𝒱₀ ER (rd m) (c : Thread nD τ) none (κ := K (c, k)) (r := 0) (d := 0) (fd := fd) hd ()
    (role k).amt ha hka ((hland fd).trans (Entails.of_eq hp.symm))) $$ [Hs Hd Ht]
  · isplitr; · iapply hi; iexact HR
    isplitl [Hs]; · iexact Hs
    isplitl [Hd]; · iexact Hd
    isplitl [Ht]; · iexact Ht
    iapply hr; iexact HR
  iintro Hc
  iapply HQ
  isplitl [Hc]
  · isplitl [Hc]; · iexact Hc
    iempintro
  · iexact HO

theorem dy_cell (s : Fin 2) : (Role.dy s).cell ≠ 0 ∧ role (Role.dy s).cell = .dy s ∧ ∀ z, used z (Role.dy s).cell = true := by
  have h : ∀ s : Fin 2, (Role.dy s).cell ≠ 0 ∧ role (Role.dy s).cell = .dy s := by decide +kernel
  exact ⟨(h s).1, (h s).2, fun z => by unfold used; rw [(h s).2]⟩

theorem st_cell (s : Fin 2) : (Role.st s).cell ≠ 0 ∧ role (Role.st s).cell = .st s ∧ ∀ z, used z (Role.st s).cell = true := by
  have h : ∀ s : Fin 2, (Role.st s).cell ≠ 0 ∧ role (Role.st s).cell = .st s := by decide +kernel
  exact ⟨(h s).1, (h s).2, fun z => by unfold used; rw [(h s).2]⟩

theorem credit_dv {off : Fin 2 → ℕ} (inb : ∀ a, off a + S2048x512.size a ≤ S2048x1024.size a) (hst) :
    ((Memref.whole cc0_scratch0 : Memref sig .tc .vmem S2048x1024 .f32).slice
      (Rect.unit (s := S2048x1024) off S2048x512.size inb) hst).view.dmaCredit = ND := rfl

theorem credit_out {off : Fin 2 → ℕ} (inb : ∀ a, off a + S1024x512.size a ≤ S1024x8192.size a) (hst) :
    ((Memref.whole main_v1 : Memref sig .tc .hbm S1024x8192 .f32).slice
      (Rect.unit (s := S1024x8192) off S1024x512.size inb) hst).view.dmaCredit = NS := rfl

/-- Reading half `s` of the needed columns of `dy`. -/
theorem sim_cin (s : Fin 2) {offS offD : Fin 2 → ℕ}
    (hoS : offS = ![0, own c + 512 * s.val]) (inbS : ∀ a, offS a + S2048x512.size a ≤ S2048x8192.size a) (hstS)
    (hoD : offD = ![0, 512 * s.val]) (inbD : ∀ a, offD a + S2048x512.size a ≤ S2048x1024.size a) (hstD)
    {sem : DmaSem sig} (hs : sem = ((Role.dy s).cell : Fin 57)) {hsrc hdst hsem}
    {k' : PUnit → Prog (TpuEff nD τ sig (Elt F) Λ₀ .tc) α} {l : List Op} {φ : α → Prop} (hk : Sim m K c (k' ⟨⟩) l φ) :
    Sim m K c (Prog.lift (.enqueueDma ((Memref.whole main_arg1 : Memref sig .tc .hbm S2048x8192 .f32).slice
        (Rect.unit (s := S2048x8192) offS S2048x512.size inbS) hstS)
      (.here ((Memref.whole cc0_scratch0 : Memref sig .tc .vmem S2048x1024 .f32).slice
        (Rect.unit (s := S2048x1024) offD S2048x512.size inbD) hstD)) (.dma sem) hsrc hdst hsem) >>= k') (.cin s :: l) φ := by
  refine sim_copy (.cin s) _ hs (dy_cell s).1 (dy_cell s).2.2 ((credit_dv inbD hstD).trans (congrArg Role.amt (dy_cell s).2.1.symm)) (A := .dyS s) (B := .dvJ s)
    (fun _ => rfl) (fun _ => rfl) rfl (q := fullShare.left) (fs := DYA m c) ?_ ?_ (fun fd => ?_) hk
  · exact (pts_eq (ℓ := (c : Thread nD τ).loc main_arg1) ((View.set_slice_whole main_arg1 _).trans (rect_set hoS inbS))
      (fun _ _ => rfl)).symm
  · show iprop(∃ f, ((c : Thread nD τ).loc cc0_scratch0) ↦[cols 2048 1024 (512 * s.val) 512]{fullShare} f) ⊢ _
    iintro ⟨%f, H⟩
    iexists f
    iapply (Entails.of_eq (pts_eq (ℓ := (c : Thread nD τ).loc cc0_scratch0)
      ((View.set_slice_whole cc0_scratch0 _).trans (rect_set hoD inbD)) (fun _ _ => rfl)).symm)
    iexact H
  · rw [(dy_cell s).2.1]
    show _ ⊢ iprop(pieceI m c (.dvF s) ∗ pieceI m c (.dyS s) ∗ emp)
    refine BI.sep_mono (Entails.of_eq (pts_eq (ℓ := (c : Thread nD τ).loc cc0_scratch0)
      ((View.set_slice_whole cc0_scratch0 _).trans (rect_set hoD inbD))
      (write_dv hoD inbD fd (DYV m c) ((read_dy hoS inbS (DYA m c)).trans ?_)))) (sep_emp (PROP := sProp 𝕄)).2
    funext j
    have h1 : (j 1).val < 512 := idx_one_lt j
    have h0 : (j 0).val < 2048 := idx_zero_lt j
    have hs2 := s.isLt
    unfold DYV cut
    rw [ix_one _ _ (by omega), ix_zero _ _ h0, Nat.add_assoc]

/-- Storing half `s` of the own block into the result. -/
theorem sim_cst (s : Fin 2) {offS offD : Fin 2 → ℕ}
    (hoS : offS = ![0, 512 * s.val]) (inbS : ∀ a, offS a + S1024x512.size a ≤ S1024x1024.size a) (hstS)
    (hoD : offD = ![0, own c + 512 * s.val]) (inbD : ∀ a, offD a + S1024x512.size a ≤ S1024x8192.size a) (hstD)
    {sem : DmaSem sig} (hs : sem = ((Role.st s).cell : Fin 57)) {hsrc hdst hsem}
    {k' : PUnit → Prog (TpuEff nD τ sig (Elt F) Λ₀ .tc) α} {l : List Op} {φ : α → Prop} (hk : Sim m K c (k' ⟨⟩) l φ) :
    Sim m K c (Prog.lift (.enqueueDma ((Memref.whole cc0_scratch2 : Memref sig .tc .vmem S1024x1024 .f32).slice
        (Rect.unit (s := S1024x1024) offS S1024x512.size inbS) hstS)
      (.here ((Memref.whole main_v1 : Memref sig .tc .hbm S1024x8192 .f32).slice
        (Rect.unit (s := S1024x8192) offD S1024x512.size inbD) hstD)) (.dma sem) hsrc hdst hsem) >>= k') (.cst s :: l) φ := by
  refine sim_copy (.cst s) _ hs (st_cell s).1 (st_cell s).2.2 ((credit_out inbD hstD).trans (congrArg Role.amt (st_cell s).2.1.symm)) (A := .pmS s 0) (B := .outJ s)
    (fun _ => rfl) (fun _ => rfl) rfl (q := sh4 0) (fs := PMF m c) ?_ ?_ (fun fd => ?_) hk
  · exact (pts_eq (ℓ := (c : Thread nD τ).loc cc0_scratch2) ((View.set_slice_whole cc0_scratch2 _).trans (rect_set hoS inbS))
      (fun _ _ => rfl)).symm
  · show iprop(∃ f, ((c : Thread nD τ).loc main_v1) ↦[cols 1024 8192 (own c + 512 * s.val) 512]{fullShare} f) ⊢ _
    iintro ⟨%f, H⟩
    iexists f
    iapply (Entails.of_eq (pts_eq (ℓ := (c : Thread nD τ).loc main_v1)
      ((View.set_slice_whole main_v1 _).trans (rect_set hoD inbD)) (fun _ _ => rfl)).symm)
    iexact H
  · rw [(st_cell s).2.1]
    show _ ⊢ iprop(pieceI m c (.outO s) ∗ pieceI m c (.pmS s 0) ∗ emp)
    exact BI.sep_mono (Entails.of_eq (pts_eq (ℓ := (c : Thread nD τ).loc main_v1)
      ((View.set_slice_whole main_v1 _).trans (rect_set hoD inbD))
      (write_out hoD inbD fd (OUT m c) ((read_pm hoS inbS (PMF m c)).trans (cut_OUT m c c rfl s).symm))))
      (sep_emp (PROP := sProp 𝕄)).2

end Cert.KernelIdeal.Grad

end
-- ==== Proof.Compute.lean ====
module

public import proofs.«01_k».proof.Proof.Copies

/-!
# The computations

The three steps that compute: a quarter of the partial product for the neighbour, half of the own partial product, and the
sum of the two partial products.
-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-- The columns of a block lie among some columns that hold it. -/
theorem rect_sub {R W w lo lo' w' : ℕ} [NeZero R] [NeZero W] {off : Fin 2 → ℕ} (ho : off = ![0, lo])
    (inb : ∀ a, off a + (M2 R w).size a ≤ (M2 R W).size a) (h1 : lo' ≤ lo) (h2 : lo + w ≤ lo' + w') :
    (Rect.unit (s := M2 R W) off (M2 R w).size inb).set ⊆ cols R W lo' w' := by
  rw [rect_set ho inb]; exact cols_subset h1 h2

/-- An operation followed by a continuation. -/
theorem lift_bind {E : Type → Type} {α β : Type} (e : E β) (k : β → Prog E α) : (Prog.lift e >>= k) = .op e k := rfl

/-- Two loads, a load whose value is not used, and a store of a function of the two values. `P` is what the step holds
throughout, `C` what it has of the buffer that it writes. -/
theorem sim_calc (o : Op) {s₁ s₂ s₃ : Shape} {e₁ e₂ e₃ : EltTy} {m₁ : Memref sig .tc .vmem s₁ e₁} {m₂ : Memref sig .tc .vmem s₂ e₂}
    {m₃ : Memref sig .tc .vmem s₃ e₃} {r₁ : Rect s₁} {r₂ : Rect s₂} {r₃ : Rect s₃} {hl₁ hl₂ hl₃ hst hm}
    {g : (r₁.shape.Idx → Elt F e₁) → (r₂.shape.Idx → Elt F e₂) → (r₃.shape.Idx → Elt F e₃)}
    {S₁ S₂ S₃} {q₁ q₂ : PosShare TreeShare} {f₁ : Buf (Elt F) ((m₁.access r₁).loc (c : Thread nD τ))}
    {f₂ : Buf (Elt F) ((m₂.access r₂).loc (c : Thread nD τ))}
    (hS₁ : (m₁.access r₁).set ⊆ S₁) (hS₂ : (m₂.access r₂).set ⊆ S₂) (hS₃ : (m₃.access r₃).set ⊆ S₃)
    (hpays : o.pays = []) {ok : Buf (Elt F) ((m₃.access r₃).loc (c : Thread nD τ)) → Prop} {P : sProp 𝕄} {C : Buf (Elt F) ((m₃.access r₃).loc (c : Thread nD τ)) → sProp 𝕄}
    (hpre : sepL (atomI m c) (o.pre (zc c)) ⊢ iprop(∃ f, ⌜ok f⌝ ∗ P ∗ C f))
    (h₁ : ∀ f, ok f → iprop(P ∗ C f) ⊢ iprop(((m₁.access r₁).loc (c : Thread nD τ) ↦[S₁]{q₁} f₁)
      ∗ (((m₁.access r₁).loc (c : Thread nD τ) ↦[S₁]{q₁} f₁) -∗ (P ∗ C f))))
    (h₂ : ∀ f, ok f → iprop(P ∗ C f) ⊢ iprop(((m₂.access r₂).loc (c : Thread nD τ) ↦[S₂]{q₂} f₂)
      ∗ (((m₂.access r₂).loc (c : Thread nD τ) ↦[S₂]{q₂} f₂) -∗ (P ∗ C f))))
    (h₃ : ∀ f, C f = ((m₃.access r₃).loc (c : Thread nD τ) ↦[S₃]{fullShare} f))
    (hpost : ∀ f, ok f → iprop(P ∗ ((m₃.access r₃).loc (c : Thread nD τ) ↦[S₃]{fullShare} ((m₃.access r₃).write (Elt F) f
      (g ((m₁.access r₁).read (Elt F) f₁) ((m₂.access r₂).read (Elt F) f₂)) Finset.univ)))
        ⊢ sepL (atomI m c) (o.post (zc c)))
    {k' : PUnit → Prog (TpuEff nD τ sig (Elt F) Λ₀ .tc) α} {l : List Op} {φ : α → Prop} (hk : Sim m K c (k' ⟨⟩) l φ) :
    Sim m K c (Prog.lift (.load m₁ r₁.toLoadRect hl₁) >>= fun v => Prog.lift (.load m₂ r₂.toLoadRect hl₂) >>= fun w =>
      Prog.lift (.load m₃ r₃.toLoadRect hl₃) >>= fun _ =>
      Prog.lift (.store m₃ r₃ (g v w) Finset.univ hst hm) >>= k') (o :: l) φ := by
  refine sim_step hk fun D D' hD _ Q => ?_
  rw [hpays] at hD
  cases hD
  simp only [lift_bind]
  iintro ⟨-, H, HO, HQ⟩
  ihave H := hpre $$ H
  icases H with ⟨%f, %hf, H⟩
  ihave H := (h₁ f hf) $$ H
  icases H with ⟨H, Hb⟩
  iapply (wp_load_rect 𝒱₀ (c : Thread nD τ) none Set.univ (m := m₁) (r := r₁) hS₁) $$ H
  iintro H
  ihave H := Hb $$ H
  ihave H := (h₂ f hf) $$ H
  icases H with ⟨H, Hb⟩
  iapply (wp_load_rect 𝒱₀ (c : Thread nD τ) none Set.univ (m := m₂) (r := r₂) hS₂) $$ H
  iintro H
  ihave H := Hb $$ H
  icases H with ⟨HP, H⟩
  ihave H := (Entails.of_eq (h₃ f)) $$ H
  iapply (wp_load_rect 𝒱₀ (c : Thread nD τ) none Set.univ (m := m₃) (r := r₃) hS₃) $$ H
  iintro H
  iapply (wp_store 𝒱₀ (c : Thread nD τ) none Set.univ (m := m₃) (r := r₃) (Mk := Finset.univ) hS₃) $$ H
  iintro H
  iapply HQ
  isplitr [HO]
  · iapply (hpost f hf)
    isplitl [HP] <;> iassumption
  · iexact HO

/-- Which half of the columns a quarter lies in. -/
theorem half_val : ∀ q : Fin 4, (half q).val = q.val / 2 := by decide

/-- A quarter of the partial product for the neighbour across `y`. -/
theorem sim_pp (q : Fin 4) {offx offd offp : Fin 2 → ℕ}
    (hox : offx = ![0, 1024 - 1024 * yc c]) (inbx : ∀ a, offx a + S2048x1024.size a ≤ S2048x2048.size a)
    (hod : offd = ![0, 256 * q.val]) (inbd : ∀ a, offd a + S2048x256.size a ≤ S2048x1024.size a)
    (hop : offp = ![0, 256 * q.val]) (inbp : ∀ a, offp a + S1024x256.size a ≤ S1024x1024.size a)
    {pay : Vec F S2048x1024 .f32 → Vec F S2048x256 .f32 → Vec F S1024x256 .f32} (hpay : pay = k0_pay1) {hl₁ hl₂ hl₃ hst hm}
    {k' : PUnit → Prog (TpuEff nD τ sig (Elt F) Λ₀ .tc) α} {l : List Op} {φ : α → Prop} (hk : Sim m K c (k' ⟨⟩) l φ) :
    Sim m K c (Prog.lift (.load (Memref.whole cc0_stg0_0 : Memref sig .tc .vmem S2048x2048 .f32)
        (Rect.unit (s := S2048x2048) offx S2048x1024.size inbx).toLoadRect hl₁) >>= fun v =>
      Prog.lift (.load (Memref.whole cc0_scratch0 : Memref sig .tc .vmem S2048x1024 .f32)
        (Rect.unit (s := S2048x1024) offd S2048x256.size inbd).toLoadRect hl₂) >>= fun w =>
      Prog.lift (.load (Memref.whole cc0_scratch1 : Memref sig .tc .vmem S1024x1024 .f32)
        (Rect.unit (s := S1024x1024) offp S1024x256.size inbp).toLoadRect hl₃) >>= fun _ =>
      Prog.lift (.store (Memref.whole cc0_scratch1 : Memref sig .tc .vmem S1024x1024 .f32)
        (Rect.unit (s := S1024x1024) offp S1024x256.size inbp) (pay v w) Finset.univ hst hm) >>= k') (.pp q :: l) φ := by
  have hw : ∀ f, (((c : Thread nD τ).loc cc0_scratch1) ↦[cols 1024 1024 (256 * q.val) 256]{fullShare}
      (((Memref.whole cc0_scratch1).view.slice (Rect.unit (s := M2 1024 1024) offp (M2 1024 256).size inbp)).write (Elt F) f
        (pay (((Memref.whole cc0_stg0_0).view.slice (Rect.unit (s := M2 2048 2048) offx (M2 2048 1024).size inbx)).read (Elt F) (XA m c))
          (((Memref.whole cc0_scratch0).view.slice (Rect.unit (s := M2 2048 1024) offd (M2 2048 256).size inbd)).read (Elt F) (DYV m c)))
        Finset.univ) : sProp 𝕄)
      = (((c : Thread nD τ).loc cc0_scratch1) ↦[cols 1024 1024 (256 * q.val) 256]{fullShare} (PPF m c)) := by
    intro f
    rw [read_xst (F := F) hox inbx (XA m c), read_dv (F := F) hod inbd (DYV m c), hpay]
    exact pointsTo_congr (write_pp hop inbp f (PPF m c) (cut_PPF m c q).symm)
  refine sim_calc (.pp q) (m₁ := Memref.whole cc0_stg0_0) (m₂ := Memref.whole cc0_scratch0) (m₃ := Memref.whole cc0_scratch1)
    (r₁ := Rect.unit (s := S2048x2048) offx S2048x1024.size inbx) (r₂ := Rect.unit (s := S2048x1024) offd S2048x256.size inbd)
    (r₃ := Rect.unit (s := S1024x1024) offp S1024x256.size inbp) (g := pay) (S₁ := Finset.univ) (S₂ := cols 2048 1024 (512 * (half q).val) 512) (S₃ := cols 1024 1024 (256 * q.val) 256)
    (q₁ := fullShare) (q₂ := fullShare) (f₁ := XA m c) (f₂ := DYV m c) (Finset.subset_univ _)
    (((View.set_slice_whole cc0_scratch0 _).trans rfl).trans_subset (rect_sub hod inbd ?_ ?_))
    (((View.set_slice_whole cc0_scratch1 _).trans rfl).trans_subset (rect_sub hop inbp le_rfl le_rfl)) rfl
    (P := iprop((((c : Thread nD τ).loc cc0_stg0_0) ↦{fullShare} (XA m c))
      ∗ (((c : Thread nD τ).loc cc0_scratch0) ↦[cols 2048 1024 (512 * (half q).val) 512]{fullShare} (DYV m c))))
    (C := fun f => (((c : Thread nD τ).loc cc0_scratch1) ↦[cols 1024 1024 (256 * q.val) 256]{fullShare} f))
    (ok := fun _ => True) ?_ (fun f _ => ?_) (fun f _ => ?_) (fun _ => rfl) (fun f _ => ?_) hk
  · have := half_val q; omega
  · have := half_val q; omega
  · show iprop((((c : Thread nD τ).loc cc0_stg0_0) ↦{fullShare} (XA m c))
      ∗ (((c : Thread nD τ).loc cc0_scratch0) ↦[cols 2048 1024 (512 * (half q).val) 512]{fullShare} (DYV m c))
      ∗ (∃ f, ((c : Thread nD τ).loc cc0_scratch1) ↦[cols 1024 1024 (256 * q.val) 256]{fullShare} f) ∗ emp) ⊢ _
    iintro ⟨Hx, Hd, ⟨%f, Hp⟩, -⟩
    iexists f
    isplitr; · ipureintro; trivial
    isplitl [Hx Hd]
    · isplitl [Hx] <;> iassumption
    · iexact Hp
  · iintro ⟨⟨Hx, Hd⟩, Hp⟩
    isplitl [Hx]; · iexact Hx
    iintro Hx
    isplitl [Hx Hd]
    · isplitl [Hx] <;> iassumption
    · iexact Hp
  · iintro ⟨⟨Hx, Hd⟩, Hp⟩
    isplitl [Hd]; · iexact Hd
    iintro Hd
    isplitl [Hx Hd]
    · isplitl [Hx] <;> iassumption
    · iexact Hp
  · have hp : ∀ R : sProp 𝕄, R = (((c : Thread nD τ).loc cc0_scratch1) ↦[cols 1024 1024 (256 * q.val) 256]{fullShare} (PPF m c)) →
        iprop(((((c : Thread nD τ).loc cc0_stg0_0) ↦{fullShare} (XA m c)) ∗ (((c : Thread nD τ).loc cc0_scratch0) ↦[cols 2048 1024 (512 * (half q).val) 512]{fullShare} (DYV m c))) ∗ R)
        ⊢ iprop((((c : Thread nD τ).loc cc0_stg0_0) ↦{fullShare} (XA m c)) ∗ (((c : Thread nD τ).loc cc0_scratch0) ↦[cols 2048 1024 (512 * (half q).val) 512]{fullShare} (DYV m c)) ∗ (((c : Thread nD τ).loc cc0_scratch1) ↦[cols 1024 1024 (256 * q.val) 256]{fullShare} (PPF m c)) ∗ emp) := by
      rintro R rfl
      iintro ⟨⟨Hx, Hd⟩, Hp⟩
      isplitl [Hx]; · iexact Hx
      isplitl [Hd]; · iexact Hd
      isplitl [Hp]; · iexact Hp
      iempintro
    exact hp _ (hw f)

/-- Half of the own partial product. -/
theorem sim_pm (s : Fin 2) {offx offd offp : Fin 2 → ℕ}
    (hox : offx = ![0, 1024 * yc c]) (inbx : ∀ a, offx a + S2048x1024.size a ≤ S2048x2048.size a)
    (hod : offd = ![0, 512 * s.val]) (inbd : ∀ a, offd a + S2048x512.size a ≤ S2048x1024.size a)
    (hop : offp = ![0, 512 * s.val]) (inbp : ∀ a, offp a + S1024x512.size a ≤ S1024x1024.size a)
    {pay : Vec F S2048x1024 .f32 → Vec F S2048x512 .f32 → Vec F S1024x512 .f32} (hpay : pay = k0_pay3) {hl₁ hl₂ hl₃ hst hm}
    {k' : PUnit → Prog (TpuEff nD τ sig (Elt F) Λ₀ .tc) α} {l : List Op} {φ : α → Prop} (hk : Sim m K c (k' ⟨⟩) l φ) :
    Sim m K c (Prog.lift (.load (Memref.whole cc0_stg0_0 : Memref sig .tc .vmem S2048x2048 .f32)
        (Rect.unit (s := S2048x2048) offx S2048x1024.size inbx).toLoadRect hl₁) >>= fun v =>
      Prog.lift (.load (Memref.whole cc0_scratch0 : Memref sig .tc .vmem S2048x1024 .f32)
        (Rect.unit (s := S2048x1024) offd S2048x512.size inbd).toLoadRect hl₂) >>= fun w =>
      Prog.lift (.load (Memref.whole cc0_scratch2 : Memref sig .tc .vmem S1024x1024 .f32)
        (Rect.unit (s := S1024x1024) offp S1024x512.size inbp).toLoadRect hl₃) >>= fun _ =>
      Prog.lift (.store (Memref.whole cc0_scratch2 : Memref sig .tc .vmem S1024x1024 .f32)
        (Rect.unit (s := S1024x1024) offp S1024x512.size inbp) (pay v w) Finset.univ hst hm) >>= k') (.pm s :: l) φ := by
  have hw : ∀ f, (((c : Thread nD τ).loc cc0_scratch2) ↦[cols 1024 1024 (512 * s.val) 512]{fullShare}
      (((Memref.whole cc0_scratch2).view.slice (Rect.unit (s := M2 1024 1024) offp (M2 1024 512).size inbp)).write (Elt F) f
        (pay (((Memref.whole cc0_stg0_0).view.slice (Rect.unit (s := M2 2048 2048) offx (M2 2048 1024).size inbx)).read (Elt F) (XA m c))
          (((Memref.whole cc0_scratch0).view.slice (Rect.unit (s := M2 2048 1024) offd (M2 2048 512).size inbd)).read (Elt F) (DYV m c)))
        Finset.univ) : sProp 𝕄)
      = (((c : Thread nD τ).loc cc0_scratch2) ↦[cols 1024 1024 (512 * s.val) 512]{fullShare} (PMP m c)) := by
    intro f
    rw [read_xst (F := F) hox inbx (XA m c), read_dv (F := F) hod inbd (DYV m c), hpay]
    exact pointsTo_congr (write_pm hop inbp f (PMP m c) (cut_PMP m c s).symm)
  refine sim_calc (.pm s) (m₁ := Memref.whole cc0_stg0_0) (m₂ := Memref.whole cc0_scratch0) (m₃ := Memref.whole cc0_scratch2)
    (r₁ := Rect.unit (s := S2048x2048) offx S2048x1024.size inbx) (r₂ := Rect.unit (s := S2048x1024) offd S2048x512.size inbd)
    (r₃ := Rect.unit (s := S1024x1024) offp S1024x512.size inbp) (g := pay) (S₁ := Finset.univ) (S₂ := cols 2048 1024 (512 * s.val) 512) (S₃ := cols 1024 1024 (512 * s.val) 512)
    (q₁ := fullShare) (q₂ := fullShare) (f₁ := XA m c) (f₂ := DYV m c) (Finset.subset_univ _)
    (((View.set_slice_whole cc0_scratch0 _).trans rfl).trans_subset (rect_sub hod inbd ?_ ?_))
    (((View.set_slice_whole cc0_scratch2 _).trans rfl).trans_subset (rect_sub hop inbp le_rfl le_rfl)) rfl
    (P := iprop((((c : Thread nD τ).loc cc0_stg0_0) ↦{fullShare} (XA m c))
      ∗ (((c : Thread nD τ).loc cc0_scratch0) ↦[cols 2048 1024 (512 * s.val) 512]{fullShare} (DYV m c))))
    (C := fun f => (((c : Thread nD τ).loc cc0_scratch2) ↦[cols 1024 1024 (512 * s.val) 512]{fullShare} f))
    (ok := fun _ => True) ?_ (fun f _ => ?_) (fun f _ => ?_) (fun _ => rfl) (fun f _ => ?_) hk
  · exact le_rfl
  · exact le_rfl
  · show iprop((((c : Thread nD τ).loc cc0_stg0_0) ↦{fullShare} (XA m c))
      ∗ (((c : Thread nD τ).loc cc0_scratch0) ↦[cols 2048 1024 (512 * s.val) 512]{fullShare} (DYV m c))
      ∗ (∃ f, ((c : Thread nD τ).loc cc0_scratch2) ↦[cols 1024 1024 (512 * s.val) 512]{fullShare} f) ∗ emp) ⊢ _
    iintro ⟨Hx, Hd, ⟨%f, Hp⟩, -⟩
    iexists f
    isplitr; · ipureintro; trivial
    isplitl [Hx Hd]
    · isplitl [Hx] <;> iassumption
    · iexact Hp
  · iintro ⟨⟨Hx, Hd⟩, Hp⟩
    isplitl [Hx]; · iexact Hx
    iintro Hx
    isplitl [Hx Hd]
    · isplitl [Hx] <;> iassumption
    · iexact Hp
  · iintro ⟨⟨Hx, Hd⟩, Hp⟩
    isplitl [Hd]; · iexact Hd
    iintro Hd
    isplitl [Hx Hd]
    · isplitl [Hx] <;> iassumption
    · iexact Hp
  · have hp : ∀ R : sProp 𝕄, R = (((c : Thread nD τ).loc cc0_scratch2) ↦[cols 1024 1024 (512 * s.val) 512]{fullShare} (PMP m c)) →
        iprop(((((c : Thread nD τ).loc cc0_stg0_0) ↦{fullShare} (XA m c)) ∗ (((c : Thread nD τ).loc cc0_scratch0) ↦[cols 2048 1024 (512 * s.val) 512]{fullShare} (DYV m c))) ∗ R)
        ⊢ iprop((((c : Thread nD τ).loc cc0_stg0_0) ↦{fullShare} (XA m c)) ∗ (((c : Thread nD τ).loc cc0_scratch0) ↦[cols 2048 1024 (512 * s.val) 512]{fullShare} (DYV m c)) ∗ (((c : Thread nD τ).loc cc0_scratch2) ↦[cols 1024 1024 (512 * s.val) 512]{fullShare} (PMP m c)) ∗ emp) := by
      rintro R rfl
      iintro ⟨⟨Hx, Hd⟩, Hp⟩
      isplitl [Hx]; · iexact Hx
      isplitl [Hd]; · iexact Hd
      isplitl [Hp]; · iexact Hp
      iempintro
    exact hp _ (hw f)

/-- Two quarters of the received partial product are one half of it. -/
theorem yb_half (s : Fin 2) :
    iprop(pieceI m c (.ybF (fm 4 (2 * s))) ∗ pieceI m c (.ybF (fm 4 (2 * s + 1))))
      ⊣⊢ (((c : Thread nD τ).loc cc0_scratch3) ↦[cols 1024 1024 (512 * s.val) 512]{fullShare} (YBF m c) : sProp 𝕄) := by
  have h1 : 256 * (fm 4 (2 * s)).val = 512 * s.val := by revert s; decide
  have h2 : 256 * (fm 4 (2 * s + 1)).val = 512 * s.val + 256 := by revert s; decide
  show iprop((((c : Thread nD τ).loc cc0_scratch3) ↦[cols 1024 1024 (256 * (fm 4 (2 * s)).val) 256]{fullShare} (YBF m c))
    ∗ (((c : Thread nD τ).loc cc0_scratch3) ↦[cols 1024 1024 (256 * (fm 4 (2 * s + 1)).val) 256]{fullShare} (YBF m c))) ⊣⊢ _
  rw [h1, h2, show (512 : ℕ) = 256 + 256 from rfl, ← cols_union (R := 1024) (W := 1024) ((256 + 256) * s.val + 256) rfl]
  exact (pointsTo_union (cols_disjoint (Or.inl le_rfl))).symm

/-- A part of the own block at the full share is that part at four quarters of a share. -/
theorem pm_quarters (s : Fin 2) :
    (((c : Thread nD τ).loc cc0_scratch2) ↦[cols 1024 1024 (512 * s.val) 512]{fullShare} (PMF m c) : sProp 𝕄)
      ⊣⊢ iprop((((c : Thread nD τ).loc cc0_scratch2) ↦[cols 1024 1024 (512 * s.val) 512]{sh4 0} (PMF m c))
      ∗ (((c : Thread nD τ).loc cc0_scratch2) ↦[cols 1024 1024 (512 * s.val) 512]{sh4 1} (PMF m c))
      ∗ (((c : Thread nD τ).loc cc0_scratch2) ↦[cols 1024 1024 (512 * s.val) 512]{sh4 2} (PMF m c))
      ∗ (((c : Thread nD τ).loc cc0_scratch2) ↦[cols 1024 1024 (512 * s.val) 512]{sh4 3} (PMF m c))) := by
  rw [show sh4 0 = fullShare.left.left from rfl, show sh4 1 = fullShare.left.right from rfl,
    show sh4 2 = fullShare.right.left from rfl, show sh4 3 = fullShare.right.right from rfl]
  constructor
  · iintro H
    ihave H := (pointsTo_share (PosShare.mem_left_op_right fullShare)).1 $$ H
    icases H with ⟨H1, H2⟩
    ihave H1 := (pointsTo_share (PosShare.mem_left_op_right fullShare.left)).1 $$ H1
    ihave H2 := (pointsTo_share (PosShare.mem_left_op_right fullShare.right)).1 $$ H2
    icases H1 with ⟨H0, H1⟩
    icases H2 with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0 H1]
    · iapply (pointsTo_share (PosShare.mem_left_op_right fullShare.left)).2
      isplitl [H0] <;> iassumption
    · iapply (pointsTo_share (PosShare.mem_left_op_right fullShare.right)).2
      isplitl [H2] <;> iassumption

/-- Half of the sum of the two partial products. -/
theorem sim_add (s : Fin 2) {offp offy : Fin 2 → ℕ}
    (hop : offp = ![0, 512 * s.val]) (inbp : ∀ a, offp a + S1024x512.size a ≤ S1024x1024.size a)
    (hoy : offy = ![0, 512 * s.val]) (inby : ∀ a, offy a + S1024x512.size a ≤ S1024x1024.size a)
    {pay : Vec F S1024x512 .f32 → Vec F S1024x512 .f32 → Vec F S1024x512 .f32} (hpay : pay = k0_pay4) {hl₁ hl₂ hl₃ hst hm}
    {k' : PUnit → Prog (TpuEff nD τ sig (Elt F) Λ₀ .tc) α} {l : List Op} {φ : α → Prop} (hk : Sim m K c (k' ⟨⟩) l φ) :
    Sim m K c (Prog.lift (.load (Memref.whole cc0_scratch2 : Memref sig .tc .vmem S1024x1024 .f32)
        (Rect.unit (s := S1024x1024) offp S1024x512.size inbp).toLoadRect hl₁) >>= fun v =>
      Prog.lift (.load (Memref.whole cc0_scratch3 : Memref sig .tc .vmem S1024x1024 .f32)
        (Rect.unit (s := S1024x1024) offy S1024x512.size inby).toLoadRect hl₂) >>= fun w =>
      Prog.lift (.load (Memref.whole cc0_scratch2 : Memref sig .tc .vmem S1024x1024 .f32)
        (Rect.unit (s := S1024x1024) offp S1024x512.size inbp).toLoadRect hl₃) >>= fun _ =>
      Prog.lift (.store (Memref.whole cc0_scratch2 : Memref sig .tc .vmem S1024x1024 .f32)
        (Rect.unit (s := S1024x1024) offp S1024x512.size inbp) (pay v w) Finset.univ hst hm) >>= k') (.add s :: l) φ := by
  have hw : (((c : Thread nD τ).loc cc0_scratch2) ↦[cols 1024 1024 (512 * s.val) 512]{fullShare}
      (((Memref.whole cc0_scratch2).view.slice (Rect.unit (s := M2 1024 1024) offp (M2 1024 512).size inbp)).write (Elt F) (PMP m c)
        (pay (((Memref.whole cc0_scratch2).view.slice (Rect.unit (s := M2 1024 1024) offp (M2 1024 512).size inbp)).read (Elt F) (PMP m c))
          (((Memref.whole cc0_scratch3).view.slice (Rect.unit (s := M2 1024 1024) offy (M2 1024 512).size inby)).read (Elt F) (YBF m c)))
        Finset.univ) : sProp 𝕄)
      = (((c : Thread nD τ).loc cc0_scratch2) ↦[cols 1024 1024 (512 * s.val) 512]{fullShare} (PMF m c)) := by
    rw [read_pm (F := F) hop inbp (PMP m c), read_yb (F := F) hoy inby (YBF m c), hpay]
    exact pointsTo_congr (write_pm hop inbp (PMP m c) (PMF m c) (cut_PMF m c s).symm)
  have hpm := pm_quarters (m := m) (c := c) s
  have hyb := yb_half (m := m) (c := c) s
  refine sim_calc (.add s) (m₁ := Memref.whole cc0_scratch2) (m₂ := Memref.whole cc0_scratch3) (m₃ := Memref.whole cc0_scratch2)
    (r₁ := Rect.unit (s := S1024x1024) offp S1024x512.size inbp) (r₂ := Rect.unit (s := S1024x1024) offy S1024x512.size inby)
    (r₃ := Rect.unit (s := S1024x1024) offp S1024x512.size inbp) (g := pay) (S₁ := cols 1024 1024 (512 * s.val) 512) (S₂ := cols 1024 1024 (512 * s.val) 512)
    (S₃ := cols 1024 1024 (512 * s.val) 512)
    (q₁ := fullShare) (q₂ := fullShare) (f₁ := PMP m c) (f₂ := YBF m c)
    (((View.set_slice_whole cc0_scratch2 _).trans rfl).trans_subset (rect_sub hop inbp le_rfl le_rfl))
    (((View.set_slice_whole cc0_scratch3 _).trans rfl).trans_subset (rect_sub hoy inby le_rfl le_rfl))
    (((View.set_slice_whole cc0_scratch2 _).trans rfl).trans_subset (rect_sub hop inbp le_rfl le_rfl)) rfl
    (P := (((c : Thread nD τ).loc cc0_scratch3) ↦[cols 1024 1024 (512 * s.val) 512]{fullShare} (YBF m c)))
    (C := fun f => (((c : Thread nD τ).loc cc0_scratch2) ↦[cols 1024 1024 (512 * s.val) 512]{fullShare} f))
    (ok := fun f => f = PMP m c) ?_ (fun f hf => ?_) (fun f hf => ?_) (fun _ => rfl) (fun f hf => ?_) hk
  · show iprop((((c : Thread nD τ).loc cc0_scratch2) ↦[cols 1024 1024 (512 * s.val) 512]{fullShare} (PMP m c))
      ∗ pieceI m c (.ybF (fm 4 (2 * s))) ∗ pieceI m c (.ybF (fm 4 (2 * s + 1))) ∗ emp) ⊢ _
    iintro ⟨Hp, Hy1, Hy2, -⟩
    iexists (PMP m c)
    isplitr; · ipureintro; rfl
    isplitl [Hy1 Hy2]
    · iapply hyb.1; isplitl [Hy1] <;> iassumption
    · iexact Hp
  · subst hf
    iintro ⟨Hy, Hp⟩
    isplitl [Hp]; · iexact Hp
    iintro Hp
    isplitl [Hy] <;> iassumption
  · iintro ⟨Hy, Hp⟩
    isplitl [Hy]; · iexact Hy
    iintro Hy
    isplitl [Hy] <;> iassumption
  · subst hf
    have hp : ∀ R : sProp 𝕄, R = (((c : Thread nD τ).loc cc0_scratch2) ↦[cols 1024 1024 (512 * s.val) 512]{fullShare} (PMF m c)) →
        iprop((((c : Thread nD τ).loc cc0_scratch3) ↦[cols 1024 1024 (512 * s.val) 512]{fullShare} (YBF m c)) ∗ R)
        ⊢ iprop(
        (((c : Thread nD τ).loc cc0_scratch2) ↦[cols 1024 1024 (512 * s.val) 512]{sh4 0} (PMF m c)) ∗
        (((c : Thread nD τ).loc cc0_scratch2) ↦[cols 1024 1024 (512 * s.val) 512]{sh4 1} (PMF m c)) ∗
        (((c : Thread nD τ).loc cc0_scratch2) ↦[cols 1024 1024 (512 * s.val) 512]{sh4 2} (PMF m c)) ∗
        (((c : Thread nD τ).loc cc0_scratch2) ↦[cols 1024 1024 (512 * s.val) 512]{sh4 3} (PMF m c)) ∗ pieceI m c (.ybF (fm 4 (2 * s))) ∗ pieceI m c (.ybF (fm 4 (2 * s + 1))) ∗ emp) := by
      rintro R rfl
      iintro ⟨Hy, Hp⟩
      ihave Hy := hyb.2 $$ Hy
      ihave Hp := hpm.1 $$ Hp
      icases Hy with ⟨Hy1, Hy2⟩
      icases Hp with ⟨H0, H1, H2, H3⟩
      isplitl [H0]; · iexact H0
      isplitl [H1]; · iexact H1
      isplitl [H2]; · iexact H2
      isplitl [H3]; · iexact H3
      isplitl [Hy1]; · iexact Hy1
      isplitl [Hy2]; · iexact Hy2
      iempintro
    exact hp _ hw

end Cert.KernelIdeal.Grad

end
-- ==== Proof.Pieces.lean ====
module

public import proofs.«01_k».proof.Proof.Deal
public import proofs.«01_k».proof.Proof.Compute

/-!
# Cutting the arrays into pieces and joining them again

At the start a device's buffers are cut into the pieces of the replay; at the end the pieces are joined again.

-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-- That blocks of `w` columns at the places `lo a`, `a` in the list, are disjoint and fill `W` columns. -/
structure Fills {I : Type} (W w : ℕ) (l : List I) (lo : I → ℕ) : Prop where
  nodup : l.Nodup
  apart : ∀ a ∈ l, ∀ b ∈ l, a ≠ b → lo a + w ≤ lo b ∨ lo b + w ≤ lo a
  fills : ∀ n < W / w, ∃ a ∈ l, lo a = w * n

instance {I : Type} [DecidableEq I] (W w : ℕ) (l : List I) (lo : I → ℕ) : Decidable (Fills W w l lo) :=
  decidable_of_iff (l.Nodup ∧ (∀ a ∈ l, ∀ b ∈ l, a ≠ b → lo a + w ≤ lo b ∨ lo b + w ≤ lo a) ∧ ∀ n < W / w, ∃ a ∈ l, lo a = w * n)
    ⟨fun h => ⟨h.1, h.2.1, h.2.2⟩, fun h => ⟨h.1, h.2, h.3⟩⟩

theorem Fills.cover {I : Type} [DecidableEq I] {R W w : ℕ} [NeZero R] [NeZero W] {l : List I} {lo : I → ℕ} (h : Fills W w l lo) (hw : 0 < w) (hW : W = w * (W / w)) :
    l.toFinset.biUnion (fun a => cols R W (lo a) w) = Finset.univ := by
  refine Finset.eq_univ_iff_forall.mpr fun i => ?_
  have hi := idx_one_lt i
  obtain ⟨a, ha, hl⟩ := h.fills ((i 1).val / w) (by rw [Nat.div_lt_iff_lt_mul hw, Nat.mul_comm, ← hW]; exact hi)
  refine Finset.mem_biUnion.mpr ⟨a, List.mem_toFinset.mpr ha, ?_⟩
  rw [mem_cols, hl]
  exact ⟨Nat.mul_div_le _ _, by have := Nat.div_add_mod (i 1).val w; have := Nat.mod_lt (i 1).val hw; omega⟩

omit [FloatOps F] in
/-- An array is its blocks. -/
theorem blocks {I : Type} [DecidableEq I] {ℓ : Loc nD τ sig} {q : PosShare TreeShare} {f : Buf (Elt F) ℓ} (l : List I) (J : I → Finset (Idx ℓ))
    (hl : l.Nodup) (hd : ∀ a ∈ l, ∀ b ∈ l, a ≠ b → Disjoint (J a) (J b)) (hU : l.toFinset.biUnion J = Finset.univ) :
    (ℓ ↦{q} f : sProp 𝕄) = sepL (fun a => ℓ ↦[J a]{q} f) l := by
  rw [← bigSep_sepL _ l hl, ← pointsTo_biUnion l.toFinset J fun a ha b hb hne => hd a (List.mem_toFinset.mp ha) b (List.mem_toFinset.mp hb) hne, hU]

theorem Fills.disj {I : Type} {R W w : ℕ} [NeZero R] [NeZero W] {l : List I} {lo : I → ℕ} (h : Fills W w l lo) :
    ∀ a ∈ l, ∀ b ∈ l, a ≠ b → Disjoint (cols R W (lo a) w) (cols R W (lo b) w) :=
  fun a ha b hb hne => cols_disjoint (h.apart a ha b hb hne)

/-! ## The four scratch buffers -/

omit [FloatOps F] in
theorem dv_blocks {q : PosShare TreeShare} {f : Buf (Elt F) ((c : Thread nD τ).loc cc0_scratch0)} :
    (((c : Thread nD τ).loc cc0_scratch0) ↦{q} f : sProp 𝕄)
      = sepL (fun s : Fin 2 => ((c : Thread nD τ).loc cc0_scratch0) ↦[cols 2048 1024 (512 * s.val) 512]{q} f) [0, 1] :=
  have h : Fills 1024 512 [0, 1] (fun s : Fin 2 => 512 * s.val) := by decide +kernel
  blocks (ℓ := (c : Thread nD τ).loc cc0_scratch0) _ _ h.nodup h.disj (h.cover (by decide) rfl)

omit [FloatOps F] in
theorem pp_blocks {q : PosShare TreeShare} {f : Buf (Elt F) ((c : Thread nD τ).loc cc0_scratch1)} :
    (((c : Thread nD τ).loc cc0_scratch1) ↦{q} f : sProp 𝕄)
      = sepL (fun s : Fin 4 => ((c : Thread nD τ).loc cc0_scratch1) ↦[cols 1024 1024 (256 * s.val) 256]{q} f) [0, 1, 2, 3] :=
  have h : Fills 1024 256 [0, 1, 2, 3] (fun s : Fin 4 => 256 * s.val) := by decide +kernel
  blocks (ℓ := (c : Thread nD τ).loc cc0_scratch1) _ _ h.nodup h.disj (h.cover (by decide) rfl)

omit [FloatOps F] in
theorem pm_blocks {q : PosShare TreeShare} {f : Buf (Elt F) ((c : Thread nD τ).loc cc0_scratch2)} :
    (((c : Thread nD τ).loc cc0_scratch2) ↦{q} f : sProp 𝕄)
      = sepL (fun s : Fin 2 => ((c : Thread nD τ).loc cc0_scratch2) ↦[cols 1024 1024 (512 * s.val) 512]{q} f) [0, 1] :=
  have h : Fills 1024 512 [0, 1] (fun s : Fin 2 => 512 * s.val) := by decide +kernel
  blocks (ℓ := (c : Thread nD τ).loc cc0_scratch2) _ _ h.nodup h.disj (h.cover (by decide) rfl)

omit [FloatOps F] in
theorem yb_blocks {q : PosShare TreeShare} {f : Buf (Elt F) ((c : Thread nD τ).loc cc0_scratch3)} :
    (((c : Thread nD τ).loc cc0_scratch3) ↦{q} f : sProp 𝕄)
      = sepL (fun s : Fin 4 => ((c : Thread nD τ).loc cc0_scratch3) ↦[cols 1024 1024 (256 * s.val) 256]{q} f) [0, 1, 2, 3] :=
  have h : Fills 1024 256 [0, 1, 2, 3] (fun s : Fin 4 => 256 * s.val) := by decide +kernel
  blocks (ℓ := (c : Thread nD τ).loc cc0_scratch3) _ _ h.nodup h.disj (h.cover (by decide) rfl)

/-! ## The columns of `dy` -/

omit [FloatOps F] in
theorem dy_blocks {q : PosShare TreeShare} {f : Buf (Elt F) ((c : Thread nD τ).loc main_arg1)} :
    (((c : Thread nD τ).loc main_arg1) ↦{q} f : sProp 𝕄)
      = sepL (fun b : ℕ => ((c : Thread nD τ).loc main_arg1) ↦[cols 2048 8192 (512 * b) 512]{q} f) (List.range 16) :=
  have h : Fills 8192 512 (List.range 16) (fun b : ℕ => 512 * b) := by decide +kernel
  blocks (ℓ := (c : Thread nD τ).loc main_arg1) _ _ h.nodup h.disj (h.cover (by decide) rfl)

theorem own_blocks : ∀ c : Dev nD, own c = 512 * (own c / 512) ∧ own c + 512 = 512 * (own c / 512 + 1)
    ∧ (takes [own c / 512, own c / 512 + 1] (List.range 16)).isSome = true := by decide +kernel

/-- The two pieces of `dy` that a device reads. -/
theorem dy_cut : (((c : Thread nD τ).loc main_arg1) ↦{fullShare.left} (DYA m c) : sProp 𝕄) ⊢ sepL (pieceI m c) ([0, 1].map .dyS) := by
  obtain ⟨h0, h1, h2⟩ := own_blocks c
  obtain ⟨l', hl⟩ := Option.isSome_iff_exists.mp h2
  rw [dy_blocks]
  iintro H
  ihave H := (sepL_takes _ _ hl) $$ H
  icases H with ⟨H, -⟩
  have hp : sepL (fun b : ℕ => ((c : Thread nD τ).loc main_arg1) ↦[cols 2048 8192 (512 * b) 512]{fullShare.left} (DYA m c)) [own c / 512, own c / 512 + 1]
      ⊢ sepL (pieceI m c) ([0, 1].map .dyS) := by
    show iprop((((c : Thread nD τ).loc main_arg1) ↦[cols 2048 8192 (512 * (own c / 512)) 512]{fullShare.left} (DYA m c))
      ∗ (((c : Thread nD τ).loc main_arg1) ↦[cols 2048 8192 (512 * (own c / 512 + 1)) 512]{fullShare.left} (DYA m c)) ∗ emp)
      ⊢ iprop((((c : Thread nD τ).loc main_arg1) ↦[cols 2048 8192 (own c) 512]{fullShare.left} (DYA m c))
      ∗ (((c : Thread nD τ).loc main_arg1) ↦[cols 2048 8192 (own c + 512) 512]{fullShare.left} (DYA m c)) ∗ emp)
    rw [← h0, ← h1]
  iapply hp; iexact H

/-! ## The result -/

/-- The parts of the result array, those of the own block first. -/
def parts (z : ℕ) : List (Fin 2 × ℕ × Fin 2) := [(0, z, 0), (0, z, 1)] ++ outParts z

/-- Where a part starts. -/
def partAt (c : Dev nD) (p : Fin 2 × ℕ × Fin 2) : ℕ := colAt c p.1.val p.2.1 p.2.2.val

theorem parts_fill : ∀ c : Dev nD, Fills 8192 512 (parts (zc c)) (partAt c) := by decide +kernel

omit [FloatOps F] in
theorem out_blocks {q : PosShare TreeShare} {f : Buf (Elt F) ((c : Thread nD τ).loc main_v1)} :
    (((c : Thread nD τ).loc main_v1) ↦{q} f : sProp 𝕄)
      = sepL (fun p => ((c : Thread nD τ).loc main_v1) ↦[cols 1024 8192 (partAt c p) 512]{q} f) (parts (zc c)) :=
  blocks (ℓ := (c : Thread nD τ).loc main_v1) _ _ (parts_fill c).nodup (parts_fill c).disj ((parts_fill c).cover (by decide) rfl)

/-- The copies that arrive in the result array of a device at `z`. -/
def outTr (z : ℕ) : List Tr := (allTr.filter (Tr.inAct z)).filter (fun t => decide (t.dir ≠ 1))

theorem outTr_perm : ∀ z < 4, (outParts z).Perm ((outTr z).map (Tr.blk z)) := by decide +kernel

theorem own_part (c : Dev nD) (s : Fin 2) : partAt c (0, zc c, s) = own c + 512 * s.val :=
  (by decide +kernel : ∀ (c : Dev nD) (s : Fin 2), partAt c (0, zc c, s) = own c + 512 * s.val) c s

theorem outTr_not_y : ∀ z < 4, ∀ t ∈ outTr z, t.dir ≠ 1 := by decide +kernel

theorem land_part (t : Tr) (h : t.dir ≠ 1) : pieceI m c (.land t)
    = iprop(∃ f, ((c : Thread nD τ).loc main_v1) ↦[cols 1024 8192 (partAt c (t.blk (zc c))) 512]{fullShare} f) := by
  cases t with
  | y q => exact absurd rfl h
  | _ => rfl

/-- The result array at the start. -/
theorem out_cut {f : Buf (Elt F) ((c : Thread nD τ).loc main_v1)} : (((c : Thread nD τ).loc main_v1) ↦{fullShare} f : sProp 𝕄)
    ⊢ iprop(sepL (pieceI m c) ([0, 1].map .outJ) ∗ sepL (pieceI m c) ((outTr (zc c)).map .land)) := by
  have hj : ∀ p, (((c : Thread nD τ).loc main_v1) ↦[cols 1024 8192 (partAt c p) 512]{fullShare} f : sProp 𝕄)
      ⊢ iprop(∃ f, ((c : Thread nD τ).loc main_v1) ↦[cols 1024 8192 (partAt c p) 512]{fullShare} f) := fun p => by
    iintro H; iexists f; iexact H
  have h1 : sepL (fun p => (((c : Thread nD τ).loc main_v1) ↦[cols 1024 8192 (partAt c p) 512]{fullShare} f : sProp 𝕄)) [(0, zc c, 0), (0, zc c, 1)]
      ⊢ sepL (pieceI m c) ([0, 1].map .outJ) := by
    refine (sepL_mono fun p _ => hj p).trans ?_
    show iprop((∃ f, ((c : Thread nD τ).loc main_v1) ↦[cols 1024 8192 (partAt c (0, zc c, 0)) 512]{fullShare} f)
        ∗ (∃ f, ((c : Thread nD τ).loc main_v1) ↦[cols 1024 8192 (partAt c (0, zc c, 1)) 512]{fullShare} f) ∗ emp)
      ⊢ iprop((∃ f, ((c : Thread nD τ).loc main_v1) ↦[cols 1024 8192 (own c + 512 * (0 : Fin 2).val) 512]{fullShare} f)
        ∗ (∃ f, ((c : Thread nD τ).loc main_v1) ↦[cols 1024 8192 (own c + 512 * (1 : Fin 2).val) 512]{fullShare} f) ∗ emp)
    rw [own_part, own_part]
  have h2 : sepL (fun p => (((c : Thread nD τ).loc main_v1) ↦[cols 1024 8192 (partAt c p) 512]{fullShare} f : sProp 𝕄)) (outParts (zc c))
      ⊢ sepL (pieceI m c) ((outTr (zc c)).map .land) := by
    refine (sepL_perm _ (outTr_perm _ (zc_lt c))).trans ?_
    rw [sepL_map, sepL_map]
    refine sepL_mono fun t ht => ?_
    rw [land_part t (outTr_not_y _ (zc_lt c) t ht)]
    exact hj _
  rw [out_blocks]
  unfold parts
  iintro H
  ihave H := (sepL_append _ _ _).1 $$ H
  icases H with ⟨H1, H2⟩
  isplitl [H1]
  · iapply h1; iexact H1
  · iapply h2; iexact H2

/-- The pieces at the start, in the order of the buffers. -/
def memIn (z : ℕ) : List Piece := [0, 1].map .dyS ++ ([0, 1].map .dvJ ++ ([0, 1, 2, 3].map .ppJ ++ ([0, 1].map .pmJ
  ++ ([0, 1, 2, 3].map (fun q => .land (.y q)) ++ ([0, 1].map .outJ ++ (outTr z).map .land)))))

theorem memIn_perm : ∀ z < 4, (memIn z).Perm (mem₀ z).tail := by decide +kernel

/-- All buffers at the start. -/
theorem pieces_in : iprop((((c : Thread nD τ).loc main_arg1) ↦{fullShare.left} (DYA m c))
      ∗ (((c : Thread nD τ).loc main_v1) ↦{fullShare} m ((c : Thread nD τ).loc main_v1))
      ∗ (∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f))
    ⊢ sepL (pieceI m c) (mem₀ (zc c)).tail := by
  have h0 : ∀ f, (((c : Thread nD τ).loc cc0_scratch0) ↦{fullShare} f : sProp 𝕄) ⊢ sepL (pieceI m c) ([0, 1].map .dvJ) := fun f => by
    rw [dv_blocks, sepL_map]; exact sepL_mono fun s _ => by
      show _ ⊢ iprop(∃ f, ((c : Thread nD τ).loc cc0_scratch0) ↦[cols 2048 1024 (512 * s.val) 512]{fullShare} f)
      iintro H; iexists f; iexact H
  have h1 : ∀ f, (((c : Thread nD τ).loc cc0_scratch1) ↦{fullShare} f : sProp 𝕄) ⊢ sepL (pieceI m c) ([0, 1, 2, 3].map .ppJ) := fun f => by
    rw [pp_blocks, sepL_map]; exact sepL_mono fun s _ => by
      show _ ⊢ iprop(∃ f, ((c : Thread nD τ).loc cc0_scratch1) ↦[cols 1024 1024 (256 * s.val) 256]{fullShare} f)
      iintro H; iexists f; iexact H
  have h2 : ∀ f, (((c : Thread nD τ).loc cc0_scratch2) ↦{fullShare} f : sProp 𝕄) ⊢ sepL (pieceI m c) ([0, 1].map .pmJ) := fun f => by
    rw [pm_blocks, sepL_map]; exact sepL_mono fun s _ => by
      show _ ⊢ iprop(∃ f, ((c : Thread nD τ).loc cc0_scratch2) ↦[cols 1024 1024 (512 * s.val) 512]{fullShare} f)
      iintro H; iexists f; iexact H
  have h3 : ∀ f, (((c : Thread nD τ).loc cc0_scratch3) ↦{fullShare} f : sProp 𝕄) ⊢ sepL (pieceI m c) ([0, 1, 2, 3].map (fun q => .land (.y q))) := fun f => by
    rw [yb_blocks, sepL_map]; exact sepL_mono fun s _ => by
      show _ ⊢ iprop(∃ f, ((c : Thread nD τ).loc cc0_scratch3) ↦[cols 1024 1024 (256 * s.val) 256]{fullShare} f)
      iintro H; iexists f; iexact H
  iintro ⟨Hd, Ho, ⟨%f0, H0⟩, ⟨%f1, H1⟩, ⟨%f2, H2⟩, ⟨%f3, H3⟩⟩
  iapply (sepL_perm (pieceI m c) (memIn_perm _ (zc_lt c)))
  unfold memIn
  ihave Hd := dy_cut $$ Hd
  ihave Ho := (out_cut (m := m)) $$ Ho
  ihave Ho := (sepL_append (pieceI m c) _ _).2 $$ Ho
  ihave H0 := (h0 f0) $$ H0
  ihave H1 := (h1 f1) $$ H1
  ihave H2 := (h2 f2) $$ H2
  ihave H3 := (h3 f3) $$ H3
  iapply (sepL_append (pieceI m c) _ _).2
  isplitl [Hd]; · iexact Hd
  iapply (sepL_append (pieceI m c) _ _).2
  isplitl [H0]; · iexact H0
  iapply (sepL_append (pieceI m c) _ _).2
  isplitl [H1]; · iexact H1
  iapply (sepL_append (pieceI m c) _ _).2
  isplitl [H2]; · iexact H2
  iapply (sepL_append (pieceI m c) _ _).2
  isplitl [H3]; · iexact H3
  iexact Ho

/-! ## The end -/

/-- The result array at the end. -/
theorem out_join : iprop(sepL (pieceI m c) ([0, 1].map .outO)
      ∗ sepL (pieceI m c) ((outParts (zc c)).flatMap (fun p => [.outF p.1 p.2.1 p.2.2 0, .outF p.1 p.2.1 p.2.2 1])))
    ⊢ (((c : Thread nD τ).loc main_v1) ↦{fullShare} (OUT m c) : sProp 𝕄) := by
  have h1 : sepL (pieceI m c) ([0, 1].map .outO)
      ⊢ sepL (fun p => (((c : Thread nD τ).loc main_v1) ↦[cols 1024 8192 (partAt c p) 512]{fullShare} (OUT m c) : sProp 𝕄)) [(0, zc c, 0), (0, zc c, 1)] := by
    show iprop((((c : Thread nD τ).loc main_v1) ↦[cols 1024 8192 (own c + 512 * (0 : Fin 2).val) 512]{fullShare} (OUT m c))
        ∗ (((c : Thread nD τ).loc main_v1) ↦[cols 1024 8192 (own c + 512 * (1 : Fin 2).val) 512]{fullShare} (OUT m c)) ∗ emp)
      ⊢ iprop((((c : Thread nD τ).loc main_v1) ↦[cols 1024 8192 (partAt c (0, zc c, 0)) 512]{fullShare} (OUT m c))
        ∗ (((c : Thread nD τ).loc main_v1) ↦[cols 1024 8192 (partAt c (0, zc c, 1)) 512]{fullShare} (OUT m c)) ∗ emp)
    rw [own_part, own_part]
  have h2 : sepL (pieceI m c) ((outParts (zc c)).flatMap (fun p => [.outF p.1 p.2.1 p.2.2 0, .outF p.1 p.2.1 p.2.2 1]))
      ⊢ sepL (fun p => (((c : Thread nD τ).loc main_v1) ↦[cols 1024 8192 (partAt c p) 512]{fullShare} (OUT m c) : sProp 𝕄)) (outParts (zc c)) := by
    refine (sepL_flatMap (pieceI m c) _ _).2.trans (sepL_mono fun p _ => ?_)
    show iprop((((c : Thread nD τ).loc main_v1) ↦[cols 1024 8192 (partAt c p) 512]{fullShare.left} (OUT m c))
      ∗ (((c : Thread nD τ).loc main_v1) ↦[cols 1024 8192 (partAt c p) 512]{fullShare.right} (OUT m c)) ∗ emp) ⊢ _
    iintro ⟨H1, H2, -⟩
    iapply (pointsTo_share (PosShare.mem_left_op_right fullShare)).2
    isplitl [H1] <;> iassumption
  rw [out_blocks]
  unfold parts
  iintro ⟨H1, H2⟩
  iapply (sepL_append _ _ _).2
  isplitl [H1]
  · iapply h1; iexact H1
  · iapply h2; iexact H2

/-- The shared parts of the own block, joined. -/
theorem pm_join : sepL (pieceI m c) ([0, 1].flatMap (fun s : Fin 2 => [.pmS s 0, .pmS s 1, .pmS s 2, .pmS s 3]))
    ⊢ (((c : Thread nD τ).loc cc0_scratch2) ↦{fullShare} (PMF m c) : sProp 𝕄) := by
  rw [pm_blocks]
  refine (sepL_flatMap (pieceI m c) _ _).2.trans (sepL_mono fun s _ => ?_)
  refine BI.Entails.trans ?_ (pm_quarters s).2
  show iprop((((c : Thread nD τ).loc cc0_scratch2) ↦[cols 1024 1024 (512 * s.val) 512]{sh4 0} (PMF m c))
      ∗ (((c : Thread nD τ).loc cc0_scratch2) ↦[cols 1024 1024 (512 * s.val) 512]{sh4 1} (PMF m c))
      ∗ (((c : Thread nD τ).loc cc0_scratch2) ↦[cols 1024 1024 (512 * s.val) 512]{sh4 2} (PMF m c))
      ∗ (((c : Thread nD τ).loc cc0_scratch2) ↦[cols 1024 1024 (512 * s.val) 512]{sh4 3} (PMF m c)) ∗ emp) ⊢ _
  iintro ⟨H1, H2, H3, H4, -⟩
  isplitl [H1]; · iexact H1
  isplitl [H2]; · iexact H2
  isplitl [H3] <;> iassumption

theorem mem₁_eq (z : ℕ) : mem₁ z = .xstg :: ([0, 1].map .dvF ++ ([0, 1, 2, 3].map .ppF ++ ([0, 1, 2, 3].map .ybF
    ++ ([0, 1].flatMap (fun s : Fin 2 => [.pmS s 0, .pmS s 1, .pmS s 2, .pmS s 3]) ++ ([0, 1].map .outO
    ++ (outParts z).flatMap (fun p => [.outF p.1 p.2.1 p.2.2 0, .outF p.1 p.2.1 p.2.2 1])))))) := rfl

/-- All buffers at the end. -/
theorem pieces_out : sepL (pieceI m c) (mem₁ (zc c)) ⊢ iprop((((c : Thread nD τ).loc cc0_stg0_0) ↦{fullShare} (XA m c))
      ∗ (((c : Thread nD τ).loc main_v1) ↦{fullShare} (OUT m c))
      ∗ (∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f)) := by
  have h0 : sepL (pieceI m c) ([0, 1].map .dvF) ⊢ (((c : Thread nD τ).loc cc0_scratch0) ↦{fullShare} (DYV m c) : sProp 𝕄) := by
    rw [dv_blocks, sepL_map]; exact BI.Entails.refl _
  have h1 : sepL (pieceI m c) ([0, 1, 2, 3].map .ppF) ⊢ (((c : Thread nD τ).loc cc0_scratch1) ↦{fullShare} (PPF m c) : sProp 𝕄) := by
    rw [pp_blocks, sepL_map]; exact BI.Entails.refl _
  have h3 : sepL (pieceI m c) ([0, 1, 2, 3].map .ybF) ⊢ (((c : Thread nD τ).loc cc0_scratch3) ↦{fullShare} (YBF m c) : sProp 𝕄) := by
    rw [yb_blocks, sepL_map]; exact BI.Entails.refl _
  rw [mem₁_eq]
  show iprop((((c : Thread nD τ).loc cc0_stg0_0) ↦{fullShare} (XA m c)) ∗ sepL (pieceI m c) _) ⊢ _
  iintro ⟨Hx, H⟩
  isplitl [Hx]; · iexact Hx
  ihave H := (sepL_append (pieceI m c) _ _).1 $$ H
  icases H with ⟨H0, H⟩
  ihave H := (sepL_append (pieceI m c) _ _).1 $$ H
  icases H with ⟨H1, H⟩
  ihave H := (sepL_append (pieceI m c) _ _).1 $$ H
  icases H with ⟨H3, H⟩
  ihave H := (sepL_append (pieceI m c) _ _).1 $$ H
  icases H with ⟨H2, H⟩
  ihave H := (sepL_append (pieceI m c) _ _).1 $$ H
  isplitl [H]
  · iapply out_join; iexact H
  isplitl [H0]
  · iexists (DYV m c); iapply h0; iexact H0
  isplitl [H1]
  · iexists (PPF m c); iapply h1; iexact H1
  isplitl [H2]
  · iexists (PMF m c); iapply pm_join; iexact H2
  · iexists (YBF m c); iapply h3; iexact H3

end Cert.KernelIdeal.Grad

end
-- ==== Proof.Branch.lean ====
module

public import proofs.«01_k».proof.Proof.Compute

/-!
# What the parts of the program share

The buffers and semaphores that the parts are called with, and a branch followed by the rest of a program.
-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-- A part of the program at the buffers and semaphores of the kernel. -/
abbrev atArgs {β : Sort*} (f : (arg0 : Memref sig .tc .vmem S2048x2048 .f32) → arg0.IsWhole → (arg1 : Memref sig .tc .hbm S2048x8192 .f32) →
    arg1.IsWhole → (arg2 : Memref sig .tc .hbm S1024x8192 .f32) → arg2.IsWhole → (arg3 : Memref sig .tc .vmem S2048x1024 .f32) →
    arg3.IsWhole → (arg4 : Memref sig .tc .vmem S1024x1024 .f32) → arg4.IsWhole → (arg5 : Memref sig .tc .vmem S1024x1024 .f32) →
    arg5.IsWhole → (arg6 : Memref sig .tc .vmem S1024x1024 .f32) → arg6.IsWhole → DmaSems sig S2 → DmaSems sig S2 → DmaSems sig S4 →
    DmaSems sig S4 → DmaSems sig S4x2 → DmaSems sig S4x2 → DmaSems sig S3x2 → DmaSems sig S3x2 → DmaSems sig S3x2 → DmaSems sig S3x2 →
    DmaSems sig S_ → DmaSems sig S_ → DmaSems sig S_ → DmaSems sig S_ → β) : β :=
  f (Memref.whole cc0_stg0_0) (Memref.isWhole_whole _) (Memref.whole main_arg1) (Memref.isWhole_whole _) (Memref.whole main_v1)
    (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5
    cc0_scratch6 cc0_scratch7 cc0_scratch8 cc0_scratch9 cc0_scratch10 cc0_scratch11 cc0_scratch12 cc0_scratch13 cc0_scratch14 cc0_scratch15
    cc0_scratch16 cc0_scratch17

/-- The semaphore of a copy across `x` at its source. -/
theorem sem_x_s (b : Fin 4) (s : Fin 2) {off : Fin 2 → ℕ} (ho : off = ![b.val, s.val]) (inb : ∀ a, off a + S1x1.size a ≤ S4x2.size a) :
    ((cc0_scratch8.slice (Rect.unit (s := S4x2) off S1x1.size inb)).squeeze S_ squeezes_S1x1_S_).sem = ((Tr.x b s).sk : Fin 57) := by
  subst ho; revert b s; decide +kernel

/-- The semaphore of a copy across `x` at its destination. -/
theorem sem_x_r (b : Fin 4) (s : Fin 2) {off : Fin 2 → ℕ} (ho : off = ![b.val, s.val]) (inb : ∀ a, off a + S1x1.size a ≤ S4x2.size a) :
    ((cc0_scratch9.slice (Rect.unit (s := S4x2) off S1x1.size inb)).squeeze S_ squeezes_S1x1_S_).sem = ((Tr.x b s).rk : Fin 57) := by
  subst ho; revert b s; decide +kernel

/-- A branch followed by the rest `R` of the program. -/
theorem sim_branch {C P : Prop} [Decidable C] [Decidable P] (hiff : C ↔ P) {A : C → Prog (TpuEff nD τ sig (Elt F) Λ₀ .tc) α}
    {R : Prog (TpuEff nD τ sig (Elt F) Λ₀ .tc) α} {l₁ l₂ : List Op} {φ : α → Prop} (hR : Sim m K c R l₂ φ)
    (hA : ∀ h, Sim m K c R l₂ φ → Sim m K c (A h) (l₁ ++ l₂) φ) :
    Sim m K c (dite C A (fun _ => R)) (iff P l₁ ++ l₂) φ :=
  sim_dite hiff (fun h => hA h hR) fun _ => hR

/-- A branch that ends a program. -/
theorem sim_last {C P : Prop} [Decidable C] [Decidable P] (hiff : C ↔ P) {A : C → Prog (TpuEff nD τ sig (Elt F) Λ₀ .tc) α}
    {R : Prog (TpuEff nD τ sig (Elt F) Λ₀ .tc) α} {l₁ : List Op} {φ : α → Prop} (hR : Sim m K c R [] φ)
    (hA : ∀ h, Sim m K c R [] φ → Sim m K c (A h) l₁ φ) :
    Sim m K c (dite C A (fun _ => R)) (iff P l₁) φ := by
  have := sim_branch (l₁ := l₁) (l₂ := []) hiff hR (fun h hR => by rw [List.append_nil]; exact hA h hR)
  rwa [List.append_nil] at this

/-- A branch that is never taken and that the program does not have. -/
theorem sim_skip {P : Prop} [Decidable P] (h : ¬ P) {p : Prog (TpuEff nD τ sig (Elt F) Λ₀ .tc) α} {l₁ l₂ : List Op} {φ : α → Prop}
    (hp : Sim m K c p l₂ φ) : Sim m K c p (iff P l₁ ++ l₂) φ := by
  have : iff P l₁ = [] := if_neg h
  rw [this]
  exact hp

/-- Reading the device's own number. -/
theorem sim_dev {k : Dev nD → Prog (TpuEff nD τ sig (Elt F) Λ₀ .tc) α} {l : List Op} {φ : α → Prop} (hk : Sim m K c (k c) l φ) :
    Sim m K c (Prog.lift .deviceId >>= k) l φ := by
  intro S S' hr Q
  rw [lift_bind, WP, wp_deviceId]
  exact hk S S' hr Q

/-- A block that is passed on: it lies at the same columns of the result at both ends. -/
theorem sim_pass (t : Tr) {X : Fin 2} {b : ℕ} {s k : Fin 2} (hsk : t.act (zc c) = true → t.src (zc c) = .outF X b s k) {n : Dev nD}
    {sS sR : DmaSem sig} {off : Fin 2 → ℕ} (hf : n = t.dst c ∧ off = ![0, t.lo c]) (hS : sS = (t.sk : Fin 57)) (hR : sR = (t.rk : Fin 57))
    (inb inb' : ∀ a, off a + S1024x512.size a ≤ S1024x8192.size a) (hst hst') {hsc hsrc hdst hsem}
    {k' : PUnit → Prog (TpuEff nD τ sig (Elt F) Λ₀ .tc) α} {l : List Op} {φ : α → Prop} (hk : Sim m K c (k' ⟨⟩) l φ) :
    Sim m K c (Prog.lift (.enqueueDma ((Memref.whole main_v1 : Memref sig .tc .hbm S1024x8192 .f32).slice
        (Rect.unit (s := S1024x8192) off S1024x512.size inb) hst)
      (.remote (n : Thread nD τ) ((Memref.whole main_v1 : Memref sig .tc .hbm S1024x8192 .f32).slice
        (Rect.unit (s := S1024x8192) off S1024x512.size inb') hst') (.dma sS) hsc) (.dma sR) hsrc hdst hsem) >>= k') (.send t :: l) φ :=
  sim_send t hf.1 hS hR (sendOK_out t X b s k hsk (fun _ => hf.2) inb hst (fun _ => hf.2) inb' hst') hk

/-- A block that came along the line, passed on across `x`. -/
theorem sim_x (b : Fin 4) (s : Fin 2) {n : Dev nD} {off os : Fin 2 → ℕ}
    (hf : n = nb c 0 ∧ os = ![b.val, s.val] ∧ off = ![0, (Tr.x b s).lo c] ∧ b.val ≠ zc c)
    (ins ins' : ∀ a, os a + S1x1.size a ≤ S4x2.size a)
    (inb inb' : ∀ a, off a + S1024x512.size a ≤ S1024x8192.size a) (hst hst') {hsc hsrc hdst hsem}
    {k' : PUnit → Prog (TpuEff nD τ sig (Elt F) Λ₀ .tc) α} {l : List Op} {φ : α → Prop} (hk : Sim m K c (k' ⟨⟩) l φ) :
    Sim m K c (Prog.lift (.enqueueDma ((Memref.whole main_v1 : Memref sig .tc .hbm S1024x8192 .f32).slice
        (Rect.unit (s := S1024x8192) off S1024x512.size inb) hst)
      (.remote (n : Thread nD τ) ((Memref.whole main_v1 : Memref sig .tc .hbm S1024x8192 .f32).slice
        (Rect.unit (s := S1024x8192) off S1024x512.size inb') hst')
        (.dma ((cc0_scratch8.slice (Rect.unit (s := S4x2) os S1x1.size ins)).squeeze S_ squeezes_S1x1_S_).sem) hsc)
        (.dma ((cc0_scratch9.slice (Rect.unit (s := S4x2) os S1x1.size ins')).squeeze S_ squeezes_S1x1_S_).sem) hsrc hdst hsem) >>= k')
      (.send (.x b s) :: l) φ :=
  sim_pass (.x b s) (X := 0) (b := b.val) (s := s) (k := 0) (fun _ => if_neg hf.2.2.2) ⟨hf.1, hf.2.2.1⟩ (sem_x_s b s hf.2.1 ins)
    (sem_x_r b s hf.2.1 ins') inb inb' hst hst' hk

/-- A half of the own sum, sent to a neighbour. -/
theorem sim_own (t : Tr) (s : Fin 2) {k : Fin 4} (hsk : t.act (zc c) = true → t.src (zc c) = .pmS s k) {n : Dev nD}
    {sS sR : DmaSem sig} {off os : Fin 2 → ℕ} (hf : n = t.dst c ∧ off = ![0, t.lo c]) (hos : os = ![0, 512 * s.val])
    (hS : sS = (t.sk : Fin 57)) (hR : sR = (t.rk : Fin 57))
    (inb : ∀ a, os a + S1024x512.size a ≤ S1024x1024.size a) (inb' : ∀ a, off a + S1024x512.size a ≤ S1024x8192.size a)
    (hst hst') {hsc hsrc hdst hsem}
    {k' : PUnit → Prog (TpuEff nD τ sig (Elt F) Λ₀ .tc) α} {l : List Op} {φ : α → Prop} (hk : Sim m K c (k' ⟨⟩) l φ) :
    Sim m K c (Prog.lift (.enqueueDma ((Memref.whole cc0_scratch2 : Memref sig .tc .vmem S1024x1024 .f32).slice
        (Rect.unit (s := S1024x1024) os S1024x512.size inb) hst)
      (.remote (n : Thread nD τ) ((Memref.whole main_v1 : Memref sig .tc .hbm S1024x8192 .f32).slice
        (Rect.unit (s := S1024x8192) off S1024x512.size inb') hst') (.dma sS) hsc) (.dma sR) hsrc hdst hsem) >>= k') (.send t :: l) φ :=
  sim_send t hf.1 hS hR (sendOK_pm t s k hsk hos inb hst (fun _ => hf.2) inb' hst') hk

theorem fm4_zc : ∀ c : Dev nD, (fm 4 (zc c)).val = zc c := by decide +kernel

/-- A half of the own sum, sent across `x`. -/
theorem sim_own_x (s : Fin 2) {n : Dev nD} {off os oc : Fin 2 → ℕ}
    (hf : n = nb c 0 ∧ os = ![(fm 4 (zc c)).val, s.val] ∧ off = ![0, (Tr.x (fm 4 (zc c)) s).lo c]) (hoc : oc = ![0, 512 * s.val])
    (ins ins' : ∀ a, os a + S1x1.size a ≤ S4x2.size a)
    (inb : ∀ a, oc a + S1024x512.size a ≤ S1024x1024.size a) (inb' : ∀ a, off a + S1024x512.size a ≤ S1024x8192.size a)
    (hst hst') {hsc hsrc hdst hsem}
    {k' : PUnit → Prog (TpuEff nD τ sig (Elt F) Λ₀ .tc) α} {l : List Op} {φ : α → Prop} (hk : Sim m K c (k' ⟨⟩) l φ) :
    Sim m K c (Prog.lift (.enqueueDma ((Memref.whole cc0_scratch2 : Memref sig .tc .vmem S1024x1024 .f32).slice
        (Rect.unit (s := S1024x1024) oc S1024x512.size inb) hst)
      (.remote (n : Thread nD τ) ((Memref.whole main_v1 : Memref sig .tc .hbm S1024x8192 .f32).slice
        (Rect.unit (s := S1024x8192) off S1024x512.size inb') hst')
        (.dma ((cc0_scratch8.slice (Rect.unit (s := S4x2) os S1x1.size ins)).squeeze S_ squeezes_S1x1_S_).sem) hsc)
        (.dma ((cc0_scratch9.slice (Rect.unit (s := S4x2) os S1x1.size ins')).squeeze S_ squeezes_S1x1_S_).sem) hsrc hdst hsem) >>= k')
      (.send (.x (fm 4 (zc c)) s) :: l) φ :=
  sim_own (.x (fm 4 (zc c)) s) s (k := 1) (fun _ => if_pos (fm4_zc c)) ⟨hf.1, hf.2.2⟩ hoc (sem_x_s _ s hf.2.1 ins)
    (sem_x_r _ s hf.2.1 ins') inb inb' hst hst' hk

/-- The copy across `x` that ends the first half of a hop to the left. -/
theorem sim_crossL (h : Fin 3) {C : Prop} [Decidable C] (hiff : C ↔ zc c + 1 + h.val ≠ 0 ∧ zc c + 1 + h.val ≠ 3)
    {A : C → Prog (TpuEff nD τ sig (Elt F) Λ₀ .tc) α}
    {R : Prog (TpuEff nD τ sig (Elt F) Λ₀ .tc) α} {φ : α → Prop} (hR : Sim m K c R [] φ)
    (hA : ∀ h', Sim m K c R [] φ → Sim m K c (A h') [.send (xup (zc c) (1 + h.val) 0)] φ) :
    Sim m K c (dite C A (fun _ => R)) (iff (zc c + 1 + h.val ≠ 0 ∧ zc c + 1 + h.val ≠ 3) [.send (xup (zc c) (1 + h.val) 0)]) φ :=
  sim_last hiff hR hA

/-- A hop of the line in the direction of increasing `z`, followed by the rest `R` of the program. -/
theorem sim_hopR {h : Fin 3} {C : Prop} [Decidable C] (hiff : C ↔ 0 < zc c ∧ h.val ≤ zc c - 1)
    {A : C → Prog (TpuEff nD τ sig (Elt F) Λ₀ .tc) α}
    {R : Prog (TpuEff nD τ sig (Elt F) Λ₀ .tc) α} {l : List Op} {φ : α → Prop} (hR : Sim m K c R l φ)
    (hA : ∀ h', Sim m K c R l φ → Sim m K c (A h') (opsR0 (zc c) h ++ (wR (.zr h 1) ::
      (iff (h.val < 2 ∧ zc c < 3) [.send (.zr (fm 3 (h.val + 1)) 1)] ++ (.send (xdn (zc c) (1 + h.val) 1) :: l)))) φ) :
    Sim m K c (dite C A (fun _ => R)) (opsR (zc c) h ++ l) φ := by
  refine sim_branch hiff hR fun h' hR => ?_
  have := hA h' hR
  simpa only [List.append_assoc, List.cons_append, List.nil_append] using this

/-- A hop of the line in the direction of decreasing `z`, followed by the rest `R` of the program. -/
theorem sim_hopL {h : Fin 3} {C : Prop} [Decidable C] (hiff : C ↔ zc c < 3 ∧ zc c + 1 + h.val ≤ 3)
    {A : C → Prog (TpuEff nD τ sig (Elt F) Λ₀ .tc) α}
    {R : Prog (TpuEff nD τ sig (Elt F) Λ₀ .tc) α} {l : List Op} {φ : α → Prop} (hR : Sim m K c R l φ)
    (hA : ∀ h', Sim m K c R l φ → Sim m K c (A h') (opsL0 (zc c) h ++ (wR (.zl h 1) ::
      (iff (h.val < 2 ∧ 0 < zc c) [.send (.zl (fm 3 (h.val + 1)) 1)] ++ (.send (xup (zc c) (1 + h.val) 1) :: l)))) φ) :
    Sim m K c (dite C A (fun _ => R)) (opsL (zc c) h ++ l) φ := by
  refine sim_branch hiff hR fun h' hR => ?_
  have := hA h' hR
  simpa only [List.append_assoc, List.cons_append, List.nil_append] using this

end Cert.KernelIdeal.Grad

end
-- ==== Proof.Front.lean ====
module

public import proofs.«01_k».proof.Proof.Branch

/-!
# The program up to the first whole block of the result
-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-- The signals on the barrier. -/
theorem sim_part7 : Sim m K c (atArgs (k0_part7 (F := F))) (ops7 (zc c))
    (fun a => a.1 = c ∧ a.2.2.2.2.2.2.2.2.2.2.2 = SemArray.scalar (sig.barrier 0 rfl)) := by
  rw [k0_part7_eq_skeleton]
  unfold atArgs k0_part7_skel ops7
  refine sim_dev ?_
  refine sim_sig 0 rfl ((by decide +kernel : ∀ c : Dev nD, (⟨k0_dev1 c, k0_dev1_lt c⟩ : Dev nD) = nb c 0) c) ?_
  refine sim_sig 1 rfl ((by decide +kernel : ∀ c : Dev nD, (⟨k0_dev2 c, k0_dev2_lt c⟩ : Dev nD) = nb c 1) c) ?_
  refine sim_last ((by decide +kernel : ∀ c : Dev nD, k0_cond1 c = 1#1 ↔ 0 < zc c) c) ?_ fun h hR => ?_
  · exact sim_pure ⟨rfl, rfl⟩
  · exact sim_sig 2 rfl ((by decide +kernel : ∀ c : Dev nD, ∀ h : k0_cond1 c = 1#1, (⟨k0_dev3 c, k0_dev3_lt c h⟩ : Dev nD) = nb c 2) c h) hR

/-- The last signal, the copies of the own columns of the second factor, and the first product. -/
theorem sim_part8 (v2 v5 v10 : BitVec 32) (v12 : BitVec 1) (v15 : BitVec 32) (v17 : Sems sig S_)
    (hv : v17 = SemArray.scalar (sig.barrier 0 rfl)) :
    Sim m K c (atArgs (k0_part8 (F := F)) c v2 v5 v10 v12 v15 v17) (ops8 (zc c)) (fun _ => True) := by
  subst hv
  rw [k0_part8_eq_skeleton]
  unfold atArgs k0_part8_skel ops8
  refine sim_branch ((by decide +kernel : ∀ c : Dev nD, k0_cond2 c = 1#1 ↔ zc c < 3) c) ?_ fun h hR => ?_
  · refine sim_cin 0 ((by decide +kernel : ∀ c : Dev nD, k0_off1 c 0#32 = ![0, own c + 512 * (0 : Fin 2).val]) c) _ _ rfl _ _ rfl ?_
    refine sim_cin 1 ((by decide +kernel : ∀ c : Dev nD, k0_off1 c 512#32 = ![0, own c + 512 * (1 : Fin 2).val]) c) _ _ rfl _ _ rfl ?_
    refine sim_wait _ rfl rfl ?_
    refine sim_pp 0 ((by decide +kernel : ∀ c : Dev nD, k0_off2 c = ![0, 1024 - 1024 * yc c]) c) _ rfl _ rfl _ rfl ?_
    exact sim_pure trivial
  · exact sim_sig 3 rfl ((by decide +kernel : ∀ c : Dev nD, ∀ h : k0_cond2 c = 1#1, (⟨k0_dev4 c, k0_dev4_lt c h⟩ : Dev nD) = nb c 3) c h) hR

/-- The wait on the barrier; the first piece goes across `y`, and the second is computed. -/
theorem sim_part9 (v2 v8 : BitVec 32) (v11 v12 : BitVec 1) (v14 : BitVec 32) (v17 : Sems sig S_) (v47 : BitVec 32)
    (hv : v17 = SemArray.scalar (sig.barrier 0 rfl)) :
    Sim m K c (atArgs (k0_part9 (F := F)) c v2 v8 v11 v12 v14 v17 v47) ops9 (fun _ => True) := by
  subst hv
  rw [k0_part9_eq_skeleton]
  unfold atArgs k0_part9_skel ops9
  refine sim_bar rfl (k0_amt1_eq c) ?_
  refine sim_send (.y 0) ((by decide +kernel : ∀ c : Dev nD, (⟨k0_dev5 c, k0_dev5_lt c⟩ : Dev nD) = (Tr.y 0).dst c) c) rfl rfl
    (sendOK_y 0 rfl _ _ rfl _ _) ?_
  refine sim_pp 1 ((by decide +kernel : ∀ c : Dev nD, k0_off2 c = ![0, 1024 - 1024 * yc c]) c) _ rfl _ rfl _ rfl ?_
  exact sim_pure trivial

/-- The second piece goes across `y`; the first half of the own product; the first piece arrives. -/
theorem sim_part10 (v2 v8 v14 v48 : BitVec 32) :
    Sim m K c (atArgs (k0_part10 (F := F)) c v2 v8 v14 v48) ops10 (fun _ => True) := by
  rw [k0_part10_eq_skeleton]
  unfold atArgs k0_part10_skel ops10
  refine sim_send (.y 1) ((by decide +kernel : ∀ c : Dev nD, (⟨k0_dev6 c, k0_dev6_lt c⟩ : Dev nD) = (Tr.y 1).dst c) c) rfl rfl
    (sendOK_y 1 rfl _ _ rfl _ _) ?_
  refine sim_pm 0 ((by decide +kernel : ∀ c : Dev nD, k0_off3 c = ![0, 1024 * yc c]) c) _ rfl _ rfl _ rfl ?_
  refine sim_wait _ rfl rfl ?_
  refine sim_wait _ rfl rfl ?_
  exact sim_pure trivial

/-- The second piece arrives; the first half of the sum, and its copy into the result. -/
theorem sim_part11 (v2 v8 v14 : BitVec 32) :
    Sim m K c (atArgs (k0_part11 (F := F)) c v2 v8 v14) ops11 (fun _ => True) := by
  rw [k0_part11_eq_skeleton]
  unfold atArgs k0_part11_skel ops11
  refine sim_wait _ rfl rfl ?_
  refine sim_wait _ rfl rfl ?_
  refine sim_add 0 rfl _ rfl _ rfl ?_
  refine sim_cst 0 rfl _ _ ((by decide +kernel : ∀ c : Dev nD, k0_off4 c 0#32 = ![0, own c + 512 * (0 : Fin 2).val]) c) _ _ rfl ?_
  exact sim_pure trivial

/-- The first half of the sum goes across `x` and along the line; the third product. -/
theorem sim_part12 (v2 v5 v8 : BitVec 32) (v11 v12 : BitVec 1) (v13 v15 v16 v47 v147 : BitVec 32) :
    Sim m K c (atArgs (k0_part12 (F := F)) c v2 v5 v8 v11 v12 v13 v15 v16 v47 v147) (ops12 (zc c)) (fun _ => True) := by
  rw [k0_part12_eq_skeleton]
  unfold atArgs k0_part12_skel ops12
  refine sim_own_x 0 ((by decide +kernel : ∀ c : Dev nD, (⟨k0_dev7 c, k0_dev7_lt c⟩ : Dev nD) = nb c 0
    ∧ k0_off5 c = ![(fm 4 (zc c)).val, 0] ∧ k0_off4 c 0#32 = ![0, (Tr.x (fm 4 (zc c)) 0).lo c]) c) rfl _ _ _ _ _ _ ?_
  refine sim_branch ((by decide +kernel : ∀ c : Dev nD, k0_cond3 c = 1#1 ↔ zc c < 3) c) ?_ fun h hR => ?_
  · refine sim_branch ((by decide +kernel : ∀ c : Dev nD, k0_cond4 c = 1#1 ↔ 0 < zc c) c) ?_ fun h hR => ?_
    · refine sim_wait _ rfl rfl ?_
      refine sim_pp 2 ((by decide +kernel : ∀ c : Dev nD, k0_off2 c = ![0, 1024 - 1024 * yc c]) c) _ rfl _ rfl _ rfl ?_
      exact sim_pure trivial
    · exact sim_own (.zl 0 0) 0 (fun _ => rfl) ((by decide +kernel : ∀ c : Dev nD, ∀ h : k0_cond4 c = 1#1,
        (⟨k0_dev9 c, k0_dev9_lt c h⟩ : Dev nD) = (Tr.zl 0 0).dst c ∧ k0_off7 c = ![0, (Tr.zl 0 0).lo c]) c h) rfl rfl rfl _ _ _ _ hR
  · exact sim_own (.zr 0 0) 0 (fun _ => rfl) ((by decide +kernel : ∀ c : Dev nD, ∀ h : k0_cond3 c = 1#1,
      (⟨k0_dev8 c, k0_dev8_lt c h⟩ : Dev nD) = (Tr.zr 0 0).dst c ∧ k0_off6 c = ![0, (Tr.zr 0 0).lo c]) c h) rfl rfl rfl _ _ _ _ hR

/-- The last two pieces go across `y`. -/
theorem sim_part13 (v2 v8 v14 v47 : BitVec 32) :
    Sim m K c (atArgs (k0_part13 (F := F)) c v2 v8 v14 v47) ops13 (fun _ => True) := by
  rw [k0_part13_eq_skeleton]
  unfold atArgs k0_part13_skel ops13
  refine sim_send (.y 2) ((by decide +kernel : ∀ c : Dev nD, (⟨k0_dev10 c, k0_dev10_lt c⟩ : Dev nD) = (Tr.y 2).dst c) c) rfl rfl
    (sendOK_y 2 rfl _ _ rfl _ _) ?_
  refine sim_pp 3 ((by decide +kernel : ∀ c : Dev nD, k0_off2 c = ![0, 1024 - 1024 * yc c]) c) _ rfl _ rfl _ rfl ?_
  refine sim_send (.y 3) ((by decide +kernel : ∀ c : Dev nD, (⟨k0_dev11 c, k0_dev11_lt c⟩ : Dev nD) = (Tr.y 3).dst c) c) rfl rfl
    (sendOK_y 3 rfl _ _ rfl _ _) ?_
  exact sim_pure trivial

/-- The second half of the own product; the third piece arrives. -/
theorem sim_part14 (v2 v8 v14 v48 : BitVec 32) :
    Sim m K c (atArgs (k0_part14 (F := F)) c v2 v8 v14 v48) ops14 (fun _ => True) := by
  rw [k0_part14_eq_skeleton]
  unfold atArgs k0_part14_skel ops14
  refine sim_pm 1 ((by decide +kernel : ∀ c : Dev nD, k0_off3 c = ![0, 1024 * yc c]) c) _ rfl _ rfl _ rfl ?_
  refine sim_wait _ rfl rfl ?_
  refine sim_wait _ rfl rfl ?_
  refine sim_wait _ rfl rfl ?_
  exact sim_pure trivial

/-- The last piece arrives; the second half of the sum, and its copy into the result. -/
theorem sim_part15 (v2 v8 v14 : BitVec 32) :
    Sim m K c (atArgs (k0_part15 (F := F)) c v2 v8 v14) ops15 (fun _ => True) := by
  rw [k0_part15_eq_skeleton]
  unfold atArgs k0_part15_skel ops15
  refine sim_wait _ rfl rfl ?_
  refine sim_add 1 rfl _ rfl _ rfl ?_
  refine sim_cst 1 rfl _ _ ((by decide +kernel : ∀ c : Dev nD, k0_off4 c 512#32 = ![0, own c + 512 * (1 : Fin 2).val]) c) _ _ rfl ?_
  exact sim_pure trivial

end Cert.KernelIdeal.Grad

end
-- ==== Proof.Hops.lean ====
module

public import proofs.«01_k».proof.Proof.Branch

/-!
# The first half of each hop along the line
-/

@[expose] public section

set_option maxRecDepth 8192
set_option maxHeartbeats 2000000

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-- The first hop to the right, first half. -/
theorem sim_part1 (v2 v5 v8 : BitVec 32) (v12 : BitVec 1) (v13 v15 v16 v282 : BitVec 32) (h7 : k0_cond7 c = 1#1) :
    Sim m K c (atArgs (k0_part1 (F := F)) c v2 v5 v8 v12 v13 v15 v16 v282 h7) (opsR0 (zc c) 0) (fun _ => True) := by
  rw [k0_part1_eq_skeleton]
  unfold atArgs k0_part1_skel opsR0
  refine sim_wait _ rfl rfl ?_
  refine sim_branch ((by decide +kernel : ∀ c : Dev nD, k0_cond8 c = 1#1 ↔ (0 : Fin 3).val < 2 ∧ zc c < 3) c) ?_ fun h8 hR => ?_
  · refine sim_last ((by decide +kernel : ∀ c : Dev nD, k0_cond7 c = 1#1 →
      (k0_cond9 c = 1#1 ↔ zc c - 1 - (0 : Fin 3).val ≠ 0 ∧ zc c - 1 - (0 : Fin 3).val ≠ 3)) c h7) ?_ fun h9 hR => ?_
    · exact sim_pure trivial
    · exact sim_x _ 0 ((by decide +kernel : ∀ c : Dev nD, ∀ h7 : k0_cond7 c = 1#1, ∀ h9 : k0_cond9 c = 1#1,
        (⟨k0_dev16 c, k0_dev16_lt c h7 h9⟩ : Dev nD) = nb c 0 ∧ k0_off13 c = ![(fm 4 (zc c - (1 + (0 : Fin 3).val))).val, 0]
          ∧ k0_off14 c = ![0, (xdn (zc c) (1 + (0 : Fin 3).val) 0).lo c] ∧ (fm 4 (zc c - (1 + (0 : Fin 3).val))).val ≠ zc c) c h7 h9) _ _ _ _ _ _ hR
  · exact sim_pass (.zr 1 0) (fun _ => rfl) ((by decide +kernel : ∀ c : Dev nD, ∀ h7 : k0_cond7 c = 1#1, ∀ h8 : k0_cond8 c = 1#1,
      (⟨k0_dev15 c, k0_dev15_lt c h7 h8⟩ : Dev nD) = (Tr.zr 1 0).dst c ∧ k0_off12 c = ![0, (Tr.zr 1 0).lo c]) c h7 h8) rfl rfl _ _ _ _ hR

/-- The first hop to the left, first half. -/
theorem sim_part2 (v2 v5 v8 : BitVec 32) (v11 : BitVec 1) (v13 v15 v16 v284 : BitVec 32) (h11 : k0_cond11 c = 1#1) :
    Sim m K c (atArgs (k0_part2 (F := F)) c v2 v5 v8 v11 v13 v15 v16 v284 h11) (opsL0 (zc c) 0) (fun _ => True) := by
  rw [k0_part2_eq_skeleton]
  unfold atArgs k0_part2_skel opsL0
  refine sim_wait _ rfl rfl ?_
  refine sim_branch ((by decide +kernel : ∀ c : Dev nD, k0_cond12 c = 1#1 ↔ (0 : Fin 3).val < 2 ∧ 0 < zc c) c) ?_ fun h12 hR => ?_
  · refine sim_crossL 0 ((by decide +kernel : ∀ c : Dev nD, k0_cond11 c = 1#1 →
      (k0_cond13 c = 1#1 ↔ zc c + 1 + (0 : Fin 3).val ≠ 0 ∧ zc c + 1 + (0 : Fin 3).val ≠ 3)) c h11) ?_ fun h13 hR => ?_
    · exact sim_pure trivial
    · exact sim_x _ 0 ((by decide +kernel : ∀ c : Dev nD, ∀ h11 : k0_cond11 c = 1#1, ∀ h13 : k0_cond13 c = 1#1,
        (⟨k0_dev20 c, k0_dev20_lt c h11 h13⟩ : Dev nD) = nb c 0 ∧ k0_off19 c = ![(fm 4 (zc c + (1 + (0 : Fin 3).val))).val, 0]
          ∧ k0_off20 c = ![0, (xup (zc c) (1 + (0 : Fin 3).val) 0).lo c] ∧ (fm 4 (zc c + (1 + (0 : Fin 3).val))).val ≠ zc c) c h11 h13) _ _ _ _ _ _ hR
  · exact sim_pass (.zl 1 0) (fun _ => rfl) ((by decide +kernel : ∀ c : Dev nD, ∀ h11 : k0_cond11 c = 1#1, ∀ h12 : k0_cond12 c = 1#1,
      (⟨k0_dev19 c, k0_dev19_lt c h11 h12⟩ : Dev nD) = (Tr.zl 1 0).dst c ∧ k0_off18 c = ![0, (Tr.zl 1 0).lo c]) c h11 h12) rfl rfl _ _ _ _ hR

/-- The second hop to the right, first half. -/
theorem sim_part3 (v2 v5 v8 : BitVec 32) (v12 : BitVec 1) (v13 v15 v16 v306 : BitVec 32) (h19 : k0_cond19 c = 1#1) :
    Sim m K c (atArgs (k0_part3 (F := F)) c v2 v5 v8 v12 v13 v15 v16 v306 h19) (opsR0 (zc c) 1) (fun _ => True) := by
  rw [k0_part3_eq_skeleton]
  unfold atArgs k0_part3_skel opsR0
  refine sim_wait _ rfl rfl ?_
  refine sim_branch ((by decide +kernel : ∀ c : Dev nD, k0_cond20 c = 1#1 ↔ (1 : Fin 3).val < 2 ∧ zc c < 3) c) ?_ fun h20 hR => ?_
  · refine sim_last ((by decide +kernel : ∀ c : Dev nD, k0_cond19 c = 1#1 →
      (k0_cond21 c = 1#1 ↔ zc c - 1 - (1 : Fin 3).val ≠ 0 ∧ zc c - 1 - (1 : Fin 3).val ≠ 3)) c h19) ?_ fun h21 hR => ?_
    · exact sim_pure trivial
    · exact sim_x _ 0 ((by decide +kernel : ∀ c : Dev nD, ∀ h19 : k0_cond19 c = 1#1, ∀ h21 : k0_cond21 c = 1#1,
        (⟨k0_dev28 c, k0_dev28_lt c h19 h21⟩ : Dev nD) = nb c 0 ∧ k0_off31 c = ![(fm 4 (zc c - (1 + (1 : Fin 3).val))).val, 0]
          ∧ k0_off32 c = ![0, (xdn (zc c) (1 + (1 : Fin 3).val) 0).lo c] ∧ (fm 4 (zc c - (1 + (1 : Fin 3).val))).val ≠ zc c) c h19 h21) _ _ _ _ _ _ hR
  · exact sim_pass (.zr 2 0) (fun _ => rfl) ((by decide +kernel : ∀ c : Dev nD, ∀ h19 : k0_cond19 c = 1#1, ∀ h20 : k0_cond20 c = 1#1,
      (⟨k0_dev27 c, k0_dev27_lt c h19 h20⟩ : Dev nD) = (Tr.zr 2 0).dst c ∧ k0_off30 c = ![0, (Tr.zr 2 0).lo c]) c h19 h20) rfl rfl _ _ _ _ hR

/-- The second hop to the left, first half. -/
theorem sim_part4 (v2 v5 v8 : BitVec 32) (v11 : BitVec 1) (v13 v15 v16 v308 : BitVec 32) (h23 : k0_cond23 c = 1#1) :
    Sim m K c (atArgs (k0_part4 (F := F)) c v2 v5 v8 v11 v13 v15 v16 v308 h23) (opsL0 (zc c) 1) (fun _ => True) := by
  rw [k0_part4_eq_skeleton]
  unfold atArgs k0_part4_skel opsL0
  refine sim_wait _ rfl rfl ?_
  refine sim_branch ((by decide +kernel : ∀ c : Dev nD, k0_cond24 c = 1#1 ↔ (1 : Fin 3).val < 2 ∧ 0 < zc c) c) ?_ fun h24 hR => ?_
  · refine sim_crossL 1 ((by decide +kernel : ∀ c : Dev nD, k0_cond23 c = 1#1 →
      (k0_cond25 c = 1#1 ↔ zc c + 1 + (1 : Fin 3).val ≠ 0 ∧ zc c + 1 + (1 : Fin 3).val ≠ 3)) c h23) ?_ fun h25 hR => ?_
    · exact sim_pure trivial
    · exact sim_x _ 0 ((by decide +kernel : ∀ c : Dev nD, ∀ h23 : k0_cond23 c = 1#1, ∀ h25 : k0_cond25 c = 1#1,
        (⟨k0_dev32 c, k0_dev32_lt c h23 h25⟩ : Dev nD) = nb c 0 ∧ k0_off37 c = ![(fm 4 (zc c + (1 + (1 : Fin 3).val))).val, 0]
          ∧ k0_off38 c = ![0, (xup (zc c) (1 + (1 : Fin 3).val) 0).lo c] ∧ (fm 4 (zc c + (1 + (1 : Fin 3).val))).val ≠ zc c) c h23 h25) _ _ _ _ _ _ hR
  · exact sim_pass (.zl 2 0) (fun _ => rfl) ((by decide +kernel : ∀ c : Dev nD, ∀ h23 : k0_cond23 c = 1#1, ∀ h24 : k0_cond24 c = 1#1,
      (⟨k0_dev31 c, k0_dev31_lt c h23 h24⟩ : Dev nD) = (Tr.zl 2 0).dst c ∧ k0_off36 c = ![0, (Tr.zl 2 0).lo c]) c h23 h24) rfl rfl _ _ _ _ hR

/-- The last hop to the right, first half: nothing goes further along the line. -/
theorem sim_part5 (v2 v5 v8 v13 v16 v324 : BitVec 32) (h29 : k0_cond29 c = 1#1) :
    Sim m K c (atArgs (k0_part5 (F := F)) c v2 v5 v8 v13 v16 v324 h29) (opsR0 (zc c) 2) (fun _ => True) := by
  rw [k0_part5_eq_skeleton]
  unfold atArgs k0_part5_skel opsR0
  refine sim_wait _ rfl rfl ?_
  refine sim_skip (by simp) ?_
  refine sim_last ((by decide +kernel : ∀ c : Dev nD, k0_cond29 c = 1#1 →
      (k0_cond30 c = 1#1 ↔ zc c - 1 - (2 : Fin 3).val ≠ 0 ∧ zc c - 1 - (2 : Fin 3).val ≠ 3)) c h29) ?_ fun h30 hR => ?_
  · exact sim_pure trivial
  · exact sim_x _ 0 ((by decide +kernel : ∀ c : Dev nD, ∀ h29 : k0_cond29 c = 1#1, ∀ h30 : k0_cond30 c = 1#1,
        (⟨k0_dev37 c, k0_dev37_lt c h29 h30⟩ : Dev nD) = nb c 0 ∧ k0_off44 c = ![(fm 4 (zc c - (1 + (2 : Fin 3).val))).val, 0]
          ∧ k0_off45 c = ![0, (xdn (zc c) (1 + (2 : Fin 3).val) 0).lo c] ∧ (fm 4 (zc c - (1 + (2 : Fin 3).val))).val ≠ zc c) c h29 h30) _ _ _ _ _ _ hR

/-- The last hop to the left, first half. -/
theorem sim_part6 (v2 v5 v8 v13 v15 v326 : BitVec 32) (h31 : k0_cond31 c = 1#1) :
    Sim m K c (atArgs (k0_part6 (F := F)) c v2 v5 v8 v13 v15 v326 h31) (opsL0 (zc c) 2) (fun _ => True) := by
  rw [k0_part6_eq_skeleton]
  unfold atArgs k0_part6_skel opsL0
  refine sim_wait _ rfl rfl ?_
  refine sim_skip (by simp) ?_
  refine sim_crossL 2 ((by decide +kernel : ∀ c : Dev nD, k0_cond31 c = 1#1 →
      (k0_cond32 c = 1#1 ↔ zc c + 1 + (2 : Fin 3).val ≠ 0 ∧ zc c + 1 + (2 : Fin 3).val ≠ 3)) c h31) ?_ fun h32 hR => ?_
  · exact sim_pure trivial
  · exact sim_x _ 0 ((by decide +kernel : ∀ c : Dev nD, ∀ h31 : k0_cond31 c = 1#1, ∀ h32 : k0_cond32 c = 1#1,
        (⟨k0_dev39 c, k0_dev39_lt c h31 h32⟩ : Dev nD) = nb c 0 ∧ k0_off48 c = ![(fm 4 (zc c + (1 + (2 : Fin 3).val))).val, 0]
          ∧ k0_off49 c = ![0, (xup (zc c) (1 + (2 : Fin 3).val) 0).lo c] ∧ (fm 4 (zc c + (1 + (2 : Fin 3).val))).val ≠ zc c) c h31 h32) _ _ _ _ _ _ hR

end Cert.KernelIdeal.Grad

end
-- ==== Proof.Line.lean ====
module

public import proofs.«01_k».proof.Proof.Hops

/-!
# The copies along the line and across `x`
-/

@[expose] public section

set_option maxRecDepth 8192
set_option maxHeartbeats 2000000

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-- The second half of the sum is sent; the first hops along the line. -/
theorem sim_part16 (v2 v5 v8 : BitVec 32) (v11 v12 : BitVec 1) (v13 v15 v16 v0 : BitVec 32) :
    Sim m K c (atArgs (k0_part16 (F := F)) c v2 v5 v8 v11 v12 v13 v15 v16 v0) (ops16 (zc c)) (fun _ => True) := by
  rw [k0_part16_eq_skeleton]
  unfold atArgs k0_part16_skel ops16
  refine sim_own_x 1 ((by decide +kernel : ∀ c : Dev nD, (⟨k0_dev12 c, k0_dev12_lt c⟩ : Dev nD) = nb c 0
    ∧ k0_off8 c = ![(fm 4 (zc c)).val, 1] ∧ k0_off4 c 512#32 = ![0, (Tr.x (fm 4 (zc c)) 1).lo c]) c) rfl _ _ _ _ _ _ ?_
  refine sim_branch ((by decide +kernel : ∀ c : Dev nD, k0_cond5 c = 1#1 ↔ zc c < 3) c) ?_ fun h hR => ?_
  swap
  · exact sim_own (.zr 0 1) 1 (fun _ => rfl) ((by decide +kernel : ∀ c : Dev nD, ∀ h : k0_cond5 c = 1#1,
      (⟨k0_dev13 c, k0_dev13_lt c h⟩ : Dev nD) = (Tr.zr 0 1).dst c ∧ k0_off9 c = ![0, (Tr.zr 0 1).lo c]) c h) rfl rfl rfl _ _ _ _ hR
  refine sim_branch ((by decide +kernel : ∀ c : Dev nD, k0_cond6 c = 1#1 ↔ 0 < zc c) c) ?_ fun h hR => ?_
  swap
  · exact sim_own (.zl 0 1) 1 (fun _ => rfl) ((by decide +kernel : ∀ c : Dev nD, ∀ h : k0_cond6 c = 1#1,
      (⟨k0_dev14 c, k0_dev14_lt c h⟩ : Dev nD) = (Tr.zl 0 1).dst c ∧ k0_off10 c = ![0, (Tr.zl 0 1).lo c]) c h) rfl rfl rfl _ _ _ _ hR
  refine sim_hopR ((by decide +kernel : ∀ c : Dev nD, k0_cond7 c = 1#1 ↔ 0 < zc c ∧ (0 : Fin 3).val ≤ zc c - 1) c) ?_ fun h7 hR => ?_
  swap
  · refine sim_bind (sim_part1 _ _ _ _ _ _ _ _ h7) ?_
    rintro ⟨a, b⟩ -
    refine sim_wait _ rfl rfl ?_
    refine sim_branch ((by decide +kernel : ∀ c : Dev nD, k0_cond10 c = 1#1 ↔ (0 : Fin 3).val < 2 ∧ zc c < 3) c) ?_ fun h10 hR => ?_
    · exact sim_x _ 1 ((by decide +kernel : ∀ c : Dev nD, ∀ h7 : k0_cond7 c = 1#1,
        (⟨k0_dev18 c, k0_dev18_lt c h7⟩ : Dev nD) = nb c 0 ∧ k0_off16 c = ![(fm 4 (zc c - (1 + (0 : Fin 3).val))).val, 1]
          ∧ k0_off11 c 512#32 = ![0, (xdn (zc c) (1 + (0 : Fin 3).val) 1).lo c] ∧ (fm 4 (zc c - (1 + (0 : Fin 3).val))).val ≠ zc c) c h7) _ _ _ _ _ _ hR
    · exact sim_pass (.zr 1 1) (fun _ => rfl) ((by decide +kernel : ∀ c : Dev nD, ∀ h7 : k0_cond7 c = 1#1, ∀ h10 : k0_cond10 c = 1#1,
        (⟨k0_dev17 c, k0_dev17_lt c h7 h10⟩ : Dev nD) = (Tr.zr 1 1).dst c ∧ k0_off15 c = ![0, (Tr.zr 1 1).lo c]) c h7 h10) rfl rfl _ _ _ _ hR
  refine sim_hopL ((by decide +kernel : ∀ c : Dev nD, k0_cond11 c = 1#1 ↔ zc c < 3 ∧ zc c + 1 + (0 : Fin 3).val ≤ 3) c) ?_ fun h11 hR => ?_
  swap
  · refine sim_bind (sim_part2 _ _ _ _ _ _ _ _ h11) ?_
    rintro ⟨a, b⟩ -
    refine sim_wait _ rfl rfl ?_
    refine sim_branch ((by decide +kernel : ∀ c : Dev nD, k0_cond14 c = 1#1 ↔ (0 : Fin 3).val < 2 ∧ 0 < zc c) c) ?_ fun h14 hR => ?_
    · exact sim_x _ 1 ((by decide +kernel : ∀ c : Dev nD, ∀ h11 : k0_cond11 c = 1#1,
        (⟨k0_dev22 c, k0_dev22_lt c h11⟩ : Dev nD) = nb c 0 ∧ k0_off22 c = ![(fm 4 (zc c + (1 + (0 : Fin 3).val))).val, 1]
          ∧ k0_off17 c 512#32 = ![0, (xup (zc c) (1 + (0 : Fin 3).val) 1).lo c] ∧ (fm 4 (zc c + (1 + (0 : Fin 3).val))).val ≠ zc c) c h11) _ _ _ _ _ _ hR
    · exact sim_pass (.zl 1 1) (fun _ => rfl) ((by decide +kernel : ∀ c : Dev nD, ∀ h11 : k0_cond11 c = 1#1, ∀ h14 : k0_cond14 c = 1#1,
        (⟨k0_dev21 c, k0_dev21_lt c h11 h14⟩ : Dev nD) = (Tr.zl 1 1).dst c ∧ k0_off21 c = ![0, (Tr.zl 1 1).lo c]) c h11 h14) rfl rfl _ _ _ _ hR
  refine sim_last ((by decide +kernel : ∀ c : Dev nD, k0_cond15 c = 1#1 ↔ zc c = 3) c) ?_ fun h15 hR => ?_
  · exact sim_pure trivial
  · refine sim_wait _ rfl rfl ?_
    exact sim_pass .rl (fun _ => rfl) ((by decide +kernel : ∀ c : Dev nD, ∀ h15 : k0_cond15 c = 1#1,
      (⟨k0_dev23 c, k0_dev23_lt c h15⟩ : Dev nD) = Tr.rl.dst c ∧ k0_off24 c = ![0, Tr.rl.lo c]) c h15) rfl rfl _ _ _ _ hR

/-- The corner blocks start on their way, and the second hops along the line. -/
theorem sim_part17 (v2 v5 v8 : BitVec 32) (v11 v12 : BitVec 1) (v13 v15 v16 : BitVec 32) :
    Sim m K c (atArgs (k0_part17 (F := F)) c v2 v5 v8 v11 v12 v13 v15 v16) (ops17 (zc c)) (fun _ => True) := by
  rw [k0_part17_eq_skeleton]
  unfold atArgs k0_part17_skel ops17 opsRl opsRr
  refine sim_branch ((by decide +kernel : ∀ c : Dev nD, k0_cond16 c = 1#1 ↔ zc c = 0) c) ?_ fun h hR => ?_
  swap
  · refine sim_wait _ rfl rfl ?_
    exact sim_pass .rr (fun _ => rfl) ((by decide +kernel : ∀ c : Dev nD, ∀ h : k0_cond16 c = 1#1,
      (⟨k0_dev24 c, k0_dev24_lt c h⟩ : Dev nD) = Tr.rr.dst c ∧ k0_off26 c = ![0, Tr.rr.lo c]) c h) rfl rfl _ _ _ _ hR
  refine sim_branch ((by decide +kernel : ∀ c : Dev nD, k0_cond17 c = 1#1 ↔ zc c = 2) c) ?_ fun h hR => ?_
  swap
  · refine sim_wait _ rfl rfl ?_
    exact sim_pass .rl (fun _ => rfl) ((by decide +kernel : ∀ c : Dev nD, ∀ h : k0_cond17 c = 1#1,
      (⟨k0_dev25 c, k0_dev25_lt c h⟩ : Dev nD) = Tr.rl.dst c ∧ k0_off27 c = ![0, Tr.rl.lo c]) c h) rfl rfl _ _ _ _ hR
  refine sim_branch ((by decide +kernel : ∀ c : Dev nD, k0_cond18 c = 1#1 ↔ zc c = 1) c) ?_ fun h hR => ?_
  swap
  · refine sim_wait _ rfl rfl ?_
    exact sim_pass .rr (fun _ => rfl) ((by decide +kernel : ∀ c : Dev nD, ∀ h : k0_cond18 c = 1#1,
      (⟨k0_dev26 c, k0_dev26_lt c h⟩ : Dev nD) = Tr.rr.dst c ∧ k0_off28 c = ![0, Tr.rr.lo c]) c h) rfl rfl _ _ _ _ hR
  refine sim_hopR ((by decide +kernel : ∀ c : Dev nD, k0_cond19 c = 1#1 ↔ 0 < zc c ∧ (1 : Fin 3).val ≤ zc c - 1) c) ?_ fun h19 hR => ?_
  swap
  · refine sim_bind (sim_part3 _ _ _ _ _ _ _ _ h19) ?_
    rintro ⟨a, b⟩ -
    refine sim_wait _ rfl rfl ?_
    refine sim_branch ((by decide +kernel : ∀ c : Dev nD, k0_cond22 c = 1#1 ↔ (1 : Fin 3).val < 2 ∧ zc c < 3) c) ?_ fun h22 hR => ?_
    · exact sim_x _ 1 ((by decide +kernel : ∀ c : Dev nD, ∀ h19 : k0_cond19 c = 1#1,
        (⟨k0_dev30 c, k0_dev30_lt c h19⟩ : Dev nD) = nb c 0 ∧ k0_off34 c = ![(fm 4 (zc c - (1 + (1 : Fin 3).val))).val, 1]
          ∧ k0_off29 c 512#32 = ![0, (xdn (zc c) (1 + (1 : Fin 3).val) 1).lo c] ∧ (fm 4 (zc c - (1 + (1 : Fin 3).val))).val ≠ zc c) c h19) _ _ _ _ _ _ hR
    · exact sim_pass (.zr 2 1) (fun _ => rfl) ((by decide +kernel : ∀ c : Dev nD, ∀ h19 : k0_cond19 c = 1#1, ∀ h22 : k0_cond22 c = 1#1,
        (⟨k0_dev29 c, k0_dev29_lt c h19 h22⟩ : Dev nD) = (Tr.zr 2 1).dst c ∧ k0_off33 c = ![0, (Tr.zr 2 1).lo c]) c h19 h22) rfl rfl _ _ _ _ hR
  refine sim_hopL ((by decide +kernel : ∀ c : Dev nD, k0_cond23 c = 1#1 ↔ zc c < 3 ∧ zc c + 1 + (1 : Fin 3).val ≤ 3) c) ?_ fun h23 hR => ?_
  swap
  · refine sim_bind (sim_part4 _ _ _ _ _ _ _ _ h23) ?_
    rintro ⟨a, b⟩ -
    refine sim_wait _ rfl rfl ?_
    refine sim_branch ((by decide +kernel : ∀ c : Dev nD, k0_cond26 c = 1#1 ↔ (1 : Fin 3).val < 2 ∧ 0 < zc c) c) ?_ fun h26 hR => ?_
    · exact sim_x _ 1 ((by decide +kernel : ∀ c : Dev nD, ∀ h23 : k0_cond23 c = 1#1,
        (⟨k0_dev34 c, k0_dev34_lt c h23⟩ : Dev nD) = nb c 0 ∧ k0_off40 c = ![(fm 4 (zc c + (1 + (1 : Fin 3).val))).val, 1]
          ∧ k0_off35 c 512#32 = ![0, (xup (zc c) (1 + (1 : Fin 3).val) 1).lo c] ∧ (fm 4 (zc c + (1 + (1 : Fin 3).val))).val ≠ zc c) c h23) _ _ _ _ _ _ hR
    · exact sim_pass (.zl 2 1) (fun _ => rfl) ((by decide +kernel : ∀ c : Dev nD, ∀ h23 : k0_cond23 c = 1#1, ∀ h26 : k0_cond26 c = 1#1,
        (⟨k0_dev33 c, k0_dev33_lt c h23 h26⟩ : Dev nD) = (Tr.zl 2 1).dst c ∧ k0_off39 c = ![0, (Tr.zl 2 1).lo c]) c h23 h26) rfl rfl _ _ _ _ hR
  refine sim_branch ((by decide +kernel : ∀ c : Dev nD, k0_cond27 c = 1#1 ↔ zc c = 1) c) ?_ fun h hR => ?_
  swap
  · refine sim_wait _ rfl rfl ?_
    exact sim_pass .rl (fun _ => rfl) ((by decide +kernel : ∀ c : Dev nD, ∀ h : k0_cond27 c = 1#1,
      (⟨k0_dev35 c, k0_dev35_lt c h⟩ : Dev nD) = Tr.rl.dst c ∧ k0_off41 c = ![0, Tr.rl.lo c]) c h) rfl rfl _ _ _ _ hR
  refine sim_last ((by decide +kernel : ∀ c : Dev nD, k0_cond28 c = 1#1 ↔ zc c = 2) c) ?_ fun h hR => ?_
  · exact sim_pure trivial
  · refine sim_wait _ rfl rfl ?_
    exact sim_pass .rr (fun _ => rfl) ((by decide +kernel : ∀ c : Dev nD, ∀ h : k0_cond28 c = 1#1,
      (⟨k0_dev36 c, k0_dev36_lt c h⟩ : Dev nD) = Tr.rr.dst c ∧ k0_off42 c = ![0, Tr.rr.lo c]) c h) rfl rfl _ _ _ _ hR

/-- The last hops along the line, and the first of the closing waits. -/
theorem sim_part18 (v2 v5 v8 : BitVec 32) (v12 : BitVec 1) (v13 v15 v16 v324 v326 v329 v0 : BitVec 32) :
    Sim m K c (atArgs (k0_part18 (F := F)) c v2 v5 v8 v12 v13 v15 v16 v324 v326 v329 v0) (ops18 (zc c)) (fun _ => True) := by
  rw [k0_part18_eq_skeleton]
  unfold atArgs k0_part18_skel ops18
  refine sim_hopR ((by decide +kernel : ∀ c : Dev nD, k0_cond29 c = 1#1 ↔ 0 < zc c ∧ (2 : Fin 3).val ≤ zc c - 1) c) ?_ fun h29 hR => ?_
  swap
  · refine sim_bind (sim_part5 _ _ _ _ _ _ h29) fun _ _ => ?_
    refine sim_wait _ rfl rfl ?_
    refine sim_skip (by simp) ?_
    exact sim_x _ 1 ((by decide +kernel : ∀ c : Dev nD, ∀ h29 : k0_cond29 c = 1#1,
      (⟨k0_dev38 c, k0_dev38_lt c h29⟩ : Dev nD) = nb c 0 ∧ k0_off46 c = ![(fm 4 (zc c - (1 + (2 : Fin 3).val))).val, 1]
        ∧ k0_off43 c 512#32 = ![0, (xdn (zc c) (1 + (2 : Fin 3).val) 1).lo c] ∧ (fm 4 (zc c - (1 + (2 : Fin 3).val))).val ≠ zc c) c h29) _ _ _ _ _ _ hR
  refine sim_hopL ((by decide +kernel : ∀ c : Dev nD, k0_cond31 c = 1#1 ↔ zc c < 3 ∧ zc c + 1 + (2 : Fin 3).val ≤ 3) c) ?_ fun h31 hR => ?_
  swap
  · refine sim_bind (sim_part6 _ _ _ _ _ _ h31) fun _ _ => ?_
    refine sim_wait _ rfl rfl ?_
    refine sim_skip (by simp) ?_
    exact sim_x _ 1 ((by decide +kernel : ∀ c : Dev nD, ∀ h31 : k0_cond31 c = 1#1,
      (⟨k0_dev40 c, k0_dev40_lt c h31⟩ : Dev nD) = nb c 0 ∧ k0_off50 c = ![(fm 4 (zc c + (1 + (2 : Fin 3).val))).val, 1]
        ∧ k0_off47 c 512#32 = ![0, (xup (zc c) (1 + (2 : Fin 3).val) 1).lo c] ∧ (fm 4 (zc c + (1 + (2 : Fin 3).val))).val ≠ zc c) c h31) _ _ _ _ _ _ hR
  refine sim_branch ((by decide +kernel : ∀ c : Dev nD, k0_cond33 c = 1#1 ↔ zc c = 0) c) ?_ fun h hR => sim_wait _ rfl rfl hR
  refine sim_branch ((by decide +kernel : ∀ c : Dev nD, k0_cond34 c = 1#1 ↔ zc c = 3) c) ?_ fun h hR => sim_wait _ rfl rfl hR
  refine sim_wait _ rfl rfl ?_
  refine sim_wait _ rfl rfl ?_
  refine sim_last ((by decide +kernel : ∀ c : Dev nD, k0_cond35 c = 1#1 ↔ zc c = 0) c) ?_ fun h hR => sim_wait _ rfl rfl hR
  exact sim_pure trivial

end Cert.KernelIdeal.Grad

end
-- ==== Proof.Body.lean ====
module

public import proofs.«01_k».proof.Proof.Front
public import proofs.«01_k».proof.Proof.Line

/-!
# The closing waits, and the whole body
-/

@[expose] public section

set_option maxRecDepth 8192
set_option maxHeartbeats 2000000

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

/-- Closing waits: the copies across `x` of the first block. -/
theorem sim_part19 (v2 v5 v8 v13 v0 : BitVec 32) :
    Sim m K c (atArgs (k0_part19 (F := F)) c v2 v5 v8 v13 v0) ops19 (fun _ => True) := by
  rw [k0_part19_eq_skeleton]
  exact sim_wait _ rfl rfl (sim_wait _ rfl rfl (sim_pure trivial))

/-- Closing waits: the second block. -/
theorem sim_part20 (v2 v5 v8 v13 : BitVec 32) :
    Sim m K c (atArgs (k0_part20 (F := F)) c v2 v5 v8 v13) ops20 (fun _ => True) := by
  rw [k0_part20_eq_skeleton]
  exact sim_wait _ rfl rfl (sim_wait _ rfl rfl (sim_wait _ rfl rfl (sim_pure trivial)))

/-- Closing waits: between the second block and the third. -/
theorem sim_part21 (v2 v5 v8 v13 : BitVec 32) :
    Sim m K c (atArgs (k0_part21 (F := F)) c v2 v5 v8 v13) ops21 (fun _ => True) := by
  rw [k0_part21_eq_skeleton]
  exact sim_wait _ rfl rfl (sim_wait _ rfl rfl (sim_pure trivial))

/-- Closing waits: the third block. -/
theorem sim_part22 (v2 v5 v8 v13 : BitVec 32) :
    Sim m K c (atArgs (k0_part22 (F := F)) c v2 v5 v8 v13) (ops22 (zc c)) (fun _ => True) := by
  rw [k0_part22_eq_skeleton]
  unfold atArgs k0_part22_skel ops22
  refine sim_wait _ rfl rfl (sim_wait _ rfl rfl (sim_wait _ rfl rfl ?_))
  exact sim_last ((by decide +kernel : ∀ c : Dev nD, k0_cond36 c = 1#1 ↔ zc c = 3) c) (sim_pure trivial) fun h hR => sim_wait _ rfl rfl hR

/-- Closing waits: the last block, and the corner blocks. -/
theorem sim_part23 (v2 v5 v8 v13 : BitVec 32) :
    Sim m K c (atArgs (k0_part23 (F := F)) c v2 v5 v8 v13) (ops23 (zc c)) (fun _ => True) := by
  rw [k0_part23_eq_skeleton]
  unfold atArgs k0_part23_skel ops23
  refine sim_wait _ rfl rfl (sim_wait _ rfl rfl ?_)
  refine sim_branch ((by decide +kernel : ∀ c : Dev nD, k0_cond37 c = 1#1 ↔ 0 < zc c) c) ?_ fun h hR => sim_wait _ rfl rfl hR
  exact sim_last ((by decide +kernel : ∀ c : Dev nD, k0_cond38 c = 1#1 ↔ zc c < 3) c) (sim_pure trivial) fun h hR => sim_wait _ rfl rfl hR

/-- The parts one after the other, and the waits for the first two sends along the line. -/
theorem sim_part24 : Sim m K c (atArgs (k0_part24 (F := F))) (ops24 (zc c)) (fun a => a.1 = c) := by
  rw [k0_part24_eq_skeleton]
  unfold atArgs k0_part24_skel ops24 ops24t
  refine sim_bind sim_part7 ?_
  rintro ⟨d0, v2, v5, v8, v10, v11, v12, v13, v14, v15, v16, v17⟩ ⟨hd, hv⟩
  change d0 = c at hd
  change v17 = _ at hv
  subst hd
  refine sim_bind (sim_part8 _ _ _ _ _ _ hv) ?_
  rintro ⟨v47, v48⟩ -
  refine sim_bind (sim_part9 _ _ _ _ _ _ _ hv) fun _ _ => ?_
  refine sim_bind (sim_part10 _ _ _ _) fun _ _ => ?_
  refine sim_bind (sim_part11 _ _ _) fun _ _ => ?_
  refine sim_bind (sim_part12 _ _ _ _ _ _ _ _ _ _) fun _ _ => ?_
  refine sim_bind (sim_part13 _ _ _ _) fun _ _ => ?_
  refine sim_bind (sim_part14 _ _ _ _) fun _ _ => ?_
  refine sim_bind (sim_part15 _ _ _) fun _ _ => ?_
  refine sim_bind (sim_part16 _ _ _ _ _ _ _ _ _) fun _ _ => ?_
  refine sim_bind (sim_part17 _ _ _ _ _ _ _ _) ?_
  rintro ⟨v324, v326, v329, v0⟩ -
  refine sim_bind (sim_part18 _ _ _ _ _ _ _ _ _ _ _) fun _ _ => ?_
  refine sim_bind (sim_part19 _ _ _ _ _) fun _ _ => ?_
  refine sim_bind (sim_part20 _ _ _ _) fun _ _ => ?_
  refine sim_bind (sim_part21 _ _ _ _) fun _ _ => ?_
  refine sim_bind (sim_part22 _ _ _ _) fun _ _ => ?_
  refine sim_bind (sim_part23 _ _ _ _) fun _ _ => ?_
  refine sim_branch ((by decide +kernel : ∀ c : Dev nD, k0_cond39 c = 1#1 ↔ zc c < 3) d0) ?_
    fun h hR => sim_wait _ rfl rfl (sim_wait _ rfl rfl hR)
  refine sim_branch ((by decide +kernel : ∀ c : Dev nD, k0_cond40 c = 1#1 ↔ 0 < zc c) d0) ?_
    fun h hR => sim_wait _ rfl rfl (sim_wait _ rfl rfl hR)
  refine sim_branch ((by decide +kernel : ∀ c : Dev nD, k0_cond41 c = 1#1 ↔ 1 ≤ zc c ∧ zc c < 3) d0) ?_
    fun h hR => sim_wait _ rfl rfl (sim_wait _ rfl rfl hR)
  exact sim_last ((by decide +kernel : ∀ c : Dev nD, k0_cond42 c = 1#1 ↔ 0 < zc c ∧ zc c ≤ 2) d0) (sim_pure rfl)
    fun h hR => sim_wait _ rfl rfl (sim_wait _ rfl rfl hR)

/-- The whole body of the kernel carries out the steps of `opsAll`. -/
theorem sim_main_body : Sim m K c (atArgs (cc0_body (F := F))) (opsAll (zc c)) (fun _ => True) := by
  rw [cc0_body_eq_skeleton]
  unfold atArgs cc0_body_skel opsAll
  refine sim_bind sim_part24 ?_
  rintro ⟨d0, v2, v8, v11⟩ hd
  change d0 = c at hd
  subst hd
  refine sim_branch ((by decide +kernel : ∀ c : Dev nD, k0_cond43 c = 1#1 ↔ 2 ≤ zc c ∧ zc c < 3) d0) ?_
    fun h hR => sim_wait _ rfl rfl (sim_wait _ rfl rfl hR)
  exact sim_last ((by decide +kernel : ∀ c : Dev nD, k0_cond44 c = 1#1 ↔ 0 < zc c ∧ zc c ≤ 1) d0) (sim_pure trivial)
    fun h hR => sim_wait _ rfl rfl (sim_wait _ rfl rfl hR)

end Cert.KernelIdeal.Grad

end
-- ==== Proof.Launch.lean ====
module

public import proofs.«01_k».proof.Proof.Pieces
public import proofs.«01_k».proof.Proof.Body

/-!
# The launch

The body's obligation, from the replayed run, and the run of the whole program on all devices.

-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

open Idealize.ShloMosaic.Pipeline (Dat Cfg Window BodyObligation cellOf)

/-! ## The proof data -/

/-- What device `c` starts the body from. -/
def start (m : (ℓ : Loc nD τ sig) → Buf (Elt F) ℓ) (c : Dev nD) : sProp 𝕄 :=
  iprop((∃ K, recs m K) ∗ (((c : Thread nD τ).loc main_arg1) ↦{fullShare.left} (DYA m c))
    ∗ (((c : Thread nD τ).loc main_v1) ↦{fullShare} m ((c : Thread nD τ).loc main_v1)) ∗ sepL (atomI m c) (crd₀ (zc c) ++ tok₀))

/-- The same with the buffers cut. -/
def Φ₀ (m : (ℓ : Loc nD τ sig) → Buf (Elt F) ℓ) (c : Dev nD) : sProp 𝕄 :=
  iprop((∃ K, recs m K) ∗ sepL (pieceI m c) (mem₀ (zc c)).tail ∗ sepL (atomI m c) (crd₀ (zc c) ++ tok₀))

/-- What the body ends with: the result, the scratch buffers, all counters at zero. -/
def Φ₁ (m : (ℓ : Loc nD τ sig) → Buf (Elt F) ℓ) (c : Dev nD) : sProp 𝕄 :=
  iprop((((c : Thread nD τ).loc main_v1) ↦{fullShare} (OUT m c))
    ∗ ((∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f))
    ∗ bigSep Finset.univ fun k : Fin 57 => semVal (kcell (c, k)) 0)

/-- The proof data of the pipeline. -/
def dats (m : (ℓ : Loc nD τ sig) → Buf (Elt F) ℓ) (_ : Fin 1) (c : Dev nD) : Dat τ (Elt F) Unit ℕ UU ℕ cfg0 c where
  A w := m ((cfg0.win w).arr.view.loc (c : Thread nD τ))
  after w _ := match w with
    | ⟨0, _⟩ => XA m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staged block of `x` is the whole block that the device holds. -/
theorem before_x (t : Fin cfg0.N) (d) : (dats m 0 c).before (0 : Fin 1) t d = XA m c := by
  have ht : t = t0_0 := fin_N0 t
  subst ht
  unfold Dat.before
  rw [if_pos (fetch0_0 _)]
  refine (?_ : _ = (((cfg0.win (0 : Fin 1)).blk t0_0).view.read (Elt F) (m ((c : Thread nD τ).loc main_arg0)))).trans ?_
  · rfl
  · funext j
    unfold XA
    refine congrArg (m ((c : Thread nD τ).loc main_arg0)) (funext fun a => Fin.ext ?_)
    fin_cases a
    · exact (Nat.zero_add _).trans (Nat.one_mul _)
    · exact (Nat.zero_add _).trans (Nat.one_mul _)

/-! ## Closing the semaphores -/

theorem close_used (k : Fin 57) : iprop(cellInv ER (rd m) (K (c, k)) (kcell (c, k)) ∗ atPos ER (kcell (c, k)) (0 + 1) ∅ 0)
    ⊢ (|={Set.univ}=> semVal (kcell (c, k)) 0 : sProp 𝕄) :=
  Rounds.cell_close ER (rd m) (Set.mem_univ _) (fun h => h) (R := 0 + 1) (rd_duties_later m (kcell (c, k)))

theorem close_unused (k : Fin 57) (h : used (zc c) k = false) :
    iprop(cellInv ER (rd m) (K (c, k)) (kcell (c, k)) ∗ atPos ER (kcell (c, k)) 0 ∅ 0)
      ⊢ (|={Set.univ}=> semVal (kcell (c, k)) 0 : sProp 𝕄) :=
  Rounds.cell_close ER (rd m) (Set.mem_univ _) (fun h => h) (R := 0) (rd_duties_unused m c k h)

theorem close_one (k : Fin 57) : iprop(recs m K ∗ atomI m c (if used (zc c) k then .zero k else .pos k))
    ⊢ (|={Set.univ}=> semVal (kcell (c, k)) 0 : sProp 𝕄) := by
  have hr := recs_cell m K (c, k)
  by_cases h : used (zc c) k = true
  · rw [if_pos h]
    show iprop(recs m K ∗ atPos ER (kcell (c, k)) (0 + 1) ∅ 0) ⊢ _
    iintro ⟨H, H'⟩
    iapply (close_used (m := m) (K := K) k)
    isplitl [H]
    · iapply hr; iexact H
    · iexact H'
  · rw [if_neg h]
    show iprop(recs m K ∗ atPos ER (kcell (c, k)) 0 ∅ 0) ⊢ _
    iintro ⟨H, H'⟩
    iapply (close_unused (m := m) (K := K) k (Bool.eq_false_iff.mpr h))
    isplitl [H]
    · iapply hr; iexact H
    · iexact H'

/-- At the end all counters of the device are zero again. -/
theorem close_all : iprop(recs m K ∗ sepL (atomI m c) (allK.map (fun k => if used (zc c) k then .zero k else .pos k)))
    ⊢ (|={Set.univ}=> bigSep Finset.univ fun k : Fin 57 => semVal (kcell (c, k)) 0 : sProp 𝕄) := by
  rw [sepL_map, ← allK_sep]
  exact (bigSep_with (R := recs m K) fun k _ => close_one (m := m) (K := K) (c := c) k).trans (bigSep_fupd _ _)

/-! ## The body -/

/-- The body's end, from what is held after the last step. -/
theorem body_end {S' : St} {A : List Atom} (hA : takes (held₁ (zc c)) S'.held = some A) :
    iprop(recs m K ∗ sepL (atomI m c) S'.held)
      ⊢ (|={Set.univ}=> iprop((((c : Thread nD τ).loc cc0_stg0_0) ↦{fullShare} (XA m c)) ∗ Φ₁ m c) : sProp 𝕄) := by
  have hm : sepL (atomI m c) ((mem₁ (zc c)).map .mem) ⊢ sepL (pieceI m c) (mem₁ (zc c)) :=
    Entails.of_eq (sepL_map (atomI m c) Atom.mem _)
  unfold Φ₁
  iintro ⟨HR, H⟩
  ihave H := (sepL_takes (atomI m c) _ hA) $$ H
  icases H with ⟨H, -⟩
  unfold held₁
  ihave H := (sepL_append (atomI m c) _ _).1 $$ H
  icases H with ⟨Hm, Hz⟩
  imod (close_all (m := m) (K := K) (c := c)) $$ [HR Hz] with Hz
  · isplitl [HR] <;> iassumption
  imodintro
  ihave Hm := hm $$ Hm
  ihave Hm := pieces_out $$ Hm
  icases Hm with ⟨Hx, Ho, Hs⟩
  isplitl [Hx]; · iexact Hx
  isplitl [Ho]; · iexact Ho
  isplitl [Hs]; · iexact Hs
  iexact Hz

/-- What the body starts from. -/
def bodyPre (m : (ℓ : Loc nD τ sig) → Buf (Elt F) ℓ) (c : Dev nD) : sProp 𝕄 :=
  iprop(Φ₀ m c ∗ (dats m 0 c).owesAt () t0_0.castSucc ∗ (∃ d, stg c cc0_stg0_0 ((dats m 0 c).before (0 : Fin 1) t0_0 d)))

/-- What the body ends with. -/
def bodyPost (m : (ℓ : Loc nD τ sig) → Buf (Elt F) ℓ) (c : Dev nD) : sProp 𝕄 :=
  iprop(Φ₁ m c ∗ (dats m 0 c).owesAt () t0_0.succ ∗ stg c cc0_stg0_0 (XA m c))

set_option maxHeartbeats 2000000 in
theorem sound_body (c : Dev nD) : bodyPre m c ⊢ WP c (atArgs (cc0_body (F := F))) (fun _ => bodyPost m c) := by
  obtain ⟨S', hrun, hdues, A, hA⟩ := replay (zc c) (zc_lt c)
  have hend : ∀ K, iprop(recs m K ∗ sepL (atomI m c) S'.held ∗ Ow c S'.dues) ⊢ (|={Set.univ}=> bodyPost m c : sProp 𝕄) := fun K => by
    have he := body_end (m := m) (K := K) (c := c) hA
    have hO : Ow c S'.dues ⊢ (dats m 0 c).owesAt () t0_0.succ := by
      rw [hdues]
      unfold Ow Dat.owesAt Pipeline.owesWithin
      iintro ⟨%W, HO⟩
      iexists W
      isplitr
      · ipureintro; exact fun _ _ => Or.inl trivial
      · iexact HO
    unfold bodyPost
    iintro ⟨HR, H, HO⟩
    imod he $$ [HR H] with H
    · isplitl [HR] <;> iassumption
    imodintro
    icases H with ⟨Hx, HP⟩
    isplitl [HP]; · iexact HP
    isplitl [HO]
    · iapply hO; iexact HO
    iexists (XA m c)
    isplitr; · (ipureintro; rfl)
    iexact Hx
  have hsim : ∀ K, iprop(recs m K ∗ sepL (atomI m c) (held₀ (zc c)) ∗ Ow c (dues₀ (zc c)))
      ⊢ WP c (atArgs (cc0_body (F := F))) (fun _ => bodyPost m c) := fun K => by
    have hs := (sim_main_body (m := m) (K := K) (c := c)) _ S' hrun (fun _ => iprop(|={Set.univ}=> bodyPost m c))
    refine BI.Entails.trans ?_ (wp_fupd _ _ _ _ _)
    refine BI.Entails.trans ?_ hs
    show iprop(recs m K ∗ sepL (atomI m c) (held₀ (zc c)) ∗ Ow c (dues₀ (zc c))) ⊢ iprop(recs m K ∗ sepL (atomI m c) (held₀ (zc c))
      ∗ Ow c (dues₀ (zc c)) ∗ (∀ a, ⌜True⌝ -∗ (sepL (atomI m c) S'.held ∗ Ow c S'.dues) -∗ |={Set.univ}=> bodyPost m c))
    iintro ⟨#HR, H, HO⟩
    isplitr; · iexact HR
    isplitl [H]; · iexact H
    isplitl [HO]; · iexact HO
    iintro %a - ⟨H, HO⟩
    iapply (hend K)
    isplitr; · iexact HR
    isplitl [H] <;> iassumption
  have hheld : iprop((((c : Thread nD τ).loc cc0_stg0_0) ↦{fullShare} (XA m c)) ∗ sepL (pieceI m c) (mem₀ (zc c)).tail
      ∗ sepL (atomI m c) (crd₀ (zc c) ++ tok₀)) ⊢ sepL (atomI m c) (held₀ (zc c)) := by
    have h1 : sepL (pieceI m c) (mem₀ (zc c)) ⊢ sepL (atomI m c) ((mem₀ (zc c)).map .mem) :=
      Entails.of_eq (sepL_map (atomI m c) Atom.mem _).symm
    have h2 : iprop((((c : Thread nD τ).loc cc0_stg0_0) ↦{fullShare} (XA m c)) ∗ sepL (pieceI m c) (mem₀ (zc c)).tail)
        ⊢ sepL (pieceI m c) (mem₀ (zc c)) := BI.Entails.refl _
    unfold held₀
    iintro ⟨Hx, Hm, H⟩
    iapply (sepL_append (atomI m c) _ _).2
    isplitr [H]
    · iapply h1
      iapply h2
      isplitl [Hx] <;> iassumption
    · iexact H
  unfold bodyPre Φ₀
  iintro ⟨⟨⟨%K, HR⟩, Hm, H⟩, Ho, ⟨%d0, %g0, %hg0, Hx⟩⟩
  have hx : g0 = XA m c := by rw [hg0]; exact before_x t0_0 d0
  subst hx
  unfold Dat.owesAt Pipeline.owesWithin
  icases Ho with ⟨%W, %hW, HO⟩
  iapply (hsim K)
  isplitl [HR]; · iexact HR
  isplitr [HO]
  · iapply hheld
    isplitl [Hx]; · iexact Hx
    isplitl [Hm] <;> iassumption
  · unfold Ow
    iexists W
    iexact HO

set_option maxHeartbeats 2000000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c.tc none) Set.univ (defs₀ .tc 0 (t0_0, cfg0.slots t0_0)) (fun _ => bodyPost m c)
  exact sound_body c

end Cert.KernelIdeal.Grad

end
-- ==== Proof.Run.lean ====
module

public import Idealize.ShloMosaic.Lib.Pipeline.CollectiveSegs
public import proofs.«01_k».proof.Proof.Launch

/-!
# The run on all devices

Every device's program ends, with the result in place, the arguments as they were and all counters at zero.

-/

@[expose] public section

set_option maxRecDepth 8192

noncomputable section

namespace Cert.KernelIdeal.Grad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Fin 57 → ℕ}
variable {c : Dev nD} {α : Type}

open Idealize.ShloMosaic.Pipeline (Dat Cfg Window BodyObligation cellOf)

variable {ρ : (c : Dev nD) → PrngReg}

/-- What the launch keeps aside: half of the second argument. -/
def aside (m : (ℓ : Loc nD τ sig) → Buf (Elt F) ℓ) (c : Dev nD) : sProp 𝕄 :=
  iprop(((c : Thread nD τ).loc main_arg1) ↦{fullShare.right} m ((c : Thread nD τ).loc main_arg1))

/-- What the device ends with. -/
def ends (m : (ℓ : Loc nD τ sig) → Buf (Elt F) ℓ) (c : Dev nD) : sProp 𝕄 :=
  iprop((((c : Thread nD τ).loc main_v1) ↦{fullShare} (OUT m c)) ∗ unscopedSems0 c)

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ aside m c) := by
  have hs : iprop(((c : Thread nD τ).loc main_arg1) ↦{fullShare} m ((c : Thread nD τ).loc main_arg1))
      ⊢ iprop((((c : Thread nD τ).loc main_arg1) ↦{fullShare.left} (DYA m c)) ∗ aside m c : sProp 𝕄) :=
    (pointsTo_share (PosShare.mem_left_op_right fullShare)).1
  have hr : ∀ K', iprop(records m K' ∗ levAts L lv) ⊢ (recs m K' : sProp 𝕄) := fun K' => BI.Entails.refl _
  have hl : iprop(sepL (atomI m c) (crd₀ (zc c)) ∗ linear m c) ⊢ sepL (atomI m c) (crd₀ (zc c) ++ tok₀) :=
    (sepL_append (atomI m c) _ _).2
  rw [Pipeline.unscopedRestP_none, unscopedRest0_eq]
  iintro ⟨⟨H1, Ho⟩, Hlev, Hcr, -, HG⟩
  ihave Hc := (creds m c) $$ Hcr
  ihave H1 := hs $$ H1
  icases H1 with ⟨Hl, Ha⟩
  unfold start G'
  icases HG with ⟨%K', HR, HL⟩
  imodintro
  isplitr [Ha]
  · isplitl [HR Hlev]
    · iexists K'
      iapply (hr K')
      isplitl [HR] <;> iassumption
    isplitl [Hl]; · iexact Hl
    isplitl [Ho]; · iexact Ho
    iapply hl
    isplitl [Hc] <;> iassumption
  · iexact Ha

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  have hp := pieces_in (m := m) (c := c)
  unfold Φ₀ start
  iintro ⟨⟨HR, H1, Ho, HL⟩, -, Hs⟩
  isplitl [HR]; · iexact HR
  isplitr [HL]
  · iapply hp
    isplitl [H1]; · iexact H1
    isplitl [Ho]; · iexact Ho
    iexact Hs
  · iexact HL

theorem phi1_exit (m : (ℓ : Loc nD τ sig) → Buf (Elt F) ℓ) (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl, scopedRest0_eq]
  have hz : (bigSep Finset.univ fun k : Fin 57 => semVal (kcell (c, k)) 0 : sProp 𝕄) ⊢ iprop(unscopedSems0 c ∗ Pipeline.ownSems0 osem c) :=
    Entails.of_eq (sems0_eq c)
  unfold Φ₁ ends
  iintro ⟨Ho, Hs, Hz⟩
  ihave Hz := hz $$ Hz
  icases Hz with ⟨Hu, Hw⟩
  isplitl [Ho Hu]
  · isplitl [Ho] <;> iassumption
  isplitl [Hw]; · iexact Hw
  iexact Hs

/-- The pipeline's own waits come before everything that is owed. -/
theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 0 (by fin_cases w <;> fin_cases s <;> rfl) (dues₀ (zc c))
        ((by decide +kernel : ∀ z : Fin 4, ∀ u ∈ dues₀ z.val, 0 < u.lvl z.val) ⟨zc c, zc_lt c⟩)
    · show _ ⊢ MayWait _ _ () 0
      rw [MayWait_zero]; iintro -; iempintro

theorem share_eq (m : (ℓ : Loc nD τ sig) → Buf (Elt F) ℓ) (c : Dev nD) (w : Fin cfg0.W) : (dats m 0 c).share w = fullShare := by
  unfold Dat.share; split <;> rfl

/-- What is read off the memory at the end. -/
def QY (m : (ℓ : Loc nD τ sig) → Buf (Elt F) ℓ) (c : Dev nD) (s : MemSt nD τ sig (Elt F)) : Prop :=
  s.mem ((c : Thread nD τ).loc main_v1) = OUT m c ∧ s.mem ((c : Thread nD τ).loc main_arg1) = m ((c : Thread nD τ).loc main_arg1)
    ∧ ∀ sm : SemLoc sig, sm.isScoped .tc = false → s.sem ((c.tc : Thread nD τ), sm) = 0

theorem read_one (ℓ : Loc nD τ sig) (q : PosShare TreeShare) (f : Buf (Elt F) ℓ) (s' : Phys nD τ sig (Elt F)) :
    iprop((ℓ ↦{q} f) ∗ SI s') ⊢ (iprop(⌜s'.mem.mem ℓ = f⌝ ∗ SI s') : sProp 𝕄) := by
  iintro ⟨H, HS⟩
  icombine HS H gives %h
  isplitr
  · ipureintro; exact Buf.eq_of_forall_mem_univ h
  · iexact HS

theorem ends_read (m : (ℓ : Loc nD τ sig) → Buf (Elt F) ℓ) (c : Dev nD) (s' : Phys nD τ sig (Elt F)) :
    iprop(ends m c ∗ aside m c ∗ SI s') ⊢ (|={Set.univ}=> iprop(⌜QY m c s'.mem⌝ ∗ SI s') : sProp 𝕄) := by
  have hu := Pipeline.unscopedSems0_read (X := (unscopedSems0 c : sProp 𝕄)) (c := c) fupd_intro s'
  have h1 := read_one (F := F) ((c : Thread nD τ).loc main_v1) fullShare (OUT m c) s'
  have h2 := read_one (F := F) ((c : Thread nD τ).loc main_arg1) fullShare.right (m ((c : Thread nD τ).loc main_arg1)) s'
  unfold ends aside
  iintro ⟨⟨Ho, Hu⟩, Ha, HS⟩
  ihave H := h1 $$ [Ho HS]
  · isplitl [Ho] <;> iassumption
  icases H with ⟨%e1, HS⟩
  ihave H := h2 $$ [Ha HS]
  · isplitl [Ha] <;> iassumption
  icases H with ⟨%e2, HS⟩
  imod hu $$ [Hu HS] with H
  · isplitl [Hu] <;> iassumption
  icases H with ⟨%e3, HS⟩
  imodintro
  isplitr
  · ipureintro; exact ⟨e1, e2, e3⟩
  · iexact HS

theorem ownSemFacts : Pipeline.OwnSemFacts cfg0.spec osem := by decide +kernel

set_option maxHeartbeats 2000000 in
/-- For any float values, from any memory with zero counters: every weakly fair run of the program ends, each device's
    result holds its part of the product, both arguments are as they were and every counter is at zero. -/
theorem run_main (m : (ℓ : Loc nD τ sig) → Buf (Elt F) ℓ) (ρ : Dev nD → PrngReg) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = OUT m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := body_obligation) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_grid (m := m)) $$ HX with HG
      imodintro
      isplitl [HP] <;> iassumption)
    (hglob := glob)
    (hA := fun _ _ => rfl) (hpf := fun _ k => k.elim0)
    (X := start m) (Y := ends m) (Z := aside m)
    (hX := start_intro m ρ) (hin := phi0_intro m) (hout := phi1_exit m)
    (QY := QY m) (hY := ends_read m)
    (hQ := fun _ h hs => ⟨fun c => ⟨((h c).1 (0 : Fin 1)).trans ((dats m 0 c).arrAt_in (0 : Fin 1) rfl _), (h c).2.2.2.1, (h c).2.2.1⟩,
      sem_eq_zero hs fun c => (h c).2.2.2.2⟩)

end Cert.KernelIdeal.Grad

end
-- ==== Proof.Product.lean ====
module

public import Idealize.ShloMosaic.Lib.Pointwise
public import Idealize.ShloMosaic.Lib.Layout
public import proofs.«01_k».proof.Proof.Contents
public import proofs.«01_k».proof.Proof.Gen.ReferenceIdeal.Run

/-!
# The products as sums

Over the extended reals each product of the kernel, and the reference's product, is a plain sum over the rows of `x`
and `dy`.
-/

@[expose] public section

noncomputable section

namespace Cert.KernelIdeal.Grad

open Cert.KernelIdeal Cert.KernelIdeal.Gen
open Idealize.ShloMosaic
open Idealize.ShloMosaic.TcCoe
open Idealize.SL.Sem

/-- An index named by two bounded numbers is the index of their values. -/
theorem ix2_eq {R W : ℕ} [NeZero R] [NeZero W] (r : Fin R) (k : Fin W) : (ix2 r k : (M2 R W).Idx) = ix R W r.val k.val :=
  idx_ext (ix_zero _ _ r.isLt).symm (ix_one _ _ k.isLt).symm

/-- The product for the neighbour, an entry of it. -/
theorem pay1_apply (a : Vec Ideal S2048x1024 .f32) (b : Vec Ideal S2048x256 .f32) (j : S1024x256.Idx) :
    k0_pay1 (F := Ideal) a b j
      = ∑ k ∈ Finset.range 2048, (a (ix 2048 1024 k (j 0).val) * b (ix 2048 256 k (j 1).val) : EReal) := by
  unfold k0_pay1
  pointwise
  rw [Finset.sum_range]
  exact Finset.sum_congr rfl fun k _ => congrArg₂ _ (congrArg a (ix2_eq _ _)) (congrArg b (ix2_eq _ _))

/-- The own product, an entry of it. -/
theorem pay3_apply (a : Vec Ideal S2048x1024 .f32) (b : Vec Ideal S2048x512 .f32) (j : S1024x512.Idx) :
    k0_pay3 (F := Ideal) a b j
      = ∑ k ∈ Finset.range 2048, (a (ix 2048 1024 k (j 0).val) * b (ix 2048 512 k (j 1).val) : EReal) := by
  unfold k0_pay3
  pointwise
  rw [Finset.sum_range]
  exact Finset.sum_congr rfl fun k _ => congrArg₂ _ (congrArg a (ix2_eq _ _)) (congrArg b (ix2_eq _ _))

/-- The two products added, an entry. -/
theorem pay4_apply (a b : Vec Ideal S1024x512 .f32) (j : S1024x512.Idx) :
    k0_pay4 (F := Ideal) a b j = (a j + b j : EReal) := by
  unfold k0_pay4
  pointwise

/-- Row `k` of the whole `x` at column `r`, times row `k` of the whole `dy` at column `q`. -/
def term (X : (M2 4096 2048).Idx → EReal) (Y : (M2 4096 8192).Idx → EReal) (r q k : ℕ) : EReal :=
  X (ix 4096 2048 k r) * Y (ix 4096 8192 k q)

/-- The reference's product. -/
def refOut (X : (M2 4096 2048).Idx → EReal) (Y : (M2 4096 8192).Idx → EReal) : (M2 2048 8192).Idx → EReal :=
  Host.dotGeneral (F := Ideal) (φ₁ := .f32) (φ₂ := .f32) Cert.ReferenceIdeal.dot_S2048x4096_S4096x8192_S2048x8192_1_0_0_1_n_n none
    (transpose Cert.ReferenceIdeal.S2048x4096 [1, 0] X Cert.ReferenceIdeal.Gen.facts.transposes_S4096x2048_S2048x4096_1_0) Y

/-- The reference's product, an entry of it. -/
theorem refOut_apply (X : (M2 4096 2048).Idx → EReal) (Y : (M2 4096 8192).Idx → EReal) (j : (M2 2048 8192).Idx) :
    refOut X Y j = ∑ k ∈ Finset.range 4096, term X Y (j 0).val (j 1).val k := by
  unfold refOut
  pointwise
  rw [Finset.sum_range]
  exact Finset.sum_congr rfl fun k _ => congrArg₂ _ (congrArg X (ix2_eq _ _)) (congrArg Y (ix2_eq _ _))

/-! ## The devices' blocks of the whole arrays -/

variable (m : (ℓ : Loc nD τ sig) → Buf (Elt Ideal) ℓ)

/-- The memory holds each device's blocks of `X` and `Y`: the rows of its `y`. -/
def Holds (X : (M2 4096 2048).Idx → EReal) (Y : (M2 4096 8192).Idx → EReal) : Prop := ∀ c : Dev nD,
  (∀ k r, k < 2048 → r < 2048 → XA m c (ix 2048 2048 k r) = X (ix 4096 2048 (2048 * yc c + k) r))
  ∧ ∀ k q, k < 2048 → q < 8192 → DYA m c (ix 2048 8192 k q) = Y (ix 4096 8192 (2048 * yc c + k) q)

variable {m} {X : (M2 4096 2048).Idx → EReal} {Y : (M2 4096 8192).Idx → EReal}

theorem yc_lt : ∀ c : Dev nD, yc c < 2 := by decide +kernel
theorem own_le : ∀ c : Dev nD, own c + 1024 ≤ 8192 := by decide +kernel
theorem own_nb : ∀ c : Dev nD, own (nb c 1) = own c := by decide +kernel
theorem yc_nb : ∀ c : Dev nD, yc (nb c 1) = 1 - yc c := by decide +kernel

/-- One term of a product on device `c`, in the whole arrays. -/
theorem term_at (h : Holds m X Y) (c : Dev nD) {w lo lo' r q k : ℕ} [NeZero w] (hk : k < 2048) (hr : r < 1024) (hlo : lo + 1024 ≤ 2048)
    (hq : q < w) (hw : lo' + w ≤ 1024) :
    (cut 1024 lo (XA m c) (ix 2048 1024 k r) * cut w lo' (DYV m c) (ix 2048 w k q) : EReal)
      = term X Y (lo + r) (own c + (lo' + q)) (2048 * yc c + k) := by
  have ho := own_le c
  unfold cut DYV term
  unfold cut
  rw [ix_zero _ _ hk, ix_one _ _ hr, ix_zero _ _ hk, ix_one _ _ hq, ix_zero _ _ hk, ix_one _ _ (by omega),
    (h c).1 k (lo + r) hk (by omega), (h c).2 k _ hk (by omega)]

/-- The product for the neighbour across `y`, in the whole arrays: the columns of the neighbour, the own rows. -/
theorem PPF_apply (h : Holds m X Y) (c : Dev nD) (i : (M2 1024 1024).Idx) :
    PPF m c i = ∑ k ∈ Finset.range 2048, term X Y (1024 - 1024 * yc c + (i 0).val) (own c + (i 1).val) (2048 * yc c + k) := by
  have h0 := idx_zero_lt i
  have h1 := idx_one_lt i
  have hy := yc_lt c
  unfold PPF
  rw [pay1_apply]
  refine Finset.sum_congr rfl fun k hk => ?_
  rw [ix_zero _ _ h0, ix_one _ _ (Nat.mod_lt _ (by norm_num))]
  unfold XP
  rw [term_at h c (Finset.mem_range.mp hk) h0 (by omega) (Nat.mod_lt _ (by norm_num)) (by omega), Nat.div_add_mod]

/-- The own product, in the whole arrays: the own columns, the own rows. -/
theorem PMP_apply (h : Holds m X Y) (c : Dev nD) (i : (M2 1024 1024).Idx) :
    PMP m c i = ∑ k ∈ Finset.range 2048, term X Y (1024 * yc c + (i 0).val) (own c + (i 1).val) (2048 * yc c + k) := by
  have h0 := idx_zero_lt i
  have h1 := idx_one_lt i
  have hy := yc_lt c
  unfold PMP
  rw [pay3_apply]
  refine Finset.sum_congr rfl fun k hk => ?_
  rw [ix_zero _ _ h0, ix_one _ _ (Nat.mod_lt _ (by norm_num))]
  unfold XM
  rw [term_at h c (Finset.mem_range.mp hk) h0 (by omega) (Nat.mod_lt _ (by norm_num)) (by omega), Nat.div_add_mod]

/-- The two halves of a sum over all rows, in either order. -/
theorem both_halves (f : ℕ → EReal) {y : ℕ} (hy : y < 2) :
    (∑ k ∈ Finset.range 2048, f (2048 * y + k)) + (∑ k ∈ Finset.range 2048, f (2048 * (1 - y) + k)) = ∑ k ∈ Finset.range 4096, f k := by
  have hs : ∑ k ∈ Finset.range 4096, f k = (∑ k ∈ Finset.range 2048, f k) + ∑ k ∈ Finset.range 2048, f (2048 + k) :=
    Finset.sum_range_add f 2048 2048
  rw [hs]
  obtain rfl | rfl : y = 0 ∨ y = 1 := by omega
  · simp
  · simp [add_comm]

/-- The own block of the result, in the whole arrays: the own columns, all rows. -/
theorem PMF_apply (h : Holds m X Y) (c : Dev nD) (i : (M2 1024 1024).Idx) :
    PMF m c i = ∑ k ∈ Finset.range 4096, term X Y (1024 * yc c + (i 0).val) (own c + (i 1).val) k := by
  have h0 := idx_zero_lt i
  have h1 := idx_one_lt i
  have hy := yc_lt c
  have hi : ix 1024 1024 (i 0).val (512 * ((i 1).val / 512) + (i 1).val % 512) = i := by rw [Nat.div_add_mod]; exact ix_self i
  have hm : (i 1).val % 512 < 512 := Nat.mod_lt _ (by norm_num)
  unfold PMF
  rw [pay4_apply]
  unfold cut
  rw [ix_zero _ _ h0, ix_one _ _ hm, hi]
  unfold YBF
  rw [PMP_apply h c i, PPF_apply h (nb c 1) i, own_nb, yc_nb, ← both_halves (fun k => term X Y (1024 * yc c + (i 0).val) (own c + (i 1).val) k) hy]
  have e : 1024 - 1024 * (1 - yc c) = 1024 * yc c := by omega
  rw [e]

theorem owner_yc : ∀ (c : Dev nD) (C : Fin 8), yc (owner c C.val) = yc c ∧ own (owner c C.val) = 1024 * C.val := by decide +kernel

/-- The result on device `c`: its rows of the reference's product. -/
theorem OUT_apply (h : Holds m X Y) (c : Dev nD) (i : (M2 1024 8192).Idx) :
    OUT m c i = refOut X Y (ix 2048 8192 (1024 * yc c + (i 0).val) (i 1).val) := by
  have h0 := idx_zero_lt i
  have h1 := idx_one_lt i
  have hy := yc_lt c
  obtain ⟨e1, e2⟩ := owner_yc c ⟨(i 1).val / 1024, by omega⟩
  dsimp only at e1 e2
  rw [refOut_apply, ix_zero _ _ (by omega), ix_one _ _ h1]
  unfold OUT
  rw [PMF_apply h, e1, e2, ix_zero _ _ h0, ix_one _ _ (Nat.mod_lt _ (by norm_num)), Nat.div_add_mod]

end Cert.KernelIdeal.Grad

end
-- ==== Proof.Blocks.lean ====
module

public import proofs.«01_k».proof.Proof.Product

/-!
# The blocks of the whole arrays

What the claim calls a device's block of a whole array, entry by entry; from it the equation of the result and the
reference's product.
-/

@[expose] public section

noncomputable section

namespace Cert.KernelIdeal.Grad

open Cert.KernelIdeal Cert.KernelIdeal.Gen
open Idealize.ShloMosaic
open Idealize.ShloMosaic.TcCoe
open Idealize.SL.Sem

/-- The rows of a device's block are those of its `y`. -/
theorem rows_of : ∀ c : Dev nD, Layout.meshLin [2, 2, 4] c.val [1] = yc c := by decide +kernel

/-- An entry of a device's block of an array cut along its rows. -/
theorem block_at {R R' W : ℕ} [NeZero R] [NeZero R'] [NeZero W] {α : Type} (c : Dev nD) (v : (M2 R' W).Idx → α) (hR : R' = 2 * R)
    (h : Layout.TilesN (M2 R W) (M2 R' W) (fun b => Layout.cutSize [2, 2, 4] ((![[1], []] : Fin 2 → List ℕ) b)))
    (hb : ∀ b : Fin 2, ∀ i ∈ (![[1], []] : Fin 2 → List ℕ) b, 0 < [2, 2, 4].getD i 0) (i : (M2 R W).Idx) :
    Layout.blockN (M2 R W) (M2 R' W) (Layout.meshBlock [2, 2, 4] ![[1], []] c hb) v h i
      = v (ix R' W (R * yc c + (i 0).val) (i 1).val) := by
  have h0 := idx_zero_lt i
  have h1 := idx_one_lt i
  have hy := yc_lt c
  have hlt : R * yc c + (i 0).val < R' := by
    have : R * yc c ≤ R * 1 := Nat.mul_le_mul_left _ (by omega)
    omega
  refine congrArg v (idx_ext ?_ ?_)
  · rw [ix_zero _ _ hlt]
    show Layout.meshLin [2, 2, 4] c.val [1] * R + (i 0).val = _
    rw [rows_of, Nat.mul_comm]
  · rw [ix_one _ _ h1]
    show 0 * W + (i 1).val = _
    omega

variable {m : (ℓ : Loc nD τ sig) → Buf (Elt Ideal) ℓ} {X : (M2 4096 2048).Idx → EReal} {Y : (M2 4096 8192).Idx → EReal}

/-- The claim's hypothesis on the memory, entry by entry. -/
theorem holds_of
    (h : ∀ c : Dev nD,
      m ((c.tc : Thread nD τ).loc main_arg0) = Layout.blockN ⟨2, ![2048, 2048]⟩ ⟨2, ![4096, 2048]⟩ (Layout.meshBlock [2, 2, 4] ![[1], []] c) X
      ∧ m ((c.tc : Thread nD τ).loc main_arg1) = Layout.blockN ⟨2, ![2048, 8192]⟩ ⟨2, ![4096, 8192]⟩ (Layout.meshBlock [2, 2, 4] ![[1], []] c) Y) :
    Holds m X Y := by
  intro c
  constructor
  · intro k r hk hr
    unfold XA
    rw [(h c).1]
    refine (block_at (R := 2048) (R' := 4096) (W := 2048) c X rfl _ _ _).trans ?_
    rw [ix_zero _ _ hk, ix_one _ _ hr]
  · intro k q hk hq
    unfold DYA
    rw [(h c).2]
    refine (block_at (R := 2048) (R' := 4096) (W := 8192) c Y rfl _ _ _).trans ?_
    rw [ix_zero _ _ hk, ix_one _ _ hq]

/-- The result on each device is its block of the reference's product. -/
theorem OUT_eq (h : Holds m X Y) (c : Dev nD) :
    OUT m c = Layout.blockN ⟨2, ![1024, 8192]⟩ ⟨2, ![2048, 8192]⟩ (Layout.meshBlock [2, 2, 4] ![[1], []] c) (refOut X Y) := by
  funext i
  refine (OUT_apply h c i).trans ?_
  exact (block_at (R := 1024) (R' := 2048) (W := 8192) c (refOut X Y) rfl _ _ i).symm

end Cert.KernelIdeal.Grad

end
-- ==== Proof.SameText.lean ====
module

public import proofs.«01_k».proof.Proof.Gen.Kernel
public import proofs.«01_k».proof.Proof.Gen.KernelIdeal

/-!
# The two programs have the same text

No operation is read differently over the extended reals, so the kernel and its reading there are the same program for
every kind of float values.
-/

@[expose] public section

set_option maxRecDepth 8192

noncomputable section

namespace Cert.KernelIdeal.Grad

open Idealize.ShloMosaic Idealize.SL.Sem

variable {F : FTy → Type} [FloatOps F]

/-- The bodies are the same. -/
theorem bodies_eq : Cert.Kernel.defs₀ (F := F) = Cert.KernelIdeal.defs₀ (F := F) := by
  funext p l a
  cases p
  · match l, a with
    | 0, (t, s) => rfl
  · rfl
  · rfl

/-- The body tables are the same. -/
theorem tables_eq : Cert.Kernel.defs (F := F) = Cert.KernelIdeal.defs (F := F) :=
  congrArg (Pipeline.defs (Cert.KernelIdeal.pcfgs (F := F))) bodies_eq

end Cert.KernelIdeal.Grad

end
-- ==== Proof.lean ====
/-
  The assembly of the claims: the run of the program on all devices (Proof/Run.lean), stated once for any float values, gives
  both frames of the kernel and, with the equation of Proof/Blocks.lean, its value against the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Blocks
public import proofs.«01_k».proof.Proof.SameText
public import Idealize.ShloMosaic.Adequacy
public import Idealize.ShloMosaic.Init

@[expose] public section

noncomputable section

namespace Cert.Proof

open Idealize.ShloMosaic Idealize.SL.Sem

/-- For any float values: the kernel runs, keeps its arguments and leaves every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩) (Cert.KernelIdeal.Grad.run_main m ρ)

/-- The kernel as it is, whose text is the same: it runs, keeps its arguments and leaves every counter at zero. -/
theorem frame_kernel : @Cert.quiescent_Kernel Cert.Kernel.Gen.facts := fun m ρ h =>
  (congrArg (fun D => θ_run D (onTc (τ := Cert.Kernel.τ) (Cert.Kernel.main (F := Bits))) ⟨m, fun _ => 0, ρ⟩
    (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)) (Cert.KernelIdeal.Grad.tables_eq (F := Bits))).mpr (frame_any (F := Bits) m ρ)

/-- The same of the kernel over the extended reals. -/
theorem frame_ideal : @Cert.quiescent_KernelIdeal Cert.KernelIdeal.Gen.facts := fun m ρ _ => frame_any (F := Ideal) m ρ

/-- The same of the reference. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems rfl r.2⟩)
    (Cert.ReferenceIdeal.Value.run (F := Ideal) m ρ)

/-- On every device the kernel's result is the device's block of the reference's product. -/
theorem value : @Cert.algebraic_KernelIdeal_ReferenceIdeal Cert.KernelIdeal.Gen.facts Cert.ReferenceIdeal.Gen.facts :=
  fun m ρ m' ρ' _ hm => by
  have hh := Cert.KernelIdeal.Grad.holds_of hm
  refine ⟨Cert.KernelIdeal.Grad.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨((h.1 c).2.2).trans (Cert.KernelIdeal.Grad.OUT_eq hh c), (h.1 c).1, (h.1 c).2.1⟩)
      (Cert.KernelIdeal.Grad.run_main (F := Ideal) m ρ)
  · exact (θ_run Cert.ReferenceIdeal.defs _ _).mono (fun _ h => ⟨(h 0).1, (h 0).2.1, (h 0).2.2⟩)
      (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, value⟩

end Cert.Proof

end
